-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ordered_rays [hPre_ordered_rays : Cert.Pre_ordered_rays.Facts] (m : (ℓ : Loc Cert.KernelIdeal.nD Cert.KernelIdeal.τ Cert.KernelIdeal.sig) → Buf (Elt Ideal) ℓ) : Prop :=
  ∀ c : Dev Cert.KernelIdeal.nD,
    (Cert.Pre_ordered_rays.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ordered_rays [hPre_ordered_rays : Cert.Pre_ordered_rays.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ordered_rays.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ordered_rays [hKernelIdeal : Cert.KernelIdeal.Facts] [hPre_ordered_rays : Cert.Pre_ordered_rays.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ordered_rays m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ordered_rays [hReferenceIdeal : Cert.ReferenceIdeal.Facts] [hPre_ordered_rays : Cert.Pre_ordered_rays.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ordered_rays m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ordered_rays [hKernelIdeal : Cert.KernelIdeal.Facts] [hReferenceIdeal : Cert.ReferenceIdeal.Facts] [hPre_ordered_rays : Cert.Pre_ordered_rays.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ordered_rays m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ordered_rays : Cert.Pre_ordered_rays.Facts),
    quiescent_Kernel (hKernel := hKernel)
    ∧ quiescent_KernelIdeal (hKernelIdeal := hKernelIdeal)
    ∧ quiescent_KernelIdeal_pre_ordered_rays (hKernelIdeal := hKernelIdeal) (hPre_ordered_rays := hPre_ordered_rays)
    ∧ quiescent_ReferenceIdeal (hReferenceIdeal := hReferenceIdeal)
    ∧ quiescent_ReferenceIdeal_pre_ordered_rays (hReferenceIdeal := hReferenceIdeal) (hPre_ordered_rays := hPre_ordered_rays)
    ∧ preserves_Kernel_KernelIdeal
    ∧ algebraic_KernelIdeal_ReferenceIdeal_pre_ordered_rays (hKernelIdeal := hKernelIdeal) (hReferenceIdeal := hReferenceIdeal) (hPre_ordered_rays := hPre_ordered_rays)
-- ==== Pre_ordered_rays.lean ====
abbrev S65536x8 : Shape := ⟨2, ![65536, 8]⟩
abbrev S65536x128 : Shape := ⟨2, ![65536, 128]⟩
abbrev S65536x1 : Shape := ⟨2, ![65536, 1]⟩
abbrev S65536 : Shape := ⟨1, ![65536]⟩
abbrev S_ : Shape := ⟨0, ![]⟩

class Facts : Prop where
  slices_S65536x8_S65536x1_0_6 : S65536x8.Slices ![0, 6] S65536x1
  shapeCasts_S65536x1_S65536 : S65536x1.ShapeCasts S65536
  slices_S65536x8_S65536x1_0_7 : S65536x8.Slices ![0, 7] S65536x1
  bcast_S_S65536 : S_.BroadcastsInDim S65536 (![] : Fin 0 → Fin S65536.rank)
  reducesTo_S65536_S_d0 : S65536.ReducesTo [0] S_
  h_S_ : 0 < S_.numel
  bcast_S_S65536x128 : S_.BroadcastsInDim S65536x128 (![] : Fin 0 → Fin S65536x128.rank)
  reducesTo_S65536x128_S_d0_1 : S65536x128.ReducesTo [0, 1] S_

variable [Facts]

def fn_part1 {F : FTy → Type} [FloatOps F] (main_v13 : IVec S_ 1) (main_v18 : IVec S65536x128 1) : IVec S_ 1 :=
  let main_c_3 : IVec S_ 1 := constantI S_ 1 1#1
  let main_v19 : IVec S_ 1 := (fun x v => Host.reduce IntOp.andi x v reducesTo_S65536x128_S_d0_1 h_S_) main_v18 main_c_3
  let main_v20 : IVec S_ 1 := andi main_v13 main_v19
  main_v20

def fn {F : FTy → Type} [FloatOps F] (main_arg0 : FVec F S65536x8 .f32) (main_arg1 : FVec F S65536x128 .f32) : IVec S_ 1 :=
  let main_v0 : FVec F S65536x1 .f32 := (extractStridedSlice S65536x1 ![0, 6] · slices_S65536x8_S65536x1_0_6) main_arg0
  let main_v1 : FVec F S65536 .f32 := shapeCast S65536 main_v0 shapeCasts_S65536x1_S65536
  let main_v2 : FVec F S65536x1 .f32 := (extractStridedSlice S65536x1 ![0, 7] · slices_S65536x8_S65536x1_0_7) main_arg0
  let main_v3 : FVec F S65536 .f32 := shapeCast S65536 main_v2 shapeCasts_S65536x1_S65536
  let main_v4 : FVec F S65536 .f32 := Host.absf main_v1
  let main_cst : FVec F S_ .f32 := constant S_ .f32 0x7F800000#32
  let main_v5 : FVec F S65536 .f32 := broadcastInDim S65536 ![] bcast_S_S65536 main_cst
  let main_v6 : IVec S65536 1 := cmpf .olt main_v4 main_v5
  let main_v7 : FVec F S65536 .f32 := Host.absf main_v3
  let main_cst_0 : FVec F S_ .f32 := constant S_ .f32 0x7F800000#32
  let main_v8 : FVec F S65536 .f32 := broadcastInDim S65536 ![] bcast_S_S65536 main_cst_0
  let main_v9 : IVec S65536 1 := cmpf .olt main_v7 main_v8
  let main_v10 : IVec S65536 1 := andi main_v6 main_v9
  let main_v11 : IVec S65536 1 := cmpf .ole main_v1 main_v3
  let main_v12 : IVec S65536 1 := andi main_v10 main_v11
  let main_c : IVec S_ 1 := constantI S_ 1 1#1
  let main_v13 : IVec S_ 1 := (fun x v => Host.reduce IntOp.andi x v reducesTo_S65536_S_d0 h_S_) main_v12 main_c
  let main_cst_1 : FVec F S_ .f32 := constant S_ .f32 0x00000000#32
  let main_v14 : FVec F S65536x128 .f32 := broadcastInDim S65536x128 ![] bcast_S_S65536x128 main_cst_1
  let main_v15 : IVec S65536x128 1 := cmpf .oge main_arg1 main_v14
  let main_cst_2 : FVec F S_ .f32 := constant S_ .f32 0x7F800000#32
  let main_v16 : FVec F S65536x128 .f32 := broadcastInDim S65536x128 ![] bcast_S_S65536x128 main_cst_2
  let main_v17 : IVec S65536x128 1 := cmpf .olt main_arg1 main_v16
  let main_v18 : IVec S65536x128 1 := andi main_v15 main_v17
  fn_part1 (F := F) main_v13 main_v18
-- ==== Kernel.lean ====
abbrev S65536x8 : Shape := ⟨2, ![65536, 8]⟩
abbrev S65536x128 : Shape := ⟨2, ![65536, 128]⟩
abbrev S65536x1 : Shape := ⟨2, ![65536, 1]⟩
abbrev S65536 : Shape := ⟨1, ![65536]⟩
abbrev S1x65536 : Shape := ⟨2, ![1, 65536]⟩
abbrev S_ : Shape := ⟨0, ![]⟩
abbrev S6x65536 : Shape := ⟨2, ![6, 65536]⟩
abbrev S8x65536 : Shape := ⟨2, ![8, 65536]⟩
abbrev S1 : Shape := ⟨1, ![1]⟩
abbrev S2 : Shape := ⟨1, ![2]⟩
abbrev S3 : Shape := ⟨1, ![3]⟩
abbrev S3x1 : Shape := ⟨2, ![3, 1]⟩
abbrev S3x2 : Shape := ⟨2, ![3, 2]⟩
abbrev S1x2 : Shape := ⟨2, ![1, 2]⟩
abbrev S1x1 : Shape := ⟨2, ![1, 1]⟩
abbrev S128x65536 : Shape := ⟨2, ![128, 65536]⟩
abbrev S65536x64 : Shape := ⟨2, ![65536, 64]⟩
abbrev S64x65536 : Shape := ⟨2, ![64, 65536]⟩
abbrev S192x65536 : Shape := ⟨2, ![192, 65536]⟩
abbrev S8x512 : Shape := ⟨2, ![8, 512]⟩
abbrev S512x128 : Shape := ⟨2, ![512, 128]⟩
abbrev S128x512 : Shape := ⟨2, ![128, 512]⟩
abbrev S64x512 : Shape := ⟨2, ![64, 512]⟩
abbrev S192x512 : Shape := ⟨2, ![192, 512]⟩
abbrev S128x128 : Shape := ⟨2, ![128, 128]⟩
abbrev S1x512 : Shape := ⟨2, ![1, 512]⟩
abbrev S63x512 : Shape := ⟨2, ![63, 512]⟩
abbrev S62x512 : Shape := ⟨2, ![62, 512]⟩
abbrev S2x512 : Shape := ⟨2, ![2, 512]⟩
abbrev S60x512 : Shape := ⟨2, ![60, 512]⟩
abbrev S4x512 : Shape := ⟨2, ![4, 512]⟩
abbrev S56x512 : Shape := ⟨2, ![56, 512]⟩
abbrev S48x512 : Shape := ⟨2, ![48, 512]⟩
abbrev S16x512 : Shape := ⟨2, ![16, 512]⟩
abbrev S32x512 : Shape := ⟨2, ![32, 512]⟩
abbrev S160x512 : Shape := ⟨2, ![160, 512]⟩
abbrev S176x512 : Shape := ⟨2, ![176, 512]⟩
abbrev S184x512 : Shape := ⟨2, ![184, 512]⟩
abbrev S188x512 : Shape := ⟨2, ![188, 512]⟩
abbrev S190x512 : Shape := ⟨2, ![190, 512]⟩
abbrev S191x512 : Shape := ⟨2, ![191, 512]⟩
abbrev S65536x192 : Shape := ⟨2, ![65536, 192]⟩

abbrev nBuf : Space → Nat
  | .hbm => 1065
  | .vmem => 12
  | .smem => 0
  | _ => 0

abbrev hbmTy0_0 (i : Nat) : BufTy := match i % 128 with
  | 0 => ⟨S65536x8, .f32⟩
  | 1 => ⟨S65536x128, .f32⟩
  | 2 => ⟨S65536x1, .f32⟩
  | 3 => ⟨S65536, .f32⟩
  | 4 => ⟨S1x65536, .f32⟩
  | 5 => ⟨S65536x1, .f32⟩
  | 6 => ⟨S65536, .f32⟩
  | 7 => ⟨S1x65536, .f32⟩
  | 8 => ⟨S1x65536, .f32⟩
  | 9 => ⟨S_, .f32⟩
  | 10 => ⟨S6x65536, .f32⟩
  | 11 => ⟨S8x65536, .f32⟩
  | 12 => ⟨S_, .i32⟩
  | 13 => ⟨S_, .i32⟩
  | 14 => ⟨S_, .i32⟩
  | 15 => ⟨S_, .i32⟩
  | 16 => ⟨S1, .i32⟩
  | 17 => ⟨S_, .i32⟩
  | 18 => ⟨S_, .i32⟩
  | 19 => ⟨S_, .i32⟩
  | 20 => ⟨S1, .i32⟩
  | 21 => ⟨S2, .i32⟩
  | 22 => ⟨S1, .i32⟩
  | 23 => ⟨S_, .i32⟩
  | 24 => ⟨S1, .i32⟩
  | 25 => ⟨S_, .i32⟩
  | 26 => ⟨S3, .i64⟩
  | 27 => ⟨S_, .i64⟩
  | 28 => ⟨S3, .i64⟩
  | 29 => ⟨S3, .i64⟩
  | 30 => ⟨S_, .i64⟩
  | 31 => ⟨S3, .i64⟩
  | 32 => ⟨S3, .i64⟩
  | 33 => ⟨S3, .i32⟩
  | 34 => ⟨S3, .i32⟩
  | 35 => ⟨S_, .i32⟩
  | 36 => ⟨S_, .i32⟩
  | 37 => ⟨S_, .i32⟩
  | 38 => ⟨S3, .i32⟩
  | 39 => ⟨S3, .i32⟩
  | 40 => ⟨S3, .i32⟩
  | 41 => ⟨S3, .i32⟩
  | 42 => ⟨S3, .i32⟩
  | 43 => ⟨S_, .i32⟩
  | 44 => ⟨S3, .i32⟩
  | 45 => ⟨S3, .i32⟩
  | 46 => ⟨S_, .i32⟩
  | 47 => ⟨S3, .i32⟩
  | 48 => ⟨S3, .i32⟩
  | 49 => ⟨S3, .i32⟩
  | 50 => ⟨S3, .i32⟩
  | 51 => ⟨S3, .i32⟩
  | 52 => ⟨S_, .i32⟩
  | 53 => ⟨S3, .i32⟩
  | 54 => ⟨S3, .i32⟩
  | 55 => ⟨S_, .i32⟩
  | 56 => ⟨S3, .i32⟩
  | 57 => ⟨S3, .i32⟩
  | 58 => ⟨S3, .i32⟩
  | 59 => ⟨S3, .i32⟩
  | 60 => ⟨S3, .i32⟩
  | 61 => ⟨S_, .i32⟩
  | 62 => ⟨S3, .i32⟩
  | 63 => ⟨S3, .i32⟩
  | 64 => ⟨S_, .i32⟩
  | 65 => ⟨S3, .i32⟩
  | 66 => ⟨S3, .i32⟩
  | 67 => ⟨S3, .i32⟩
  | 68 => ⟨S3, .i32⟩
  | 69 => ⟨S3, .i32⟩
  | 70 => ⟨S_, .i32⟩
  | 71 => ⟨S3, .i32⟩
  | 72 => ⟨S3, .i32⟩
  | 73 => ⟨S_, .i32⟩
  | 74 => ⟨S3, .i32⟩
  | 75 => ⟨S3, .i32⟩
  | 76 => ⟨S3, .i32⟩
  | 77 => ⟨S3, .i32⟩
  | 78 => ⟨S3, .i32⟩
  | 79 => ⟨S3, .i32⟩
  | 80 => ⟨S3, .i32⟩
  | 81 => ⟨S3, .i32⟩
  | 82 => ⟨S_, .i32⟩
  | 83 => ⟨S3, .i32⟩
  | 84 => ⟨S3, .i32⟩
  | 85 => ⟨S3, .i32⟩
  | 86 => ⟨S_, .i32⟩
  | 87 => ⟨S3, .i32⟩
  | 88 => ⟨S3, .i32⟩
  | 89 => ⟨S_, .i32⟩
  | 90 => ⟨S3, .i32⟩
  | 91 => ⟨S3, .i32⟩
  | 92 => ⟨S3, .i32⟩
  | 93 => ⟨S3, .i32⟩
  | 94 => ⟨S3, .i32⟩
  | 95 => ⟨S_, .i32⟩
  | 96 => ⟨S3, .i32⟩
  | 97 => ⟨S3, .i32⟩
  | 98 => ⟨S_, .i32⟩
  | 99 => ⟨S3, .i32⟩
  | 100 => ⟨S3, .i32⟩
  | 101 => ⟨S3, .i32⟩
  | 102 => ⟨S3, .i32⟩
  | 103 => ⟨S3, .i32⟩
  | 104 => ⟨S_, .i32⟩
  | 105 => ⟨S3, .i32⟩
  | 106 => ⟨S3, .i32⟩
  | 107 => ⟨S_, .i32⟩
  | 108 => ⟨S3, .i32⟩
  | 109 => ⟨S3, .i32⟩
  | 110 => ⟨S3, .i32⟩
  | 111 => ⟨S3, .i32⟩
  | 112 => ⟨S3, .i32⟩
  | 113 => ⟨S_, .i32⟩
  | 114 => ⟨S3, .i32⟩
  | 115 => ⟨S3, .i32⟩
  | 116 => ⟨S_, .i32⟩
  | 117 => ⟨S3, .i32⟩
  | 118 => ⟨S3, .i32⟩
  | 119 => ⟨S3, .i32⟩
  | 120 => ⟨S3, .i32⟩
  | 121 => ⟨S3, .i32⟩
  | 122 => ⟨S3, .i32⟩
  | 123 => ⟨S3, .i32⟩
  | 124 => ⟨S3, .i32⟩
  | 125 => ⟨S_, .i32⟩
  | 126 => ⟨S3, .i32⟩
  | 127 => ⟨S3, .i32⟩
  | _ => ⟨S65536x8, .f32⟩

abbrev hbmTy0_1 (i : Nat) : BufTy := match i % 128 with
  | 0 => ⟨S3, .i32⟩
  | 1 => ⟨S_, .i32⟩
  | 2 => ⟨S3, .i32⟩
  | 3 => ⟨S3, .i32⟩
  | 4 => ⟨S_, .i32⟩
  | 5 => ⟨S3, .i32⟩
  | 6 => ⟨S3, .i32⟩
  | 7 => ⟨S3, .i32⟩
  | 8 => ⟨S3, .i32⟩
  | 9 => ⟨S3, .i32⟩
  | 10 => ⟨S_, .i32⟩
  | 11 => ⟨S3, .i32⟩
  | 12 => ⟨S3, .i32⟩
  | 13 => ⟨S_, .i32⟩
  | 14 => ⟨S3, .i32⟩
  | 15 => ⟨S3, .i32⟩
  | 16 => ⟨S3, .i32⟩
  | 17 => ⟨S3, .i32⟩
  | 18 => ⟨S3, .i32⟩
  | 19 => ⟨S_, .i32⟩
  | 20 => ⟨S3, .i32⟩
  | 21 => ⟨S3, .i32⟩
  | 22 => ⟨S_, .i32⟩
  | 23 => ⟨S3, .i32⟩
  | 24 => ⟨S3, .i32⟩
  | 25 => ⟨S3, .i32⟩
  | 26 => ⟨S3, .i32⟩
  | 27 => ⟨S3, .i32⟩
  | 28 => ⟨S_, .i32⟩
  | 29 => ⟨S3, .i32⟩
  | 30 => ⟨S3, .i32⟩
  | 31 => ⟨S_, .i32⟩
  | 32 => ⟨S3, .i32⟩
  | 33 => ⟨S3, .i32⟩
  | 34 => ⟨S3, .i32⟩
  | 35 => ⟨S3, .i32⟩
  | 36 => ⟨S3, .i32⟩
  | 37 => ⟨S3, .i32⟩
  | 38 => ⟨S3, .i32⟩
  | 39 => ⟨S3, .i32⟩
  | 40 => ⟨S_, .i32⟩
  | 41 => ⟨S3, .i32⟩
  | 42 => ⟨S3, .i32⟩
  | 43 => ⟨S3, .i32⟩
  | 44 => ⟨S_, .i32⟩
  | 45 => ⟨S3, .i32⟩
  | 46 => ⟨S3, .i32⟩
  | 47 => ⟨S_, .i32⟩
  | 48 => ⟨S3, .i32⟩
  | 49 => ⟨S3, .i32⟩
  | 50 => ⟨S3, .i32⟩
  | 51 => ⟨S3, .i32⟩
  | 52 => ⟨S3, .i32⟩
  | 53 => ⟨S_, .i32⟩
  | 54 => ⟨S3, .i32⟩
  | 55 => ⟨S3, .i32⟩
  | 56 => ⟨S_, .i32⟩
  | 57 => ⟨S3, .i32⟩
  | 58 => ⟨S3, .i32⟩
  | 59 => ⟨S3, .i32⟩
  | 60 => ⟨S3, .i32⟩
  | 61 => ⟨S3, .i32⟩
  | 62 => ⟨S_, .i32⟩
  | 63 => ⟨S3, .i32⟩
  | 64 => ⟨S3, .i32⟩
  | 65 => ⟨S_, .i32⟩
  | 66 => ⟨S3, .i32⟩
  | 67 => ⟨S3, .i32⟩
  | 68 => ⟨S3, .i32⟩
  | 69 => ⟨S3, .i32⟩
  | 70 => ⟨S3, .i32⟩
  | 71 => ⟨S_, .i32⟩
  | 72 => ⟨S3, .i32⟩
  | 73 => ⟨S3, .i32⟩
  | 74 => ⟨S_, .i32⟩
  | 75 => ⟨S3, .i32⟩
  | 76 => ⟨S3, .i32⟩
  | 77 => ⟨S3, .i32⟩
  | 78 => ⟨S3, .i32⟩
  | 79 => ⟨S3, .i32⟩
  | 80 => ⟨S3, .i32⟩
  | 81 => ⟨S3, .i32⟩
  | 82 => ⟨S3, .i32⟩
  | 83 => ⟨S_, .i32⟩
  | 84 => ⟨S3, .i32⟩
  | 85 => ⟨S3, .i32⟩
  | 86 => ⟨S3, .i32⟩
  | 87 => ⟨S_, .i32⟩
  | 88 => ⟨S3, .i32⟩
  | 89 => ⟨S3, .i32⟩
  | 90 => ⟨S_, .i32⟩
  | 91 => ⟨S3, .i32⟩
  | 92 => ⟨S3, .i32⟩
  | 93 => ⟨S3, .i32⟩
  | 94 => ⟨S3, .i32⟩
  | 95 => ⟨S3, .i32⟩
  | 96 => ⟨S_, .i32⟩
  | 97 => ⟨S3, .i32⟩
  | 98 => ⟨S3, .i32⟩
  | 99 => ⟨S_, .i32⟩
  | 100 => ⟨S3, .i32⟩
  | 101 => ⟨S3, .i32⟩
  | 102 => ⟨S3, .i32⟩
  | 103 => ⟨S3, .i32⟩
  | 104 => ⟨S3, .i32⟩
  | 105 => ⟨S_, .i32⟩
  | 106 => ⟨S3, .i32⟩
  | 107 => ⟨S3, .i32⟩
  | 108 => ⟨S_, .i32⟩
  | 109 => ⟨S3, .i32⟩
  | 110 => ⟨S3, .i32⟩
  | 111 => ⟨S3, .i32⟩
  | 112 => ⟨S3, .i32⟩
  | 113 => ⟨S3, .i32⟩
  | 114 => ⟨S_, .i32⟩
  | 115 => ⟨S3, .i32⟩
  | 116 => ⟨S3, .i32⟩
  | 117 => ⟨S_, .i32⟩
  | 118 => ⟨S3, .i32⟩
  | 119 => ⟨S3, .i32⟩
  | 120 => ⟨S3, .i32⟩
  | 121 => ⟨S3, .i32⟩
  | 122 => ⟨S3, .i32⟩
  | 123 => ⟨S3, .i32⟩
  | 124 => ⟨S3, .i32⟩
  | 125 => ⟨S3, .i32⟩
  | 126 => ⟨S_, .i32⟩
  | 127 => ⟨S3, .i32⟩
  | _ => ⟨S65536x8, .f32⟩

abbrev hbmTy0_2 (i : Nat) : BufTy := match i % 128 with
  | 0 => ⟨S3, .i32⟩
  | 1 => ⟨S3x1, .i32⟩
  | 2 => ⟨S3x1, .i32⟩
  | 3 => ⟨S3x2, .i32⟩
  | 4 => ⟨S1x2, .i32⟩
  | 5 => ⟨S2, .i32⟩
  | 6 => ⟨S1x2, .i32⟩
  | 7 => ⟨S2, .i32⟩
  | 8 => ⟨S1x2, .i32⟩
  | 9 => ⟨S2, .i32⟩
  | 10 => ⟨S_, .f32⟩
  | 11 => ⟨S_, .f32⟩
  | 12 => ⟨S_, .f32⟩
  | 13 => ⟨S_, .f32⟩
  | 14 => ⟨S1x1, .f32⟩
  | 15 => ⟨S1x1, .f32⟩
  | 16 => ⟨S1, .i32⟩
  | 17 => ⟨S_, .i32⟩
  | 18 => ⟨S1, .i32⟩
  | 19 => ⟨S_, .i32⟩
  | 20 => ⟨S65536x128, .i64⟩
  | 21 => ⟨S65536x128, .i64⟩
  | 22 => ⟨S_, .i64⟩
  | 23 => ⟨S65536x128, .i64⟩
  | 24 => ⟨S65536x128, .i64⟩
  | 25 => ⟨S_, .i64⟩
  | 26 => ⟨S65536x128, .i64⟩
  | 27 => ⟨S65536x128, .i64⟩
  | 28 => ⟨S65536x128, .i64⟩
  | 29 => ⟨S_, .i64⟩
  | 30 => ⟨S65536x128, .i64⟩
  | 31 => ⟨S65536x128, .i64⟩
  | 32 => ⟨S65536x128, .i32⟩
  | 33 => ⟨S65536x128, .i32⟩
  | 34 => ⟨S_, .i32⟩
  | 35 => ⟨S_, .i32⟩
  | 36 => ⟨S_, .i32⟩
  | 37 => ⟨S65536x128, .i32⟩
  | 38 => ⟨S65536x128, .i32⟩
  | 39 => ⟨S65536x128, .i32⟩
  | 40 => ⟨S65536x128, .i32⟩
  | 41 => ⟨S65536x128, .i32⟩
  | 42 => ⟨S_, .i32⟩
  | 43 => ⟨S65536x128, .i32⟩
  | 44 => ⟨S65536x128, .i32⟩
  | 45 => ⟨S_, .i32⟩
  | 46 => ⟨S65536x128, .i32⟩
  | 47 => ⟨S65536x128, .i32⟩
  | 48 => ⟨S65536x128, .i32⟩
  | 49 => ⟨S65536x128, .i32⟩
  | 50 => ⟨S65536x128, .i32⟩
  | 51 => ⟨S_, .i32⟩
  | 52 => ⟨S65536x128, .i32⟩
  | 53 => ⟨S65536x128, .i32⟩
  | 54 => ⟨S_, .i32⟩
  | 55 => ⟨S65536x128, .i32⟩
  | 56 => ⟨S65536x128, .i32⟩
  | 57 => ⟨S65536x128, .i32⟩
  | 58 => ⟨S65536x128, .i32⟩
  | 59 => ⟨S65536x128, .i32⟩
  | 60 => ⟨S_, .i32⟩
  | 61 => ⟨S65536x128, .i32⟩
  | 62 => ⟨S65536x128, .i32⟩
  | 63 => ⟨S_, .i32⟩
  | 64 => ⟨S65536x128, .i32⟩
  | 65 => ⟨S65536x128, .i32⟩
  | 66 => ⟨S65536x128, .i32⟩
  | 67 => ⟨S65536x128, .i32⟩
  | 68 => ⟨S65536x128, .i32⟩
  | 69 => ⟨S_, .i32⟩
  | 70 => ⟨S65536x128, .i32⟩
  | 71 => ⟨S65536x128, .i32⟩
  | 72 => ⟨S_, .i32⟩
  | 73 => ⟨S65536x128, .i32⟩
  | 74 => ⟨S65536x128, .i32⟩
  | 75 => ⟨S65536x128, .i32⟩
  | 76 => ⟨S65536x128, .i32⟩
  | 77 => ⟨S65536x128, .i32⟩
  | 78 => ⟨S65536x128, .i32⟩
  | 79 => ⟨S65536x128, .i32⟩
  | 80 => ⟨S65536x128, .i32⟩
  | 81 => ⟨S_, .i32⟩
  | 82 => ⟨S65536x128, .i32⟩
  | 83 => ⟨S65536x128, .i32⟩
  | 84 => ⟨S65536x128, .i32⟩
  | 85 => ⟨S_, .i32⟩
  | 86 => ⟨S65536x128, .i32⟩
  | 87 => ⟨S65536x128, .i32⟩
  | 88 => ⟨S_, .i32⟩
  | 89 => ⟨S65536x128, .i32⟩
  | 90 => ⟨S65536x128, .i32⟩
  | 91 => ⟨S65536x128, .i32⟩
  | 92 => ⟨S65536x128, .i32⟩
  | 93 => ⟨S65536x128, .i32⟩
  | 94 => ⟨S_, .i32⟩
  | 95 => ⟨S65536x128, .i32⟩
  | 96 => ⟨S65536x128, .i32⟩
  | 97 => ⟨S_, .i32⟩
  | 98 => ⟨S65536x128, .i32⟩
  | 99 => ⟨S65536x128, .i32⟩
  | 100 => ⟨S65536x128, .i32⟩
  | 101 => ⟨S65536x128, .i32⟩
  | 102 => ⟨S65536x128, .i32⟩
  | 103 => ⟨S_, .i32⟩
  | 104 => ⟨S65536x128, .i32⟩
  | 105 => ⟨S65536x128, .i32⟩
  | 106 => ⟨S_, .i32⟩
  | 107 => ⟨S65536x128, .i32⟩
  | 108 => ⟨S65536x128, .i32⟩
  | 109 => ⟨S65536x128, .i32⟩
  | 110 => ⟨S65536x128, .i32⟩
  | 111 => ⟨S65536x128, .i32⟩
  | 112 => ⟨S_, .i32⟩
  | 113 => ⟨S65536x128, .i32⟩
  | 114 => ⟨S65536x128, .i32⟩
  | 115 => ⟨S_, .i32⟩
  | 116 => ⟨S65536x128, .i32⟩
  | 117 => ⟨S65536x128, .i32⟩
  | 118 => ⟨S65536x128, .i32⟩
  | 119 => ⟨S65536x128, .i32⟩
  | 120 => ⟨S65536x128, .i32⟩
  | 121 => ⟨S65536x128, .i32⟩
  | 122 => ⟨S65536x128, .i32⟩
  | 123 => ⟨S65536x128, .i32⟩
  | 124 => ⟨S_, .i32⟩
  | 125 => ⟨S65536x128, .i32⟩
  | 126 => ⟨S65536x128, .i32⟩
  | 127 => ⟨S65536x128, .i32⟩
  | _ => ⟨S65536x8, .f32⟩

abbrev hbmTy0_3 (i : Nat) : BufTy := match i % 128 with
  | 0 => ⟨S_, .i32⟩
  | 1 => ⟨S65536x128, .i32⟩
  | 2 => ⟨S65536x128, .i32⟩
  | 3 => ⟨S_, .i32⟩
  | 4 => ⟨S65536x128, .i32⟩
  | 5 => ⟨S65536x128, .i32⟩
  | 6 => ⟨S65536x128, .i32⟩
  | 7 => ⟨S65536x128, .i32⟩
  | 8 => ⟨S65536x128, .i32⟩
  | 9 => ⟨S_, .i32⟩
  | 10 => ⟨S65536x128, .i32⟩
  | 11 => ⟨S65536x128, .i32⟩
  | 12 => ⟨S_, .i32⟩
  | 13 => ⟨S65536x128, .i32⟩
  | 14 => ⟨S65536x128, .i32⟩
  | 15 => ⟨S65536x128, .i32⟩
  | 16 => ⟨S65536x128, .i32⟩
  | 17 => ⟨S65536x128, .i32⟩
  | 18 => ⟨S_, .i32⟩
  | 19 => ⟨S65536x128, .i32⟩
  | 20 => ⟨S65536x128, .i32⟩
  | 21 => ⟨S_, .i32⟩
  | 22 => ⟨S65536x128, .i32⟩
  | 23 => ⟨S65536x128, .i32⟩
  | 24 => ⟨S65536x128, .i32⟩
  | 25 => ⟨S65536x128, .i32⟩
  | 26 => ⟨S65536x128, .i32⟩
  | 27 => ⟨S_, .i32⟩
  | 28 => ⟨S65536x128, .i32⟩
  | 29 => ⟨S65536x128, .i32⟩
  | 30 => ⟨S_, .i32⟩
  | 31 => ⟨S65536x128, .i32⟩
  | 32 => ⟨S65536x128, .i32⟩
  | 33 => ⟨S65536x128, .i32⟩
  | 34 => ⟨S65536x128, .i32⟩
  | 35 => ⟨S65536x128, .i32⟩
  | 36 => ⟨S65536x128, .i32⟩
  | 37 => ⟨S65536x128, .i32⟩
  | 38 => ⟨S65536x128, .i32⟩
  | 39 => ⟨S_, .i32⟩
  | 40 => ⟨S65536x128, .i32⟩
  | 41 => ⟨S65536x128, .i32⟩
  | 42 => ⟨S65536x128, .i32⟩
  | 43 => ⟨S_, .i32⟩
  | 44 => ⟨S65536x128, .i32⟩
  | 45 => ⟨S65536x128, .i32⟩
  | 46 => ⟨S_, .i32⟩
  | 47 => ⟨S65536x128, .i32⟩
  | 48 => ⟨S65536x128, .i32⟩
  | 49 => ⟨S65536x128, .i32⟩
  | 50 => ⟨S65536x128, .i32⟩
  | 51 => ⟨S65536x128, .i32⟩
  | 52 => ⟨S_, .i32⟩
  | 53 => ⟨S65536x128, .i32⟩
  | 54 => ⟨S65536x128, .i32⟩
  | 55 => ⟨S_, .i32⟩
  | 56 => ⟨S65536x128, .i32⟩
  | 57 => ⟨S65536x128, .i32⟩
  | 58 => ⟨S65536x128, .i32⟩
  | 59 => ⟨S65536x128, .i32⟩
  | 60 => ⟨S65536x128, .i32⟩
  | 61 => ⟨S_, .i32⟩
  | 62 => ⟨S65536x128, .i32⟩
  | 63 => ⟨S65536x128, .i32⟩
  | 64 => ⟨S_, .i32⟩
  | 65 => ⟨S65536x128, .i32⟩
  | 66 => ⟨S65536x128, .i32⟩
  | 67 => ⟨S65536x128, .i32⟩
  | 68 => ⟨S65536x128, .i32⟩
  | 69 => ⟨S65536x128, .i32⟩
  | 70 => ⟨S_, .i32⟩
  | 71 => ⟨S65536x128, .i32⟩
  | 72 => ⟨S65536x128, .i32⟩
  | 73 => ⟨S_, .i32⟩
  | 74 => ⟨S65536x128, .i32⟩
  | 75 => ⟨S65536x128, .i32⟩
  | 76 => ⟨S65536x128, .i32⟩
  | 77 => ⟨S65536x128, .i32⟩
  | 78 => ⟨S65536x128, .i32⟩
  | 79 => ⟨S65536x128, .i32⟩
  | 80 => ⟨S65536x128, .i32⟩
  | 81 => ⟨S65536x128, .i32⟩
  | 82 => ⟨S_, .i32⟩
  | 83 => ⟨S65536x128, .i32⟩
  | 84 => ⟨S65536x128, .i32⟩
  | 85 => ⟨S65536x128, .i32⟩
  | 86 => ⟨S_, .i32⟩
  | 87 => ⟨S65536x128, .i32⟩
  | 88 => ⟨S65536x128, .i32⟩
  | 89 => ⟨S_, .i32⟩
  | 90 => ⟨S65536x128, .i32⟩
  | 91 => ⟨S65536x128, .i32⟩
  | 92 => ⟨S65536x128, .i32⟩
  | 93 => ⟨S65536x128, .i32⟩
  | 94 => ⟨S65536x128, .i32⟩
  | 95 => ⟨S_, .i32⟩
  | 96 => ⟨S65536x128, .i32⟩
  | 97 => ⟨S65536x128, .i32⟩
  | 98 => ⟨S_, .i32⟩
  | 99 => ⟨S65536x128, .i32⟩
  | 100 => ⟨S65536x128, .i32⟩
  | 101 => ⟨S65536x128, .i32⟩
  | 102 => ⟨S65536x128, .i32⟩
  | 103 => ⟨S65536x128, .i32⟩
  | 104 => ⟨S_, .i32⟩
  | 105 => ⟨S65536x128, .i32⟩
  | 106 => ⟨S65536x128, .i32⟩
  | 107 => ⟨S_, .i32⟩
  | 108 => ⟨S65536x128, .i32⟩
  | 109 => ⟨S65536x128, .i32⟩
  | 110 => ⟨S65536x128, .i32⟩
  | 111 => ⟨S65536x128, .i32⟩
  | 112 => ⟨S65536x128, .i32⟩
  | 113 => ⟨S_, .i32⟩
  | 114 => ⟨S65536x128, .i32⟩
  | 115 => ⟨S65536x128, .i32⟩
  | 116 => ⟨S_, .i32⟩
  | 117 => ⟨S65536x128, .i32⟩
  | 118 => ⟨S65536x128, .i32⟩
  | 119 => ⟨S65536x128, .i32⟩
  | 120 => ⟨S65536x128, .i32⟩
  | 121 => ⟨S65536x128, .i32⟩
  | 122 => ⟨S65536x128, .i32⟩
  | 123 => ⟨S65536x128, .i32⟩
  | 124 => ⟨S65536x128, .i32⟩
  | 125 => ⟨S_, .i32⟩
  | 126 => ⟨S65536x128, .i32⟩
  | 127 => ⟨S65536x128, .i32⟩
  | _ => ⟨S65536x8, .f32⟩

abbrev hbmTy0_4 (i : Nat) : BufTy := match i % 128 with
  | 0 => ⟨S65536x128, .i32⟩
  | 1 => ⟨S_, .i32⟩
  | 2 => ⟨S65536x128, .i32⟩
  | 3 => ⟨S65536x128, .i32⟩
  | 4 => ⟨S_, .i32⟩
  | 5 => ⟨S65536x128, .i32⟩
  | 6 => ⟨S65536x128, .i32⟩
  | 7 => ⟨S65536x128, .f32⟩
  | 8 => ⟨S_, .f32⟩
  | 9 => ⟨S65536x128, .f32⟩
  | 10 => ⟨S65536x128, .f32⟩
  | 11 => ⟨S1x1, .f32⟩
  | 12 => ⟨S65536x128, .f32⟩
  | 13 => ⟨S65536x128, .f32⟩
  | 14 => ⟨S65536x128, .f32⟩
  | 15 => ⟨S65536x128, .f32⟩
  | 16 => ⟨S65536x128, .f32⟩
  | 17 => ⟨S65536x128, .f32⟩
  | 18 => ⟨S128x65536, .f32⟩
  | 19 => ⟨S_, .f32⟩
  | 20 => ⟨S_, .f32⟩
  | 21 => ⟨S_, .f32⟩
  | 22 => ⟨S_, .f32⟩
  | 23 => ⟨S1x1, .f32⟩
  | 24 => ⟨S1x1, .f32⟩
  | 25 => ⟨S1, .i32⟩
  | 26 => ⟨S_, .i32⟩
  | 27 => ⟨S1, .i32⟩
  | 28 => ⟨S_, .i32⟩
  | 29 => ⟨S65536x64, .i64⟩
  | 30 => ⟨S65536x64, .i64⟩
  | 31 => ⟨S_, .i64⟩
  | 32 => ⟨S65536x64, .i64⟩
  | 33 => ⟨S65536x64, .i64⟩
  | 34 => ⟨S_, .i64⟩
  | 35 => ⟨S65536x64, .i64⟩
  | 36 => ⟨S65536x64, .i64⟩
  | 37 => ⟨S65536x64, .i64⟩
  | 38 => ⟨S_, .i64⟩
  | 39 => ⟨S65536x64, .i64⟩
  | 40 => ⟨S65536x64, .i64⟩
  | 41 => ⟨S65536x64, .i32⟩
  | 42 => ⟨S65536x64, .i32⟩
  | 43 => ⟨S_, .i32⟩
  | 44 => ⟨S_, .i32⟩
  | 45 => ⟨S_, .i32⟩
  | 46 => ⟨S65536x64, .i32⟩
  | 47 => ⟨S65536x64, .i32⟩
  | 48 => ⟨S65536x64, .i32⟩
  | 49 => ⟨S65536x64, .i32⟩
  | 50 => ⟨S65536x64, .i32⟩
  | 51 => ⟨S_, .i32⟩
  | 52 => ⟨S65536x64, .i32⟩
  | 53 => ⟨S65536x64, .i32⟩
  | 54 => ⟨S_, .i32⟩
  | 55 => ⟨S65536x64, .i32⟩
  | 56 => ⟨S65536x64, .i32⟩
  | 57 => ⟨S65536x64, .i32⟩
  | 58 => ⟨S65536x64, .i32⟩
  | 59 => ⟨S65536x64, .i32⟩
  | 60 => ⟨S_, .i32⟩
  | 61 => ⟨S65536x64, .i32⟩
  | 62 => ⟨S65536x64, .i32⟩
  | 63 => ⟨S_, .i32⟩
  | 64 => ⟨S65536x64, .i32⟩
  | 65 => ⟨S65536x64, .i32⟩
  | 66 => ⟨S65536x64, .i32⟩
  | 67 => ⟨S65536x64, .i32⟩
  | 68 => ⟨S65536x64, .i32⟩
  | 69 => ⟨S_, .i32⟩
  | 70 => ⟨S65536x64, .i32⟩
  | 71 => ⟨S65536x64, .i32⟩
  | 72 => ⟨S_, .i32⟩
  | 73 => ⟨S65536x64, .i32⟩
  | 74 => ⟨S65536x64, .i32⟩
  | 75 => ⟨S65536x64, .i32⟩
  | 76 => ⟨S65536x64, .i32⟩
  | 77 => ⟨S65536x64, .i32⟩
  | 78 => ⟨S_, .i32⟩
  | 79 => ⟨S65536x64, .i32⟩
  | 80 => ⟨S65536x64, .i32⟩
  | 81 => ⟨S_, .i32⟩
  | 82 => ⟨S65536x64, .i32⟩
  | 83 => ⟨S65536x64, .i32⟩
  | 84 => ⟨S65536x64, .i32⟩
  | 85 => ⟨S65536x64, .i32⟩
  | 86 => ⟨S65536x64, .i32⟩
  | 87 => ⟨S65536x64, .i32⟩
  | 88 => ⟨S65536x64, .i32⟩
  | 89 => ⟨S65536x64, .i32⟩
  | 90 => ⟨S_, .i32⟩
  | 91 => ⟨S65536x64, .i32⟩
  | 92 => ⟨S65536x64, .i32⟩
  | 93 => ⟨S65536x64, .i32⟩
  | 94 => ⟨S_, .i32⟩
  | 95 => ⟨S65536x64, .i32⟩
  | 96 => ⟨S65536x64, .i32⟩
  | 97 => ⟨S_, .i32⟩
  | 98 => ⟨S65536x64, .i32⟩
  | 99 => ⟨S65536x64, .i32⟩
  | 100 => ⟨S65536x64, .i32⟩
  | 101 => ⟨S65536x64, .i32⟩
  | 102 => ⟨S65536x64, .i32⟩
  | 103 => ⟨S_, .i32⟩
  | 104 => ⟨S65536x64, .i32⟩
  | 105 => ⟨S65536x64, .i32⟩
  | 106 => ⟨S_, .i32⟩
  | 107 => ⟨S65536x64, .i32⟩
  | 108 => ⟨S65536x64, .i32⟩
  | 109 => ⟨S65536x64, .i32⟩
  | 110 => ⟨S65536x64, .i32⟩
  | 111 => ⟨S65536x64, .i32⟩
  | 112 => ⟨S_, .i32⟩
  | 113 => ⟨S65536x64, .i32⟩
  | 114 => ⟨S65536x64, .i32⟩
  | 115 => ⟨S_, .i32⟩
  | 116 => ⟨S65536x64, .i32⟩
  | 117 => ⟨S65536x64, .i32⟩
  | 118 => ⟨S65536x64, .i32⟩
  | 119 => ⟨S65536x64, .i32⟩
  | 120 => ⟨S65536x64, .i32⟩
  | 121 => ⟨S_, .i32⟩
  | 122 => ⟨S65536x64, .i32⟩
  | 123 => ⟨S65536x64, .i32⟩
  | 124 => ⟨S_, .i32⟩
  | 125 => ⟨S65536x64, .i32⟩
  | 126 => ⟨S65536x64, .i32⟩
  | 127 => ⟨S65536x64, .i32⟩
  | _ => ⟨S65536x8, .f32⟩

abbrev hbmTy0_5 (i : Nat) : BufTy := match i % 128 with
  | 0 => ⟨S65536x64, .i32⟩
  | 1 => ⟨S65536x64, .i32⟩
  | 2 => ⟨S65536x64, .i32⟩
  | 3 => ⟨S65536x64, .i32⟩
  | 4 => ⟨S65536x64, .i32⟩
  | 5 => ⟨S_, .i32⟩
  | 6 => ⟨S65536x64, .i32⟩
  | 7 => ⟨S65536x64, .i32⟩
  | 8 => ⟨S65536x64, .i32⟩
  | 9 => ⟨S_, .i32⟩
  | 10 => ⟨S65536x64, .i32⟩
  | 11 => ⟨S65536x64, .i32⟩
  | 12 => ⟨S_, .i32⟩
  | 13 => ⟨S65536x64, .i32⟩
  | 14 => ⟨S65536x64, .i32⟩
  | 15 => ⟨S65536x64, .i32⟩
  | 16 => ⟨S65536x64, .i32⟩
  | 17 => ⟨S65536x64, .i32⟩
  | 18 => ⟨S_, .i32⟩
  | 19 => ⟨S65536x64, .i32⟩
  | 20 => ⟨S65536x64, .i32⟩
  | 21 => ⟨S_, .i32⟩
  | 22 => ⟨S65536x64, .i32⟩
  | 23 => ⟨S65536x64, .i32⟩
  | 24 => ⟨S65536x64, .i32⟩
  | 25 => ⟨S65536x64, .i32⟩
  | 26 => ⟨S65536x64, .i32⟩
  | 27 => ⟨S_, .i32⟩
  | 28 => ⟨S65536x64, .i32⟩
  | 29 => ⟨S65536x64, .i32⟩
  | 30 => ⟨S_, .i32⟩
  | 31 => ⟨S65536x64, .i32⟩
  | 32 => ⟨S65536x64, .i32⟩
  | 33 => ⟨S65536x64, .i32⟩
  | 34 => ⟨S65536x64, .i32⟩
  | 35 => ⟨S65536x64, .i32⟩
  | 36 => ⟨S_, .i32⟩
  | 37 => ⟨S65536x64, .i32⟩
  | 38 => ⟨S65536x64, .i32⟩
  | 39 => ⟨S_, .i32⟩
  | 40 => ⟨S65536x64, .i32⟩
  | 41 => ⟨S65536x64, .i32⟩
  | 42 => ⟨S65536x64, .i32⟩
  | 43 => ⟨S65536x64, .i32⟩
  | 44 => ⟨S65536x64, .i32⟩
  | 45 => ⟨S65536x64, .i32⟩
  | 46 => ⟨S65536x64, .i32⟩
  | 47 => ⟨S65536x64, .i32⟩
  | 48 => ⟨S_, .i32⟩
  | 49 => ⟨S65536x64, .i32⟩
  | 50 => ⟨S65536x64, .i32⟩
  | 51 => ⟨S65536x64, .i32⟩
  | 52 => ⟨S_, .i32⟩
  | 53 => ⟨S65536x64, .i32⟩
  | 54 => ⟨S65536x64, .i32⟩
  | 55 => ⟨S_, .i32⟩
  | 56 => ⟨S65536x64, .i32⟩
  | 57 => ⟨S65536x64, .i32⟩
  | 58 => ⟨S65536x64, .i32⟩
  | 59 => ⟨S65536x64, .i32⟩
  | 60 => ⟨S65536x64, .i32⟩
  | 61 => ⟨S_, .i32⟩
  | 62 => ⟨S65536x64, .i32⟩
  | 63 => ⟨S65536x64, .i32⟩
  | 64 => ⟨S_, .i32⟩
  | 65 => ⟨S65536x64, .i32⟩
  | 66 => ⟨S65536x64, .i32⟩
  | 67 => ⟨S65536x64, .i32⟩
  | 68 => ⟨S65536x64, .i32⟩
  | 69 => ⟨S65536x64, .i32⟩
  | 70 => ⟨S_, .i32⟩
  | 71 => ⟨S65536x64, .i32⟩
  | 72 => ⟨S65536x64, .i32⟩
  | 73 => ⟨S_, .i32⟩
  | 74 => ⟨S65536x64, .i32⟩
  | 75 => ⟨S65536x64, .i32⟩
  | 76 => ⟨S65536x64, .i32⟩
  | 77 => ⟨S65536x64, .i32⟩
  | 78 => ⟨S65536x64, .i32⟩
  | 79 => ⟨S_, .i32⟩
  | 80 => ⟨S65536x64, .i32⟩
  | 81 => ⟨S65536x64, .i32⟩
  | 82 => ⟨S_, .i32⟩
  | 83 => ⟨S65536x64, .i32⟩
  | 84 => ⟨S65536x64, .i32⟩
  | 85 => ⟨S65536x64, .i32⟩
  | 86 => ⟨S65536x64, .i32⟩
  | 87 => ⟨S65536x64, .i32⟩
  | 88 => ⟨S65536x64, .i32⟩
  | 89 => ⟨S65536x64, .i32⟩
  | 90 => ⟨S65536x64, .i32⟩
  | 91 => ⟨S_, .i32⟩
  | 92 => ⟨S65536x64, .i32⟩
  | 93 => ⟨S65536x64, .i32⟩
  | 94 => ⟨S65536x64, .i32⟩
  | 95 => ⟨S_, .i32⟩
  | 96 => ⟨S65536x64, .i32⟩
  | 97 => ⟨S65536x64, .i32⟩
  | 98 => ⟨S_, .i32⟩
  | 99 => ⟨S65536x64, .i32⟩
  | 100 => ⟨S65536x64, .i32⟩
  | 101 => ⟨S65536x64, .i32⟩
  | 102 => ⟨S65536x64, .i32⟩
  | 103 => ⟨S65536x64, .i32⟩
  | 104 => ⟨S_, .i32⟩
  | 105 => ⟨S65536x64, .i32⟩
  | 106 => ⟨S65536x64, .i32⟩
  | 107 => ⟨S_, .i32⟩
  | 108 => ⟨S65536x64, .i32⟩
  | 109 => ⟨S65536x64, .i32⟩
  | 110 => ⟨S65536x64, .i32⟩
  | 111 => ⟨S65536x64, .i32⟩
  | 112 => ⟨S65536x64, .i32⟩
  | 113 => ⟨S_, .i32⟩
  | 114 => ⟨S65536x64, .i32⟩
  | 115 => ⟨S65536x64, .i32⟩
  | 116 => ⟨S_, .i32⟩
  | 117 => ⟨S65536x64, .i32⟩
  | 118 => ⟨S65536x64, .i32⟩
  | 119 => ⟨S65536x64, .i32⟩
  | 120 => ⟨S65536x64, .i32⟩
  | 121 => ⟨S65536x64, .i32⟩
  | 122 => ⟨S_, .i32⟩
  | 123 => ⟨S65536x64, .i32⟩
  | 124 => ⟨S65536x64, .i32⟩
  | 125 => ⟨S_, .i32⟩
  | 126 => ⟨S65536x64, .i32⟩
  | 127 => ⟨S65536x64, .i32⟩
  | _ => ⟨S65536x8, .f32⟩

abbrev hbmTy0_6 (i : Nat) : BufTy := match i % 128 with
  | 0 => ⟨S65536x64, .i32⟩
  | 1 => ⟨S65536x64, .i32⟩
  | 2 => ⟨S65536x64, .i32⟩
  | 3 => ⟨S65536x64, .i32⟩
  | 4 => ⟨S65536x64, .i32⟩
  | 5 => ⟨S65536x64, .i32⟩
  | 6 => ⟨S_, .i32⟩
  | 7 => ⟨S65536x64, .i32⟩
  | 8 => ⟨S65536x64, .i32⟩
  | 9 => ⟨S65536x64, .i32⟩
  | 10 => ⟨S_, .i32⟩
  | 11 => ⟨S65536x64, .i32⟩
  | 12 => ⟨S65536x64, .i32⟩
  | 13 => ⟨S_, .i32⟩
  | 14 => ⟨S65536x64, .i32⟩
  | 15 => ⟨S65536x64, .i32⟩
  | 16 => ⟨S65536x64, .f32⟩
  | 17 => ⟨S_, .f32⟩
  | 18 => ⟨S65536x64, .f32⟩
  | 19 => ⟨S65536x64, .f32⟩
  | 20 => ⟨S1x1, .f32⟩
  | 21 => ⟨S65536x64, .f32⟩
  | 22 => ⟨S65536x64, .f32⟩
  | 23 => ⟨S65536x64, .f32⟩
  | 24 => ⟨S65536x64, .f32⟩
  | 25 => ⟨S65536x64, .f32⟩
  | 26 => ⟨S65536x64, .f32⟩
  | 27 => ⟨S64x65536, .f32⟩
  | 28 => ⟨S_, .f32⟩
  | 29 => ⟨S_, .f32⟩
  | 30 => ⟨S_, .f32⟩
  | 31 => ⟨S_, .f32⟩
  | 32 => ⟨S1x1, .f32⟩
  | 33 => ⟨S1x1, .f32⟩
  | 34 => ⟨S1, .i32⟩
  | 35 => ⟨S_, .i32⟩
  | 36 => ⟨S1, .i32⟩
  | 37 => ⟨S_, .i32⟩
  | 38 => ⟨S65536x64, .i64⟩
  | 39 => ⟨S65536x64, .i64⟩
  | 40 => ⟨S_, .i64⟩
  | 41 => ⟨S65536x64, .i64⟩
  | 42 => ⟨S65536x64, .i64⟩
  | 43 => ⟨S_, .i64⟩
  | 44 => ⟨S65536x64, .i64⟩
  | 45 => ⟨S65536x64, .i64⟩
  | 46 => ⟨S65536x64, .i64⟩
  | 47 => ⟨S_, .i64⟩
  | 48 => ⟨S65536x64, .i64⟩
  | 49 => ⟨S65536x64, .i64⟩
  | 50 => ⟨S65536x64, .i32⟩
  | 51 => ⟨S65536x64, .i32⟩
  | 52 => ⟨S_, .i32⟩
  | 53 => ⟨S_, .i32⟩
  | 54 => ⟨S_, .i32⟩
  | 55 => ⟨S65536x64, .i32⟩
  | 56 => ⟨S65536x64, .i32⟩
  | 57 => ⟨S65536x64, .i32⟩
  | 58 => ⟨S65536x64, .i32⟩
  | 59 => ⟨S65536x64, .i32⟩
  | 60 => ⟨S_, .i32⟩
  | 61 => ⟨S65536x64, .i32⟩
  | 62 => ⟨S65536x64, .i32⟩
  | 63 => ⟨S_, .i32⟩
  | 64 => ⟨S65536x64, .i32⟩
  | 65 => ⟨S65536x64, .i32⟩
  | 66 => ⟨S65536x64, .i32⟩
  | 67 => ⟨S65536x64, .i32⟩
  | 68 => ⟨S65536x64, .i32⟩
  | 69 => ⟨S_, .i32⟩
  | 70 => ⟨S65536x64, .i32⟩
  | 71 => ⟨S65536x64, .i32⟩
  | 72 => ⟨S_, .i32⟩
  | 73 => ⟨S65536x64, .i32⟩
  | 74 => ⟨S65536x64, .i32⟩
  | 75 => ⟨S65536x64, .i32⟩
  | 76 => ⟨S65536x64, .i32⟩
  | 77 => ⟨S65536x64, .i32⟩
  | 78 => ⟨S_, .i32⟩
  | 79 => ⟨S65536x64, .i32⟩
  | 80 => ⟨S65536x64, .i32⟩
  | 81 => ⟨S_, .i32⟩
  | 82 => ⟨S65536x64, .i32⟩
  | 83 => ⟨S65536x64, .i32⟩
  | 84 => ⟨S65536x64, .i32⟩
  | 85 => ⟨S65536x64, .i32⟩
  | 86 => ⟨S65536x64, .i32⟩
  | 87 => ⟨S_, .i32⟩
  | 88 => ⟨S65536x64, .i32⟩
  | 89 => ⟨S65536x64, .i32⟩
  | 90 => ⟨S_, .i32⟩
  | 91 => ⟨S65536x64, .i32⟩
  | 92 => ⟨S65536x64, .i32⟩
  | 93 => ⟨S65536x64, .i32⟩
  | 94 => ⟨S65536x64, .i32⟩
  | 95 => ⟨S65536x64, .i32⟩
  | 96 => ⟨S65536x64, .i32⟩
  | 97 => ⟨S65536x64, .i32⟩
  | 98 => ⟨S65536x64, .i32⟩
  | 99 => ⟨S_, .i32⟩
  | 100 => ⟨S65536x64, .i32⟩
  | 101 => ⟨S65536x64, .i32⟩
  | 102 => ⟨S65536x64, .i32⟩
  | 103 => ⟨S_, .i32⟩
  | 104 => ⟨S65536x64, .i32⟩
  | 105 => ⟨S65536x64, .i32⟩
  | 106 => ⟨S_, .i32⟩
  | 107 => ⟨S65536x64, .i32⟩
  | 108 => ⟨S65536x64, .i32⟩
  | 109 => ⟨S65536x64, .i32⟩
  | 110 => ⟨S65536x64, .i32⟩
  | 111 => ⟨S65536x64, .i32⟩
  | 112 => ⟨S_, .i32⟩
  | 113 => ⟨S65536x64, .i32⟩
  | 114 => ⟨S65536x64, .i32⟩
  | 115 => ⟨S_, .i32⟩
  | 116 => ⟨S65536x64, .i32⟩
  | 117 => ⟨S65536x64, .i32⟩
  | 118 => ⟨S65536x64, .i32⟩
  | 119 => ⟨S65536x64, .i32⟩
  | 120 => ⟨S65536x64, .i32⟩
  | 121 => ⟨S_, .i32⟩
  | 122 => ⟨S65536x64, .i32⟩
  | 123 => ⟨S65536x64, .i32⟩
  | 124 => ⟨S_, .i32⟩
  | 125 => ⟨S65536x64, .i32⟩
  | 126 => ⟨S65536x64, .i32⟩
  | 127 => ⟨S65536x64, .i32⟩
  | _ => ⟨S65536x8, .f32⟩

abbrev hbmTy0_7 (i : Nat) : BufTy := match i % 128 with
  | 0 => ⟨S65536x64, .i32⟩
  | 1 => ⟨S65536x64, .i32⟩
  | 2 => ⟨S_, .i32⟩
  | 3 => ⟨S65536x64, .i32⟩
  | 4 => ⟨S65536x64, .i32⟩
  | 5 => ⟨S_, .i32⟩
  | 6 => ⟨S65536x64, .i32⟩
  | 7 => ⟨S65536x64, .i32⟩
  | 8 => ⟨S65536x64, .i32⟩
  | 9 => ⟨S65536x64, .i32⟩
  | 10 => ⟨S65536x64, .i32⟩
  | 11 => ⟨S65536x64, .i32⟩
  | 12 => ⟨S65536x64, .i32⟩
  | 13 => ⟨S65536x64, .i32⟩
  | 14 => ⟨S_, .i32⟩
  | 15 => ⟨S65536x64, .i32⟩
  | 16 => ⟨S65536x64, .i32⟩
  | 17 => ⟨S65536x64, .i32⟩
  | 18 => ⟨S_, .i32⟩
  | 19 => ⟨S65536x64, .i32⟩
  | 20 => ⟨S65536x64, .i32⟩
  | 21 => ⟨S_, .i32⟩
  | 22 => ⟨S65536x64, .i32⟩
  | 23 => ⟨S65536x64, .i32⟩
  | 24 => ⟨S65536x64, .i32⟩
  | 25 => ⟨S65536x64, .i32⟩
  | 26 => ⟨S65536x64, .i32⟩
  | 27 => ⟨S_, .i32⟩
  | 28 => ⟨S65536x64, .i32⟩
  | 29 => ⟨S65536x64, .i32⟩
  | 30 => ⟨S_, .i32⟩
  | 31 => ⟨S65536x64, .i32⟩
  | 32 => ⟨S65536x64, .i32⟩
  | 33 => ⟨S65536x64, .i32⟩
  | 34 => ⟨S65536x64, .i32⟩
  | 35 => ⟨S65536x64, .i32⟩
  | 36 => ⟨S_, .i32⟩
  | 37 => ⟨S65536x64, .i32⟩
  | 38 => ⟨S65536x64, .i32⟩
  | 39 => ⟨S_, .i32⟩
  | 40 => ⟨S65536x64, .i32⟩
  | 41 => ⟨S65536x64, .i32⟩
  | 42 => ⟨S65536x64, .i32⟩
  | 43 => ⟨S65536x64, .i32⟩
  | 44 => ⟨S65536x64, .i32⟩
  | 45 => ⟨S_, .i32⟩
  | 46 => ⟨S65536x64, .i32⟩
  | 47 => ⟨S65536x64, .i32⟩
  | 48 => ⟨S_, .i32⟩
  | 49 => ⟨S65536x64, .i32⟩
  | 50 => ⟨S65536x64, .i32⟩
  | 51 => ⟨S65536x64, .i32⟩
  | 52 => ⟨S65536x64, .i32⟩
  | 53 => ⟨S65536x64, .i32⟩
  | 54 => ⟨S65536x64, .i32⟩
  | 55 => ⟨S65536x64, .i32⟩
  | 56 => ⟨S65536x64, .i32⟩
  | 57 => ⟨S_, .i32⟩
  | 58 => ⟨S65536x64, .i32⟩
  | 59 => ⟨S65536x64, .i32⟩
  | 60 => ⟨S65536x64, .i32⟩
  | 61 => ⟨S_, .i32⟩
  | 62 => ⟨S65536x64, .i32⟩
  | 63 => ⟨S65536x64, .i32⟩
  | 64 => ⟨S_, .i32⟩
  | 65 => ⟨S65536x64, .i32⟩
  | 66 => ⟨S65536x64, .i32⟩
  | 67 => ⟨S65536x64, .i32⟩
  | 68 => ⟨S65536x64, .i32⟩
  | 69 => ⟨S65536x64, .i32⟩
  | 70 => ⟨S_, .i32⟩
  | 71 => ⟨S65536x64, .i32⟩
  | 72 => ⟨S65536x64, .i32⟩
  | 73 => ⟨S_, .i32⟩
  | 74 => ⟨S65536x64, .i32⟩
  | 75 => ⟨S65536x64, .i32⟩
  | 76 => ⟨S65536x64, .i32⟩
  | 77 => ⟨S65536x64, .i32⟩
  | 78 => ⟨S65536x64, .i32⟩
  | 79 => ⟨S_, .i32⟩
  | 80 => ⟨S65536x64, .i32⟩
  | 81 => ⟨S65536x64, .i32⟩
  | 82 => ⟨S_, .i32⟩
  | 83 => ⟨S65536x64, .i32⟩
  | 84 => ⟨S65536x64, .i32⟩
  | 85 => ⟨S65536x64, .i32⟩
  | 86 => ⟨S65536x64, .i32⟩
  | 87 => ⟨S65536x64, .i32⟩
  | 88 => ⟨S_, .i32⟩
  | 89 => ⟨S65536x64, .i32⟩
  | 90 => ⟨S65536x64, .i32⟩
  | 91 => ⟨S_, .i32⟩
  | 92 => ⟨S65536x64, .i32⟩
  | 93 => ⟨S65536x64, .i32⟩
  | 94 => ⟨S65536x64, .i32⟩
  | 95 => ⟨S65536x64, .i32⟩
  | 96 => ⟨S65536x64, .i32⟩
  | 97 => ⟨S65536x64, .i32⟩
  | 98 => ⟨S65536x64, .i32⟩
  | 99 => ⟨S65536x64, .i32⟩
  | 100 => ⟨S_, .i32⟩
  | 101 => ⟨S65536x64, .i32⟩
  | 102 => ⟨S65536x64, .i32⟩
  | 103 => ⟨S65536x64, .i32⟩
  | 104 => ⟨S_, .i32⟩
  | 105 => ⟨S65536x64, .i32⟩
  | 106 => ⟨S65536x64, .i32⟩
  | 107 => ⟨S_, .i32⟩
  | 108 => ⟨S65536x64, .i32⟩
  | 109 => ⟨S65536x64, .i32⟩
  | 110 => ⟨S65536x64, .i32⟩
  | 111 => ⟨S65536x64, .i32⟩
  | 112 => ⟨S65536x64, .i32⟩
  | 113 => ⟨S_, .i32⟩
  | 114 => ⟨S65536x64, .i32⟩
  | 115 => ⟨S65536x64, .i32⟩
  | 116 => ⟨S_, .i32⟩
  | 117 => ⟨S65536x64, .i32⟩
  | 118 => ⟨S65536x64, .i32⟩
  | 119 => ⟨S65536x64, .i32⟩
  | 120 => ⟨S65536x64, .i32⟩
  | 121 => ⟨S65536x64, .i32⟩
  | 122 => ⟨S_, .i32⟩
  | 123 => ⟨S65536x64, .i32⟩
  | 124 => ⟨S65536x64, .i32⟩
  | 125 => ⟨S_, .i32⟩
  | 126 => ⟨S65536x64, .i32⟩
  | 127 => ⟨S65536x64, .i32⟩
  | _ => ⟨S65536x8, .f32⟩

abbrev hbmTy0_8 (i : Nat) : BufTy := match i % 128 with
  | 0 => ⟨S65536x64, .i32⟩
  | 1 => ⟨S65536x64, .i32⟩
  | 2 => ⟨S65536x64, .i32⟩
  | 3 => ⟨S_, .i32⟩
  | 4 => ⟨S65536x64, .i32⟩
  | 5 => ⟨S65536x64, .i32⟩
  | 6 => ⟨S_, .i32⟩
  | 7 => ⟨S65536x64, .i32⟩
  | 8 => ⟨S65536x64, .i32⟩
  | 9 => ⟨S65536x64, .i32⟩
  | 10 => ⟨S65536x64, .i32⟩
  | 11 => ⟨S65536x64, .i32⟩
  | 12 => ⟨S65536x64, .i32⟩
  | 13 => ⟨S65536x64, .i32⟩
  | 14 => ⟨S65536x64, .i32⟩
  | 15 => ⟨S_, .i32⟩
  | 16 => ⟨S65536x64, .i32⟩
  | 17 => ⟨S65536x64, .i32⟩
  | 18 => ⟨S65536x64, .i32⟩
  | 19 => ⟨S_, .i32⟩
  | 20 => ⟨S65536x64, .i32⟩
  | 21 => ⟨S65536x64, .i32⟩
  | 22 => ⟨S_, .i32⟩
  | 23 => ⟨S65536x64, .i32⟩
  | 24 => ⟨S65536x64, .i32⟩
  | 25 => ⟨S65536x64, .f32⟩
  | 26 => ⟨S_, .f32⟩
  | 27 => ⟨S65536x64, .f32⟩
  | 28 => ⟨S65536x64, .f32⟩
  | 29 => ⟨S1x1, .f32⟩
  | 30 => ⟨S65536x64, .f32⟩
  | 31 => ⟨S65536x64, .f32⟩
  | 32 => ⟨S65536x64, .f32⟩
  | 33 => ⟨S65536x64, .f32⟩
  | 34 => ⟨S65536x64, .f32⟩
  | 35 => ⟨S65536x64, .f32⟩
  | 36 => ⟨S64x65536, .f32⟩
  | 37 => ⟨S128x65536, .bf16⟩
  | 38 => ⟨S64x65536, .bf16⟩
  | 39 => ⟨S192x65536, .f32⟩
  | 40 => ⟨S65536x192, .f32⟩
  | _ => ⟨S65536x8, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S65536x8, .f32⟩

abbrev bufTy : (tb : Table) → Fin (tcTables nBuf tb) → BufTy
  | .hbm, ⟨i, _⟩ => hbmTy i
  | .local _ .vmem, ⟨0, _⟩ => ⟨S8x512, .f32⟩
  | .local _ .vmem, ⟨1, _⟩ => ⟨S8x512, .f32⟩
  | .local _ .vmem, ⟨2, _⟩ => ⟨S512x128, .f32⟩
  | .local _ .vmem, ⟨3, _⟩ => ⟨S512x128, .f32⟩
  | .local _ .vmem, ⟨4, _⟩ => ⟨S128x512, .bf16⟩
  | .local _ .vmem, ⟨5, _⟩ => ⟨S128x512, .bf16⟩
  | .local _ .vmem, ⟨6, _⟩ => ⟨S64x512, .f32⟩
  | .local _ .vmem, ⟨7, _⟩ => ⟨S64x512, .f32⟩
  | .local _ .vmem, ⟨8, _⟩ => ⟨S64x512, .bf16⟩
  | .local _ .vmem, ⟨9, _⟩ => ⟨S64x512, .bf16⟩
  | .local _ .vmem, ⟨10, _⟩ => ⟨S192x512, .f32⟩
  | .local _ .vmem, ⟨11, _⟩ => ⟨S192x512, .f32⟩
  | _, _ => ⟨S65536x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c : Ref sig .tc := ⟨.hbm, 27, rfl⟩
abbrev main_call0_v5 : Ref sig .tc := ⟨.hbm, 28, rfl⟩
abbrev main_call0_v6 : Ref sig .tc := ⟨.hbm, 29, rfl⟩
abbrev main_call0_c_0 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_call0_v0 : Ref sig .tc := ⟨.hbm, 35, rfl⟩
abbrev main_call0_call0_c : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_c_0 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_c_1 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_call0_v12 : Ref sig .tc := ⟨.hbm, 50, rfl⟩
abbrev main_call0_call0_v13 : Ref sig .tc := ⟨.hbm, 51, rfl⟩
abbrev main_call0_call0_c_2 : Ref sig .tc := ⟨.hbm, 52, rfl⟩
abbrev main_call0_call0_v14 : Ref sig .tc := ⟨.hbm, 53, rfl⟩
abbrev main_call0_call0_v15 : Ref sig .tc := ⟨.hbm, 54, rfl⟩
abbrev main_call0_call0_c_3 : Ref sig .tc := ⟨.hbm, 55, rfl⟩
abbrev main_call0_call0_v16 : Ref sig .tc := ⟨.hbm, 56, rfl⟩
abbrev main_call0_call0_v17 : Ref sig .tc := ⟨.hbm, 57, rfl⟩
abbrev main_call0_call0_v18 : Ref sig .tc := ⟨.hbm, 58, rfl⟩
abbrev main_call0_call0_v19 : Ref sig .tc := ⟨.hbm, 59, rfl⟩
abbrev main_call0_call0_v20 : Ref sig .tc := ⟨.hbm, 60, rfl⟩
abbrev main_call0_call0_c_4 : Ref sig .tc := ⟨.hbm, 61, rfl⟩
abbrev main_call0_call0_v21 : Ref sig .tc := ⟨.hbm, 62, rfl⟩
abbrev main_call0_call0_v22 : Ref sig .tc := ⟨.hbm, 63, rfl⟩
abbrev main_call0_call0_c_5 : Ref sig .tc := ⟨.hbm, 64, rfl⟩
abbrev main_call0_call0_v23 : Ref sig .tc := ⟨.hbm, 65, rfl⟩
abbrev main_call0_call0_v24 : Ref sig .tc := ⟨.hbm, 66, rfl⟩
abbrev main_call0_call0_v25 : Ref sig .tc := ⟨.hbm, 67, rfl⟩
abbrev main_call0_call0_v26 : Ref sig .tc := ⟨.hbm, 68, rfl⟩
abbrev main_call0_call0_v27 : Ref sig .tc := ⟨.hbm, 69, rfl⟩
abbrev main_call0_call0_c_6 : Ref sig .tc := ⟨.hbm, 70, rfl⟩
abbrev main_call0_call0_v28 : Ref sig .tc := ⟨.hbm, 71, rfl⟩
abbrev main_call0_call0_v29 : Ref sig .tc := ⟨.hbm, 72, rfl⟩
abbrev main_call0_call0_c_7 : Ref sig .tc := ⟨.hbm, 73, rfl⟩
abbrev main_call0_call0_v30 : Ref sig .tc := ⟨.hbm, 74, rfl⟩
abbrev main_call0_call0_v31 : Ref sig .tc := ⟨.hbm, 75, rfl⟩
abbrev main_call0_call0_v32 : Ref sig .tc := ⟨.hbm, 76, rfl⟩
abbrev main_call0_call0_v33 : Ref sig .tc := ⟨.hbm, 77, rfl⟩
abbrev main_call0_call0_v34 : Ref sig .tc := ⟨.hbm, 78, rfl⟩
abbrev main_call0_call0_v35 : Ref sig .tc := ⟨.hbm, 79, rfl⟩
abbrev main_call0_call0_v36 : Ref sig .tc := ⟨.hbm, 80, rfl⟩
abbrev main_call0_call0_v37 : Ref sig .tc := ⟨.hbm, 81, rfl⟩
abbrev main_call0_call0_c_8 : Ref sig .tc := ⟨.hbm, 82, rfl⟩
abbrev main_call0_call0_v38 : Ref sig .tc := ⟨.hbm, 83, rfl⟩
abbrev main_call0_call0_v39 : Ref sig .tc := ⟨.hbm, 84, rfl⟩
abbrev main_call0_call0_v40 : Ref sig .tc := ⟨.hbm, 85, rfl⟩
abbrev main_call0_call0_c_9 : Ref sig .tc := ⟨.hbm, 86, rfl⟩
abbrev main_call0_call0_v41 : Ref sig .tc := ⟨.hbm, 87, rfl⟩
abbrev main_call0_call0_v42 : Ref sig .tc := ⟨.hbm, 88, rfl⟩
abbrev main_call0_call0_c_10 : Ref sig .tc := ⟨.hbm, 89, rfl⟩
abbrev main_call0_call0_v43 : Ref sig .tc := ⟨.hbm, 90, rfl⟩
abbrev main_call0_call0_v44 : Ref sig .tc := ⟨.hbm, 91, rfl⟩
abbrev main_call0_call0_v45 : Ref sig .tc := ⟨.hbm, 92, rfl⟩
abbrev main_call0_call0_v46 : Ref sig .tc := ⟨.hbm, 93, rfl⟩
abbrev main_call0_call0_v47 : Ref sig .tc := ⟨.hbm, 94, rfl⟩
abbrev main_call0_call0_c_11 : Ref sig .tc := ⟨.hbm, 95, rfl⟩
abbrev main_call0_call0_v48 : Ref sig .tc := ⟨.hbm, 96, rfl⟩
abbrev main_call0_call0_v49 : Ref sig .tc := ⟨.hbm, 97, rfl⟩
abbrev main_call0_call0_c_12 : Ref sig .tc := ⟨.hbm, 98, rfl⟩
abbrev main_call0_call0_v50 : Ref sig .tc := ⟨.hbm, 99, rfl⟩
abbrev main_call0_call0_v51 : Ref sig .tc := ⟨.hbm, 100, rfl⟩
abbrev main_call0_call0_v52 : Ref sig .tc := ⟨.hbm, 101, rfl⟩
abbrev main_call0_call0_v53 : Ref sig .tc := ⟨.hbm, 102, rfl⟩
abbrev main_call0_call0_v54 : Ref sig .tc := ⟨.hbm, 103, rfl⟩
abbrev main_call0_call0_c_13 : Ref sig .tc := ⟨.hbm, 104, rfl⟩
abbrev main_call0_call0_v55 : Ref sig .tc := ⟨.hbm, 105, rfl⟩
abbrev main_call0_call0_v56 : Ref sig .tc := ⟨.hbm, 106, rfl⟩
abbrev main_call0_call0_c_14 : Ref sig .tc := ⟨.hbm, 107, rfl⟩
abbrev main_call0_call0_v57 : Ref sig .tc := ⟨.hbm, 108, rfl⟩
abbrev main_call0_call0_v58 : Ref sig .tc := ⟨.hbm, 109, rfl⟩
abbrev main_call0_call0_v59 : Ref sig .tc := ⟨.hbm, 110, rfl⟩
abbrev main_call0_call0_v60 : Ref sig .tc := ⟨.hbm, 111, rfl⟩
abbrev main_call0_call0_v61 : Ref sig .tc := ⟨.hbm, 112, rfl⟩
abbrev main_call0_call0_c_15 : Ref sig .tc := ⟨.hbm, 113, rfl⟩
abbrev main_call0_call0_v62 : Ref sig .tc := ⟨.hbm, 114, rfl⟩
abbrev main_call0_call0_v63 : Ref sig .tc := ⟨.hbm, 115, rfl⟩
abbrev main_call0_call0_c_16 : Ref sig .tc := ⟨.hbm, 116, rfl⟩
abbrev main_call0_call0_v64 : Ref sig .tc := ⟨.hbm, 117, rfl⟩
abbrev main_call0_call0_v65 : Ref sig .tc := ⟨.hbm, 118, rfl⟩
abbrev main_call0_call0_v66 : Ref sig .tc := ⟨.hbm, 119, rfl⟩
abbrev main_call0_call0_v67 : Ref sig .tc := ⟨.hbm, 120, rfl⟩
abbrev main_call0_call0_v68 : Ref sig .tc := ⟨.hbm, 121, rfl⟩
abbrev main_call0_call0_v69 : Ref sig .tc := ⟨.hbm, 122, rfl⟩
abbrev main_call0_call0_v70 : Ref sig .tc := ⟨.hbm, 123, rfl⟩
abbrev main_call0_call0_v71 : Ref sig .tc := ⟨.hbm, 124, rfl⟩
abbrev main_call0_call0_c_17 : Ref sig .tc := ⟨.hbm, 125, rfl⟩
abbrev main_call0_call0_v72 : Ref sig .tc := ⟨.hbm, 126, rfl⟩
abbrev main_call0_call0_v73 : Ref sig .tc := ⟨.hbm, 127, rfl⟩
abbrev main_call0_call0_v74 : Ref sig .tc := ⟨.hbm, 128, rfl⟩
abbrev main_call0_call0_c_18 : Ref sig .tc := ⟨.hbm, 129, rfl⟩
abbrev main_call0_call0_v75 : Ref sig .tc := ⟨.hbm, 130, rfl⟩
abbrev main_call0_call0_v76 : Ref sig .tc := ⟨.hbm, 131, rfl⟩
abbrev main_call0_call0_c_19 : Ref sig .tc := ⟨.hbm, 132, rfl⟩
abbrev main_call0_call0_v77 : Ref sig .tc := ⟨.hbm, 133, rfl⟩
abbrev main_call0_call0_v78 : Ref sig .tc := ⟨.hbm, 134, rfl⟩
abbrev main_call0_call0_v79 : Ref sig .tc := ⟨.hbm, 135, rfl⟩
abbrev main_call0_call0_v80 : Ref sig .tc := ⟨.hbm, 136, rfl⟩
abbrev main_call0_call0_v81 : Ref sig .tc := ⟨.hbm, 137, rfl⟩
abbrev main_call0_call0_c_20 : Ref sig .tc := ⟨.hbm, 138, rfl⟩
abbrev main_call0_call0_v82 : Ref sig .tc := ⟨.hbm, 139, rfl⟩
abbrev main_call0_call0_v83 : Ref sig .tc := ⟨.hbm, 140, rfl⟩
abbrev main_call0_call0_c_21 : Ref sig .tc := ⟨.hbm, 141, rfl⟩
abbrev main_call0_call0_v84 : Ref sig .tc := ⟨.hbm, 142, rfl⟩
abbrev main_call0_call0_v85 : Ref sig .tc := ⟨.hbm, 143, rfl⟩
abbrev main_call0_call0_v86 : Ref sig .tc := ⟨.hbm, 144, rfl⟩
abbrev main_call0_call0_v87 : Ref sig .tc := ⟨.hbm, 145, rfl⟩
abbrev main_call0_call0_v88 : Ref sig .tc := ⟨.hbm, 146, rfl⟩
abbrev main_call0_call0_c_22 : Ref sig .tc := ⟨.hbm, 147, rfl⟩
abbrev main_call0_call0_v89 : Ref sig .tc := ⟨.hbm, 148, rfl⟩
abbrev main_call0_call0_v90 : Ref sig .tc := ⟨.hbm, 149, rfl⟩
abbrev main_call0_call0_c_23 : Ref sig .tc := ⟨.hbm, 150, rfl⟩
abbrev main_call0_call0_v91 : Ref sig .tc := ⟨.hbm, 151, rfl⟩
abbrev main_call0_call0_v92 : Ref sig .tc := ⟨.hbm, 152, rfl⟩
abbrev main_call0_call0_v93 : Ref sig .tc := ⟨.hbm, 153, rfl⟩
abbrev main_call0_call0_v94 : Ref sig .tc := ⟨.hbm, 154, rfl⟩
abbrev main_call0_call0_v95 : Ref sig .tc := ⟨.hbm, 155, rfl⟩
abbrev main_call0_call0_c_24 : Ref sig .tc := ⟨.hbm, 156, rfl⟩
abbrev main_call0_call0_v96 : Ref sig .tc := ⟨.hbm, 157, rfl⟩
abbrev main_call0_call0_v97 : Ref sig .tc := ⟨.hbm, 158, rfl⟩
abbrev main_call0_call0_c_25 : Ref sig .tc := ⟨.hbm, 159, rfl⟩
abbrev main_call0_call0_v98 : Ref sig .tc := ⟨.hbm, 160, rfl⟩
abbrev main_call0_call0_v99 : Ref sig .tc := ⟨.hbm, 161, rfl⟩
abbrev main_call0_call0_v100 : Ref sig .tc := ⟨.hbm, 162, rfl⟩
abbrev main_call0_call0_v101 : Ref sig .tc := ⟨.hbm, 163, rfl⟩
abbrev main_call0_call0_v102 : Ref sig .tc := ⟨.hbm, 164, rfl⟩
abbrev main_call0_call0_v103 : Ref sig .tc := ⟨.hbm, 165, rfl⟩
abbrev main_call0_call0_v104 : Ref sig .tc := ⟨.hbm, 166, rfl⟩
abbrev main_call0_call0_v105 : Ref sig .tc := ⟨.hbm, 167, rfl⟩
abbrev main_call0_call0_c_26 : Ref sig .tc := ⟨.hbm, 168, rfl⟩
abbrev main_call0_call0_v106 : Ref sig .tc := ⟨.hbm, 169, rfl⟩
abbrev main_call0_call0_v107 : Ref sig .tc := ⟨.hbm, 170, rfl⟩
abbrev main_call0_call0_v108 : Ref sig .tc := ⟨.hbm, 171, rfl⟩
abbrev main_call0_call0_c_27 : Ref sig .tc := ⟨.hbm, 172, rfl⟩
abbrev main_call0_call0_v109 : Ref sig .tc := ⟨.hbm, 173, rfl⟩
abbrev main_call0_call0_v110 : Ref sig .tc := ⟨.hbm, 174, rfl⟩
abbrev main_call0_call0_c_28 : Ref sig .tc := ⟨.hbm, 175, rfl⟩
abbrev main_call0_call0_v111 : Ref sig .tc := ⟨.hbm, 176, rfl⟩
abbrev main_call0_call0_v112 : Ref sig .tc := ⟨.hbm, 177, rfl⟩
abbrev main_call0_call0_v113 : Ref sig .tc := ⟨.hbm, 178, rfl⟩
abbrev main_call0_call0_v114 : Ref sig .tc := ⟨.hbm, 179, rfl⟩
abbrev main_call0_call0_v115 : Ref sig .tc := ⟨.hbm, 180, rfl⟩
abbrev main_call0_call0_c_29 : Ref sig .tc := ⟨.hbm, 181, rfl⟩
abbrev main_call0_call0_v116 : Ref sig .tc := ⟨.hbm, 182, rfl⟩
abbrev main_call0_call0_v117 : Ref sig .tc := ⟨.hbm, 183, rfl⟩
abbrev main_call0_call0_c_30 : Ref sig .tc := ⟨.hbm, 184, rfl⟩
abbrev main_call0_call0_v118 : Ref sig .tc := ⟨.hbm, 185, rfl⟩
abbrev main_call0_call0_v119 : Ref sig .tc := ⟨.hbm, 186, rfl⟩
abbrev main_call0_call0_v120 : Ref sig .tc := ⟨.hbm, 187, rfl⟩
abbrev main_call0_call0_v121 : Ref sig .tc := ⟨.hbm, 188, rfl⟩
abbrev main_call0_call0_v122 : Ref sig .tc := ⟨.hbm, 189, rfl⟩
abbrev main_call0_call0_c_31 : Ref sig .tc := ⟨.hbm, 190, rfl⟩
abbrev main_call0_call0_v123 : Ref sig .tc := ⟨.hbm, 191, rfl⟩
abbrev main_call0_call0_v124 : Ref sig .tc := ⟨.hbm, 192, rfl⟩
abbrev main_call0_call0_c_32 : Ref sig .tc := ⟨.hbm, 193, rfl⟩
abbrev main_call0_call0_v125 : Ref sig .tc := ⟨.hbm, 194, rfl⟩
abbrev main_call0_call0_v126 : Ref sig .tc := ⟨.hbm, 195, rfl⟩
abbrev main_call0_call0_v127 : Ref sig .tc := ⟨.hbm, 196, rfl⟩
abbrev main_call0_call0_v128 : Ref sig .tc := ⟨.hbm, 197, rfl⟩
abbrev main_call0_call0_v129 : Ref sig .tc := ⟨.hbm, 198, rfl⟩
abbrev main_call0_call0_c_33 : Ref sig .tc := ⟨.hbm, 199, rfl⟩
abbrev main_call0_call0_v130 : Ref sig .tc := ⟨.hbm, 200, rfl⟩
abbrev main_call0_call0_v131 : Ref sig .tc := ⟨.hbm, 201, rfl⟩
abbrev main_call0_call0_c_34 : Ref sig .tc := ⟨.hbm, 202, rfl⟩
abbrev main_call0_call0_v132 : Ref sig .tc := ⟨.hbm, 203, rfl⟩
abbrev main_call0_call0_v133 : Ref sig .tc := ⟨.hbm, 204, rfl⟩
abbrev main_call0_call0_v134 : Ref sig .tc := ⟨.hbm, 205, rfl⟩
abbrev main_call0_call0_v135 : Ref sig .tc := ⟨.hbm, 206, rfl⟩
abbrev main_call0_call0_v136 : Ref sig .tc := ⟨.hbm, 207, rfl⟩
abbrev main_call0_call0_v137 : Ref sig .tc := ⟨.hbm, 208, rfl⟩
abbrev main_call0_call0_v138 : Ref sig .tc := ⟨.hbm, 209, rfl⟩
abbrev main_call0_call0_v139 : Ref sig .tc := ⟨.hbm, 210, rfl⟩
abbrev main_call0_call0_c_35 : Ref sig .tc := ⟨.hbm, 211, rfl⟩
abbrev main_call0_call0_v140 : Ref sig .tc := ⟨.hbm, 212, rfl⟩
abbrev main_call0_call0_v141 : Ref sig .tc := ⟨.hbm, 213, rfl⟩
abbrev main_call0_call0_v142 : Ref sig .tc := ⟨.hbm, 214, rfl⟩
abbrev main_call0_call0_c_36 : Ref sig .tc := ⟨.hbm, 215, rfl⟩
abbrev main_call0_call0_v143 : Ref sig .tc := ⟨.hbm, 216, rfl⟩
abbrev main_call0_call0_v144 : Ref sig .tc := ⟨.hbm, 217, rfl⟩
abbrev main_call0_call0_c_37 : Ref sig .tc := ⟨.hbm, 218, rfl⟩
abbrev main_call0_call0_v145 : Ref sig .tc := ⟨.hbm, 219, rfl⟩
abbrev main_call0_call0_v146 : Ref sig .tc := ⟨.hbm, 220, rfl⟩
abbrev main_call0_call0_v147 : Ref sig .tc := ⟨.hbm, 221, rfl⟩
abbrev main_call0_call0_v148 : Ref sig .tc := ⟨.hbm, 222, rfl⟩
abbrev main_call0_call0_v149 : Ref sig .tc := ⟨.hbm, 223, rfl⟩
abbrev main_call0_call0_c_38 : Ref sig .tc := ⟨.hbm, 224, rfl⟩
abbrev main_call0_call0_v150 : Ref sig .tc := ⟨.hbm, 225, rfl⟩
abbrev main_call0_call0_v151 : Ref sig .tc := ⟨.hbm, 226, rfl⟩
abbrev main_call0_call0_c_39 : Ref sig .tc := ⟨.hbm, 227, rfl⟩
abbrev main_call0_call0_v152 : Ref sig .tc := ⟨.hbm, 228, rfl⟩
abbrev main_call0_call0_v153 : Ref sig .tc := ⟨.hbm, 229, rfl⟩
abbrev main_call0_call0_v154 : Ref sig .tc := ⟨.hbm, 230, rfl⟩
abbrev main_call0_call0_v155 : Ref sig .tc := ⟨.hbm, 231, rfl⟩
abbrev main_call0_call0_v156 : Ref sig .tc := ⟨.hbm, 232, rfl⟩
abbrev main_call0_call0_c_40 : Ref sig .tc := ⟨.hbm, 233, rfl⟩
abbrev main_call0_call0_v157 : Ref sig .tc := ⟨.hbm, 234, rfl⟩
abbrev main_call0_call0_v158 : Ref sig .tc := ⟨.hbm, 235, rfl⟩
abbrev main_call0_call0_c_41 : Ref sig .tc := ⟨.hbm, 236, rfl⟩
abbrev main_call0_call0_v159 : Ref sig .tc := ⟨.hbm, 237, rfl⟩
abbrev main_call0_call0_v160 : Ref sig .tc := ⟨.hbm, 238, rfl⟩
abbrev main_call0_call0_v161 : Ref sig .tc := ⟨.hbm, 239, rfl⟩
abbrev main_call0_call0_v162 : Ref sig .tc := ⟨.hbm, 240, rfl⟩
abbrev main_call0_call0_v163 : Ref sig .tc := ⟨.hbm, 241, rfl⟩
abbrev main_call0_call0_c_42 : Ref sig .tc := ⟨.hbm, 242, rfl⟩
abbrev main_call0_call0_v164 : Ref sig .tc := ⟨.hbm, 243, rfl⟩
abbrev main_call0_call0_v165 : Ref sig .tc := ⟨.hbm, 244, rfl⟩
abbrev main_call0_call0_c_43 : Ref sig .tc := ⟨.hbm, 245, rfl⟩
abbrev main_call0_call0_v166 : Ref sig .tc := ⟨.hbm, 246, rfl⟩
abbrev main_call0_call0_v167 : Ref sig .tc := ⟨.hbm, 247, rfl⟩
abbrev main_call0_call0_v168 : Ref sig .tc := ⟨.hbm, 248, rfl⟩
abbrev main_call0_call0_v169 : Ref sig .tc := ⟨.hbm, 249, rfl⟩
abbrev main_call0_call0_v170 : Ref sig .tc := ⟨.hbm, 250, rfl⟩
abbrev main_call0_v11_0 : Ref sig .tc := ⟨.hbm, 251, rfl⟩
abbrev main_call0_call0_v172 : Ref sig .tc := ⟨.hbm, 252, rfl⟩
abbrev main_call0_call0_v173 : Ref sig .tc := ⟨.hbm, 253, rfl⟩
abbrev main_call0_call0_c_44 : Ref sig .tc := ⟨.hbm, 254, rfl⟩
abbrev main_call0_call0_v174 : Ref sig .tc := ⟨.hbm, 255, rfl⟩
abbrev main_call0_v11_1 : Ref sig .tc := ⟨.hbm, 256, rfl⟩
abbrev main_call0_v12 : Ref sig .tc := ⟨.hbm, 257, rfl⟩
abbrev main_call0_v13 : Ref sig .tc := ⟨.hbm, 258, rfl⟩
abbrev main_v16 : Ref sig .tc := ⟨.hbm, 259, rfl⟩
abbrev main_v17 : Ref sig .tc := ⟨.hbm, 260, rfl⟩
abbrev main_v18 : Ref sig .tc := ⟨.hbm, 261, rfl⟩
abbrev main_v19 : Ref sig .tc := ⟨.hbm, 262, rfl⟩
abbrev main_v20 : Ref sig .tc := ⟨.hbm, 263, rfl⟩
abbrev main_v21 : Ref sig .tc := ⟨.hbm, 264, rfl⟩
abbrev main_v22 : Ref sig .tc := ⟨.hbm, 265, rfl⟩
abbrev main_cst_2 : Ref sig .tc := ⟨.hbm, 266, rfl⟩
abbrev main_cst_3 : Ref sig .tc := ⟨.hbm, 267, rfl⟩
abbrev main_call1_v0 : Ref sig .tc := ⟨.hbm, 268, rfl⟩
abbrev main_call1_v1 : Ref sig .tc := ⟨.hbm, 269, rfl⟩
abbrev main_call1_v2 : Ref sig .tc := ⟨.hbm, 270, rfl⟩
abbrev main_call1_v3 : Ref sig .tc := ⟨.hbm, 271, rfl⟩
abbrev main_call1_v4 : Ref sig .tc := ⟨.hbm, 272, rfl⟩
abbrev main_call1_v5 : Ref sig .tc := ⟨.hbm, 273, rfl⟩
abbrev main_call1_v6 : Ref sig .tc := ⟨.hbm, 274, rfl⟩
abbrev main_call1_v7 : Ref sig .tc := ⟨.hbm, 275, rfl⟩
abbrev main_call1_v8 : Ref sig .tc := ⟨.hbm, 276, rfl⟩
abbrev main_call1_v9 : Ref sig .tc := ⟨.hbm, 277, rfl⟩
abbrev main_call1_c : Ref sig .tc := ⟨.hbm, 278, rfl⟩
abbrev main_call1_v10 : Ref sig .tc := ⟨.hbm, 279, rfl⟩
abbrev main_call1_v11 : Ref sig .tc := ⟨.hbm, 280, rfl⟩
abbrev main_call1_c_0 : Ref sig .tc := ⟨.hbm, 281, rfl⟩
abbrev main_call1_v12 : Ref sig .tc := ⟨.hbm, 282, rfl⟩
abbrev main_call1_v13 : Ref sig .tc := ⟨.hbm, 283, rfl⟩
abbrev main_call1_v14 : Ref sig .tc := ⟨.hbm, 284, rfl⟩
abbrev main_call1_c_1 : Ref sig .tc := ⟨.hbm, 285, rfl⟩
abbrev main_call1_v15 : Ref sig .tc := ⟨.hbm, 286, rfl⟩
abbrev main_call1_v16 : Ref sig .tc := ⟨.hbm, 287, rfl⟩
abbrev main_call1_v17 : Ref sig .tc := ⟨.hbm, 288, rfl⟩
abbrev main_call1_v18 : Ref sig .tc := ⟨.hbm, 289, rfl⟩
abbrev main_call1_call0_v0 : Ref sig .tc := ⟨.hbm, 290, rfl⟩
abbrev main_call1_call0_c : Ref sig .tc := ⟨.hbm, 291, rfl⟩
abbrev main_call1_call0_v1 : Ref sig .tc := ⟨.hbm, 292, rfl⟩
abbrev main_call1_call0_v2 : Ref sig .tc := ⟨.hbm, 293, rfl⟩
abbrev main_call1_call0_v3 : Ref sig .tc := ⟨.hbm, 294, rfl⟩
abbrev main_call1_call0_v4 : Ref sig .tc := ⟨.hbm, 295, rfl⟩
abbrev main_call1_call0_v5 : Ref sig .tc := ⟨.hbm, 296, rfl⟩
abbrev main_call1_call0_v6 : Ref sig .tc := ⟨.hbm, 297, rfl⟩
abbrev main_call1_call0_c_0 : Ref sig .tc := ⟨.hbm, 298, rfl⟩
abbrev main_call1_call0_v7 : Ref sig .tc := ⟨.hbm, 299, rfl⟩
abbrev main_call1_call0_v8 : Ref sig .tc := ⟨.hbm, 300, rfl⟩
abbrev main_call1_call0_c_1 : Ref sig .tc := ⟨.hbm, 301, rfl⟩
abbrev main_call1_call0_v9 : Ref sig .tc := ⟨.hbm, 302, rfl⟩
abbrev main_call1_call0_v10 : Ref sig .tc := ⟨.hbm, 303, rfl⟩
abbrev main_call1_call0_v11 : Ref sig .tc := ⟨.hbm, 304, rfl⟩
abbrev main_call1_call0_v12 : Ref sig .tc := ⟨.hbm, 305, rfl⟩
abbrev main_call1_call0_v13 : Ref sig .tc := ⟨.hbm, 306, rfl⟩
abbrev main_call1_call0_c_2 : Ref sig .tc := ⟨.hbm, 307, rfl⟩
abbrev main_call1_call0_v14 : Ref sig .tc := ⟨.hbm, 308, rfl⟩
abbrev main_call1_call0_v15 : Ref sig .tc := ⟨.hbm, 309, rfl⟩
abbrev main_call1_call0_c_3 : Ref sig .tc := ⟨.hbm, 310, rfl⟩
abbrev main_call1_call0_v16 : Ref sig .tc := ⟨.hbm, 311, rfl⟩
abbrev main_call1_call0_v17 : Ref sig .tc := ⟨.hbm, 312, rfl⟩
abbrev main_call1_call0_v18 : Ref sig .tc := ⟨.hbm, 313, rfl⟩
abbrev main_call1_call0_v19 : Ref sig .tc := ⟨.hbm, 314, rfl⟩
abbrev main_call1_call0_v20 : Ref sig .tc := ⟨.hbm, 315, rfl⟩
abbrev main_call1_call0_c_4 : Ref sig .tc := ⟨.hbm, 316, rfl⟩
abbrev main_call1_call0_v21 : Ref sig .tc := ⟨.hbm, 317, rfl⟩
abbrev main_call1_call0_v22 : Ref sig .tc := ⟨.hbm, 318, rfl⟩
abbrev main_call1_call0_c_5 : Ref sig .tc := ⟨.hbm, 319, rfl⟩
abbrev main_call1_call0_v23 : Ref sig .tc := ⟨.hbm, 320, rfl⟩
abbrev main_call1_call0_v24 : Ref sig .tc := ⟨.hbm, 321, rfl⟩
abbrev main_call1_call0_v25 : Ref sig .tc := ⟨.hbm, 322, rfl⟩
abbrev main_call1_call0_v26 : Ref sig .tc := ⟨.hbm, 323, rfl⟩
abbrev main_call1_call0_v27 : Ref sig .tc := ⟨.hbm, 324, rfl⟩
abbrev main_call1_call0_c_6 : Ref sig .tc := ⟨.hbm, 325, rfl⟩
abbrev main_call1_call0_v28 : Ref sig .tc := ⟨.hbm, 326, rfl⟩
abbrev main_call1_call0_v29 : Ref sig .tc := ⟨.hbm, 327, rfl⟩
abbrev main_call1_call0_c_7 : Ref sig .tc := ⟨.hbm, 328, rfl⟩
abbrev main_call1_call0_v30 : Ref sig .tc := ⟨.hbm, 329, rfl⟩
abbrev main_call1_call0_v31 : Ref sig .tc := ⟨.hbm, 330, rfl⟩
abbrev main_call1_call0_v32 : Ref sig .tc := ⟨.hbm, 331, rfl⟩
abbrev main_call1_call0_v33 : Ref sig .tc := ⟨.hbm, 332, rfl⟩
abbrev main_call1_call0_v34 : Ref sig .tc := ⟨.hbm, 333, rfl⟩
abbrev main_call1_call0_v35 : Ref sig .tc := ⟨.hbm, 334, rfl⟩
abbrev main_call1_call0_v36 : Ref sig .tc := ⟨.hbm, 335, rfl⟩
abbrev main_call1_call0_v37 : Ref sig .tc := ⟨.hbm, 336, rfl⟩
abbrev main_call1_call0_c_8 : Ref sig .tc := ⟨.hbm, 337, rfl⟩
abbrev main_call1_call0_v38 : Ref sig .tc := ⟨.hbm, 338, rfl⟩
abbrev main_call1_call0_v39 : Ref sig .tc := ⟨.hbm, 339, rfl⟩
abbrev main_call1_call0_v40 : Ref sig .tc := ⟨.hbm, 340, rfl⟩
abbrev main_call1_call0_c_9 : Ref sig .tc := ⟨.hbm, 341, rfl⟩
abbrev main_call1_call0_v41 : Ref sig .tc := ⟨.hbm, 342, rfl⟩
abbrev main_call1_call0_v42 : Ref sig .tc := ⟨.hbm, 343, rfl⟩
abbrev main_call1_call0_c_10 : Ref sig .tc := ⟨.hbm, 344, rfl⟩
abbrev main_call1_call0_v43 : Ref sig .tc := ⟨.hbm, 345, rfl⟩
abbrev main_call1_call0_v44 : Ref sig .tc := ⟨.hbm, 346, rfl⟩
abbrev main_call1_call0_v45 : Ref sig .tc := ⟨.hbm, 347, rfl⟩
abbrev main_call1_call0_v46 : Ref sig .tc := ⟨.hbm, 348, rfl⟩
abbrev main_call1_call0_v47 : Ref sig .tc := ⟨.hbm, 349, rfl⟩
abbrev main_call1_call0_c_11 : Ref sig .tc := ⟨.hbm, 350, rfl⟩
abbrev main_call1_call0_v48 : Ref sig .tc := ⟨.hbm, 351, rfl⟩
abbrev main_call1_call0_v49 : Ref sig .tc := ⟨.hbm, 352, rfl⟩
abbrev main_call1_call0_c_12 : Ref sig .tc := ⟨.hbm, 353, rfl⟩
abbrev main_call1_call0_v50 : Ref sig .tc := ⟨.hbm, 354, rfl⟩
abbrev main_call1_call0_v51 : Ref sig .tc := ⟨.hbm, 355, rfl⟩
abbrev main_call1_call0_v52 : Ref sig .tc := ⟨.hbm, 356, rfl⟩
abbrev main_call1_call0_v53 : Ref sig .tc := ⟨.hbm, 357, rfl⟩
abbrev main_call1_call0_v54 : Ref sig .tc := ⟨.hbm, 358, rfl⟩
abbrev main_call1_call0_c_13 : Ref sig .tc := ⟨.hbm, 359, rfl⟩
abbrev main_call1_call0_v55 : Ref sig .tc := ⟨.hbm, 360, rfl⟩
abbrev main_call1_call0_v56 : Ref sig .tc := ⟨.hbm, 361, rfl⟩
abbrev main_call1_call0_c_14 : Ref sig .tc := ⟨.hbm, 362, rfl⟩
abbrev main_call1_call0_v57 : Ref sig .tc := ⟨.hbm, 363, rfl⟩
abbrev main_call1_call0_v58 : Ref sig .tc := ⟨.hbm, 364, rfl⟩
abbrev main_call1_call0_v59 : Ref sig .tc := ⟨.hbm, 365, rfl⟩
abbrev main_call1_call0_v60 : Ref sig .tc := ⟨.hbm, 366, rfl⟩
abbrev main_call1_call0_v61 : Ref sig .tc := ⟨.hbm, 367, rfl⟩
abbrev main_call1_call0_c_15 : Ref sig .tc := ⟨.hbm, 368, rfl⟩
abbrev main_call1_call0_v62 : Ref sig .tc := ⟨.hbm, 369, rfl⟩
abbrev main_call1_call0_v63 : Ref sig .tc := ⟨.hbm, 370, rfl⟩
abbrev main_call1_call0_c_16 : Ref sig .tc := ⟨.hbm, 371, rfl⟩
abbrev main_call1_call0_v64 : Ref sig .tc := ⟨.hbm, 372, rfl⟩
abbrev main_call1_call0_v65 : Ref sig .tc := ⟨.hbm, 373, rfl⟩
abbrev main_call1_call0_v66 : Ref sig .tc := ⟨.hbm, 374, rfl⟩
abbrev main_call1_call0_v67 : Ref sig .tc := ⟨.hbm, 375, rfl⟩
abbrev main_call1_call0_v68 : Ref sig .tc := ⟨.hbm, 376, rfl⟩
abbrev main_call1_call0_v69 : Ref sig .tc := ⟨.hbm, 377, rfl⟩
abbrev main_call1_call0_v70 : Ref sig .tc := ⟨.hbm, 378, rfl⟩
abbrev main_call1_call0_v71 : Ref sig .tc := ⟨.hbm, 379, rfl⟩
abbrev main_call1_call0_c_17 : Ref sig .tc := ⟨.hbm, 380, rfl⟩
abbrev main_call1_call0_v72 : Ref sig .tc := ⟨.hbm, 381, rfl⟩
abbrev main_call1_call0_v73 : Ref sig .tc := ⟨.hbm, 382, rfl⟩
abbrev main_call1_call0_v74 : Ref sig .tc := ⟨.hbm, 383, rfl⟩
abbrev main_call1_call0_c_18 : Ref sig .tc := ⟨.hbm, 384, rfl⟩
abbrev main_call1_call0_v75 : Ref sig .tc := ⟨.hbm, 385, rfl⟩
abbrev main_call1_call0_v76 : Ref sig .tc := ⟨.hbm, 386, rfl⟩
abbrev main_call1_call0_c_19 : Ref sig .tc := ⟨.hbm, 387, rfl⟩
abbrev main_call1_call0_v77 : Ref sig .tc := ⟨.hbm, 388, rfl⟩
abbrev main_call1_call0_v78 : Ref sig .tc := ⟨.hbm, 389, rfl⟩
abbrev main_call1_call0_v79 : Ref sig .tc := ⟨.hbm, 390, rfl⟩
abbrev main_call1_call0_v80 : Ref sig .tc := ⟨.hbm, 391, rfl⟩
abbrev main_call1_call0_v81 : Ref sig .tc := ⟨.hbm, 392, rfl⟩
abbrev main_call1_call0_c_20 : Ref sig .tc := ⟨.hbm, 393, rfl⟩
abbrev main_call1_call0_v82 : Ref sig .tc := ⟨.hbm, 394, rfl⟩
abbrev main_call1_call0_v83 : Ref sig .tc := ⟨.hbm, 395, rfl⟩
abbrev main_call1_call0_c_21 : Ref sig .tc := ⟨.hbm, 396, rfl⟩
abbrev main_call1_call0_v84 : Ref sig .tc := ⟨.hbm, 397, rfl⟩
abbrev main_call1_call0_v85 : Ref sig .tc := ⟨.hbm, 398, rfl⟩
abbrev main_call1_call0_v86 : Ref sig .tc := ⟨.hbm, 399, rfl⟩
abbrev main_call1_call0_v87 : Ref sig .tc := ⟨.hbm, 400, rfl⟩
abbrev main_call1_call0_v88 : Ref sig .tc := ⟨.hbm, 401, rfl⟩
abbrev main_call1_call0_c_22 : Ref sig .tc := ⟨.hbm, 402, rfl⟩
abbrev main_call1_call0_v89 : Ref sig .tc := ⟨.hbm, 403, rfl⟩
abbrev main_call1_call0_v90 : Ref sig .tc := ⟨.hbm, 404, rfl⟩
abbrev main_call1_call0_c_23 : Ref sig .tc := ⟨.hbm, 405, rfl⟩
abbrev main_call1_call0_v91 : Ref sig .tc := ⟨.hbm, 406, rfl⟩
abbrev main_call1_call0_v92 : Ref sig .tc := ⟨.hbm, 407, rfl⟩
abbrev main_call1_call0_v93 : Ref sig .tc := ⟨.hbm, 408, rfl⟩
abbrev main_call1_call0_v94 : Ref sig .tc := ⟨.hbm, 409, rfl⟩
abbrev main_call1_call0_v95 : Ref sig .tc := ⟨.hbm, 410, rfl⟩
abbrev main_call1_call0_c_24 : Ref sig .tc := ⟨.hbm, 411, rfl⟩
abbrev main_call1_call0_v96 : Ref sig .tc := ⟨.hbm, 412, rfl⟩
abbrev main_call1_call0_v97 : Ref sig .tc := ⟨.hbm, 413, rfl⟩
abbrev main_call1_call0_c_25 : Ref sig .tc := ⟨.hbm, 414, rfl⟩
abbrev main_call1_call0_v98 : Ref sig .tc := ⟨.hbm, 415, rfl⟩
abbrev main_call1_call0_v99 : Ref sig .tc := ⟨.hbm, 416, rfl⟩
abbrev main_call1_call0_v100 : Ref sig .tc := ⟨.hbm, 417, rfl⟩
abbrev main_call1_call0_v101 : Ref sig .tc := ⟨.hbm, 418, rfl⟩
abbrev main_call1_call0_v102 : Ref sig .tc := ⟨.hbm, 419, rfl⟩
abbrev main_call1_call0_v103 : Ref sig .tc := ⟨.hbm, 420, rfl⟩
abbrev main_call1_call0_v104 : Ref sig .tc := ⟨.hbm, 421, rfl⟩
abbrev main_call1_call0_v105 : Ref sig .tc := ⟨.hbm, 422, rfl⟩
abbrev main_call1_call0_c_26 : Ref sig .tc := ⟨.hbm, 423, rfl⟩
abbrev main_call1_call0_v106 : Ref sig .tc := ⟨.hbm, 424, rfl⟩
abbrev main_call1_call0_v107 : Ref sig .tc := ⟨.hbm, 425, rfl⟩
abbrev main_call1_call0_v108 : Ref sig .tc := ⟨.hbm, 426, rfl⟩
abbrev main_call1_call0_c_27 : Ref sig .tc := ⟨.hbm, 427, rfl⟩
abbrev main_call1_call0_v109 : Ref sig .tc := ⟨.hbm, 428, rfl⟩
abbrev main_call1_call0_v110 : Ref sig .tc := ⟨.hbm, 429, rfl⟩
abbrev main_call1_call0_c_28 : Ref sig .tc := ⟨.hbm, 430, rfl⟩
abbrev main_call1_call0_v111 : Ref sig .tc := ⟨.hbm, 431, rfl⟩
abbrev main_call1_call0_v112 : Ref sig .tc := ⟨.hbm, 432, rfl⟩
abbrev main_call1_call0_v113 : Ref sig .tc := ⟨.hbm, 433, rfl⟩
abbrev main_call1_call0_v114 : Ref sig .tc := ⟨.hbm, 434, rfl⟩
abbrev main_call1_call0_v115 : Ref sig .tc := ⟨.hbm, 435, rfl⟩
abbrev main_call1_call0_c_29 : Ref sig .tc := ⟨.hbm, 436, rfl⟩
abbrev main_call1_call0_v116 : Ref sig .tc := ⟨.hbm, 437, rfl⟩
abbrev main_call1_call0_v117 : Ref sig .tc := ⟨.hbm, 438, rfl⟩
abbrev main_call1_call0_c_30 : Ref sig .tc := ⟨.hbm, 439, rfl⟩
abbrev main_call1_call0_v118 : Ref sig .tc := ⟨.hbm, 440, rfl⟩
abbrev main_call1_call0_v119 : Ref sig .tc := ⟨.hbm, 441, rfl⟩
abbrev main_call1_call0_v120 : Ref sig .tc := ⟨.hbm, 442, rfl⟩
abbrev main_call1_call0_v121 : Ref sig .tc := ⟨.hbm, 443, rfl⟩
abbrev main_call1_call0_v122 : Ref sig .tc := ⟨.hbm, 444, rfl⟩
abbrev main_call1_call0_c_31 : Ref sig .tc := ⟨.hbm, 445, rfl⟩
abbrev main_call1_call0_v123 : Ref sig .tc := ⟨.hbm, 446, rfl⟩
abbrev main_call1_call0_v124 : Ref sig .tc := ⟨.hbm, 447, rfl⟩
abbrev main_call1_call0_c_32 : Ref sig .tc := ⟨.hbm, 448, rfl⟩
abbrev main_call1_call0_v125 : Ref sig .tc := ⟨.hbm, 449, rfl⟩
abbrev main_call1_call0_v126 : Ref sig .tc := ⟨.hbm, 450, rfl⟩
abbrev main_call1_call0_v127 : Ref sig .tc := ⟨.hbm, 451, rfl⟩
abbrev main_call1_call0_v128 : Ref sig .tc := ⟨.hbm, 452, rfl⟩
abbrev main_call1_call0_v129 : Ref sig .tc := ⟨.hbm, 453, rfl⟩
abbrev main_call1_call0_c_33 : Ref sig .tc := ⟨.hbm, 454, rfl⟩
abbrev main_call1_call0_v130 : Ref sig .tc := ⟨.hbm, 455, rfl⟩
abbrev main_call1_call0_v131 : Ref sig .tc := ⟨.hbm, 456, rfl⟩
abbrev main_call1_call0_c_34 : Ref sig .tc := ⟨.hbm, 457, rfl⟩
abbrev main_call1_call0_v132 : Ref sig .tc := ⟨.hbm, 458, rfl⟩
abbrev main_call1_call0_v133 : Ref sig .tc := ⟨.hbm, 459, rfl⟩
abbrev main_call1_call0_v134 : Ref sig .tc := ⟨.hbm, 460, rfl⟩
abbrev main_call1_call0_v135 : Ref sig .tc := ⟨.hbm, 461, rfl⟩
abbrev main_call1_call0_v136 : Ref sig .tc := ⟨.hbm, 462, rfl⟩
abbrev main_call1_call0_v137 : Ref sig .tc := ⟨.hbm, 463, rfl⟩
abbrev main_call1_call0_v138 : Ref sig .tc := ⟨.hbm, 464, rfl⟩
abbrev main_call1_call0_v139 : Ref sig .tc := ⟨.hbm, 465, rfl⟩
abbrev main_call1_call0_c_35 : Ref sig .tc := ⟨.hbm, 466, rfl⟩
abbrev main_call1_call0_v140 : Ref sig .tc := ⟨.hbm, 467, rfl⟩
abbrev main_call1_call0_v141 : Ref sig .tc := ⟨.hbm, 468, rfl⟩
abbrev main_call1_call0_v142 : Ref sig .tc := ⟨.hbm, 469, rfl⟩
abbrev main_call1_call0_c_36 : Ref sig .tc := ⟨.hbm, 470, rfl⟩
abbrev main_call1_call0_v143 : Ref sig .tc := ⟨.hbm, 471, rfl⟩
abbrev main_call1_call0_v144 : Ref sig .tc := ⟨.hbm, 472, rfl⟩
abbrev main_call1_call0_c_37 : Ref sig .tc := ⟨.hbm, 473, rfl⟩
abbrev main_call1_call0_v145 : Ref sig .tc := ⟨.hbm, 474, rfl⟩
abbrev main_call1_call0_v146 : Ref sig .tc := ⟨.hbm, 475, rfl⟩
abbrev main_call1_call0_v147 : Ref sig .tc := ⟨.hbm, 476, rfl⟩
abbrev main_call1_call0_v148 : Ref sig .tc := ⟨.hbm, 477, rfl⟩
abbrev main_call1_call0_v149 : Ref sig .tc := ⟨.hbm, 478, rfl⟩
abbrev main_call1_call0_c_38 : Ref sig .tc := ⟨.hbm, 479, rfl⟩
abbrev main_call1_call0_v150 : Ref sig .tc := ⟨.hbm, 480, rfl⟩
abbrev main_call1_call0_v151 : Ref sig .tc := ⟨.hbm, 481, rfl⟩
abbrev main_call1_call0_c_39 : Ref sig .tc := ⟨.hbm, 482, rfl⟩
abbrev main_call1_call0_v152 : Ref sig .tc := ⟨.hbm, 483, rfl⟩
abbrev main_call1_call0_v153 : Ref sig .tc := ⟨.hbm, 484, rfl⟩
abbrev main_call1_call0_v154 : Ref sig .tc := ⟨.hbm, 485, rfl⟩
abbrev main_call1_call0_v155 : Ref sig .tc := ⟨.hbm, 486, rfl⟩
abbrev main_call1_call0_v156 : Ref sig .tc := ⟨.hbm, 487, rfl⟩
abbrev main_call1_call0_c_40 : Ref sig .tc := ⟨.hbm, 488, rfl⟩
abbrev main_call1_call0_v157 : Ref sig .tc := ⟨.hbm, 489, rfl⟩
abbrev main_call1_call0_v158 : Ref sig .tc := ⟨.hbm, 490, rfl⟩
abbrev main_call1_call0_c_41 : Ref sig .tc := ⟨.hbm, 491, rfl⟩
abbrev main_call1_call0_v159 : Ref sig .tc := ⟨.hbm, 492, rfl⟩
abbrev main_call1_call0_v160 : Ref sig .tc := ⟨.hbm, 493, rfl⟩
abbrev main_call1_call0_v161 : Ref sig .tc := ⟨.hbm, 494, rfl⟩
abbrev main_call1_call0_v162 : Ref sig .tc := ⟨.hbm, 495, rfl⟩
abbrev main_call1_call0_v163 : Ref sig .tc := ⟨.hbm, 496, rfl⟩
abbrev main_call1_call0_c_42 : Ref sig .tc := ⟨.hbm, 497, rfl⟩
abbrev main_call1_call0_v164 : Ref sig .tc := ⟨.hbm, 498, rfl⟩
abbrev main_call1_call0_v165 : Ref sig .tc := ⟨.hbm, 499, rfl⟩
abbrev main_call1_call0_c_43 : Ref sig .tc := ⟨.hbm, 500, rfl⟩
abbrev main_call1_call0_v166 : Ref sig .tc := ⟨.hbm, 501, rfl⟩
abbrev main_call1_call0_v167 : Ref sig .tc := ⟨.hbm, 502, rfl⟩
abbrev main_call1_call0_v168 : Ref sig .tc := ⟨.hbm, 503, rfl⟩
abbrev main_call1_call0_v169 : Ref sig .tc := ⟨.hbm, 504, rfl⟩
abbrev main_call1_call0_v170 : Ref sig .tc := ⟨.hbm, 505, rfl⟩
abbrev main_call1_v19_0 : Ref sig .tc := ⟨.hbm, 506, rfl⟩
abbrev main_call1_call0_v172 : Ref sig .tc := ⟨.hbm, 507, rfl⟩
abbrev main_call1_call0_v173 : Ref sig .tc := ⟨.hbm, 508, rfl⟩
abbrev main_call1_call0_c_44 : Ref sig .tc := ⟨.hbm, 509, rfl⟩
abbrev main_call1_call0_v174 : Ref sig .tc := ⟨.hbm, 510, rfl⟩
abbrev main_call1_v19_1 : Ref sig .tc := ⟨.hbm, 511, rfl⟩
abbrev main_call1_v20 : Ref sig .tc := ⟨.hbm, 512, rfl⟩
abbrev main_call1_c_2 : Ref sig .tc := ⟨.hbm, 513, rfl⟩
abbrev main_call1_v21 : Ref sig .tc := ⟨.hbm, 514, rfl⟩
abbrev main_call1_v22 : Ref sig .tc := ⟨.hbm, 515, rfl⟩
abbrev main_call1_c_3 : Ref sig .tc := ⟨.hbm, 516, rfl⟩
abbrev main_call1_v23 : Ref sig .tc := ⟨.hbm, 517, rfl⟩
abbrev main_call1_v24 : Ref sig .tc := ⟨.hbm, 518, rfl⟩
abbrev main_call1_v25 : Ref sig .tc := ⟨.hbm, 519, rfl⟩
abbrev main_call1_cst : Ref sig .tc := ⟨.hbm, 520, rfl⟩
abbrev main_call1_v26 : Ref sig .tc := ⟨.hbm, 521, rfl⟩
abbrev main_call1_v27 : Ref sig .tc := ⟨.hbm, 522, rfl⟩
abbrev main_call1_v28 : Ref sig .tc := ⟨.hbm, 523, rfl⟩
abbrev main_call1_v29 : Ref sig .tc := ⟨.hbm, 524, rfl⟩
abbrev main_call1_v30 : Ref sig .tc := ⟨.hbm, 525, rfl⟩
abbrev main_call1_v31 : Ref sig .tc := ⟨.hbm, 526, rfl⟩
abbrev main_call1_v32 : Ref sig .tc := ⟨.hbm, 527, rfl⟩
abbrev main_call1_v33 : Ref sig .tc := ⟨.hbm, 528, rfl⟩
abbrev main_v23 : Ref sig .tc := ⟨.hbm, 529, rfl⟩
abbrev main_v24 : Ref sig .tc := ⟨.hbm, 530, rfl⟩
abbrev main_cst_4 : Ref sig .tc := ⟨.hbm, 531, rfl⟩
abbrev main_cst_5 : Ref sig .tc := ⟨.hbm, 532, rfl⟩
abbrev main_call2_v0 : Ref sig .tc := ⟨.hbm, 533, rfl⟩
abbrev main_call2_v1 : Ref sig .tc := ⟨.hbm, 534, rfl⟩
abbrev main_call2_v2 : Ref sig .tc := ⟨.hbm, 535, rfl⟩
abbrev main_call2_v3 : Ref sig .tc := ⟨.hbm, 536, rfl⟩
abbrev main_call2_v4 : Ref sig .tc := ⟨.hbm, 537, rfl⟩
abbrev main_call2_v5 : Ref sig .tc := ⟨.hbm, 538, rfl⟩
abbrev main_call2_v6 : Ref sig .tc := ⟨.hbm, 539, rfl⟩
abbrev main_call2_v7 : Ref sig .tc := ⟨.hbm, 540, rfl⟩
abbrev main_call2_v8 : Ref sig .tc := ⟨.hbm, 541, rfl⟩
abbrev main_call2_v9 : Ref sig .tc := ⟨.hbm, 542, rfl⟩
abbrev main_call2_c : Ref sig .tc := ⟨.hbm, 543, rfl⟩
abbrev main_call2_v10 : Ref sig .tc := ⟨.hbm, 544, rfl⟩
abbrev main_call2_v11 : Ref sig .tc := ⟨.hbm, 545, rfl⟩
abbrev main_call2_c_0 : Ref sig .tc := ⟨.hbm, 546, rfl⟩
abbrev main_call2_v12 : Ref sig .tc := ⟨.hbm, 547, rfl⟩
abbrev main_call2_v13 : Ref sig .tc := ⟨.hbm, 548, rfl⟩
abbrev main_call2_v14 : Ref sig .tc := ⟨.hbm, 549, rfl⟩
abbrev main_call2_c_1 : Ref sig .tc := ⟨.hbm, 550, rfl⟩
abbrev main_call2_v15 : Ref sig .tc := ⟨.hbm, 551, rfl⟩
abbrev main_call2_v16 : Ref sig .tc := ⟨.hbm, 552, rfl⟩
abbrev main_call2_v17 : Ref sig .tc := ⟨.hbm, 553, rfl⟩
abbrev main_call2_v18 : Ref sig .tc := ⟨.hbm, 554, rfl⟩
abbrev main_call2_call0_v0 : Ref sig .tc := ⟨.hbm, 555, rfl⟩
abbrev main_call2_call0_c : Ref sig .tc := ⟨.hbm, 556, rfl⟩
abbrev main_call2_call0_v1 : Ref sig .tc := ⟨.hbm, 557, rfl⟩
abbrev main_call2_call0_v2 : Ref sig .tc := ⟨.hbm, 558, rfl⟩
abbrev main_call2_call0_v3 : Ref sig .tc := ⟨.hbm, 559, rfl⟩
abbrev main_call2_call0_v4 : Ref sig .tc := ⟨.hbm, 560, rfl⟩
abbrev main_call2_call0_v5 : Ref sig .tc := ⟨.hbm, 561, rfl⟩
abbrev main_call2_call0_v6 : Ref sig .tc := ⟨.hbm, 562, rfl⟩
abbrev main_call2_call0_c_0 : Ref sig .tc := ⟨.hbm, 563, rfl⟩
abbrev main_call2_call0_v7 : Ref sig .tc := ⟨.hbm, 564, rfl⟩
abbrev main_call2_call0_v8 : Ref sig .tc := ⟨.hbm, 565, rfl⟩
abbrev main_call2_call0_c_1 : Ref sig .tc := ⟨.hbm, 566, rfl⟩
abbrev main_call2_call0_v9 : Ref sig .tc := ⟨.hbm, 567, rfl⟩
abbrev main_call2_call0_v10 : Ref sig .tc := ⟨.hbm, 568, rfl⟩
abbrev main_call2_call0_v11 : Ref sig .tc := ⟨.hbm, 569, rfl⟩
abbrev main_call2_call0_v12 : Ref sig .tc := ⟨.hbm, 570, rfl⟩
abbrev main_call2_call0_v13 : Ref sig .tc := ⟨.hbm, 571, rfl⟩
abbrev main_call2_call0_c_2 : Ref sig .tc := ⟨.hbm, 572, rfl⟩
abbrev main_call2_call0_v14 : Ref sig .tc := ⟨.hbm, 573, rfl⟩
abbrev main_call2_call0_v15 : Ref sig .tc := ⟨.hbm, 574, rfl⟩
abbrev main_call2_call0_c_3 : Ref sig .tc := ⟨.hbm, 575, rfl⟩
abbrev main_call2_call0_v16 : Ref sig .tc := ⟨.hbm, 576, rfl⟩
abbrev main_call2_call0_v17 : Ref sig .tc := ⟨.hbm, 577, rfl⟩
abbrev main_call2_call0_v18 : Ref sig .tc := ⟨.hbm, 578, rfl⟩
abbrev main_call2_call0_v19 : Ref sig .tc := ⟨.hbm, 579, rfl⟩
abbrev main_call2_call0_v20 : Ref sig .tc := ⟨.hbm, 580, rfl⟩
abbrev main_call2_call0_c_4 : Ref sig .tc := ⟨.hbm, 581, rfl⟩
abbrev main_call2_call0_v21 : Ref sig .tc := ⟨.hbm, 582, rfl⟩
abbrev main_call2_call0_v22 : Ref sig .tc := ⟨.hbm, 583, rfl⟩
abbrev main_call2_call0_c_5 : Ref sig .tc := ⟨.hbm, 584, rfl⟩
abbrev main_call2_call0_v23 : Ref sig .tc := ⟨.hbm, 585, rfl⟩
abbrev main_call2_call0_v24 : Ref sig .tc := ⟨.hbm, 586, rfl⟩
abbrev main_call2_call0_v25 : Ref sig .tc := ⟨.hbm, 587, rfl⟩
abbrev main_call2_call0_v26 : Ref sig .tc := ⟨.hbm, 588, rfl⟩
abbrev main_call2_call0_v27 : Ref sig .tc := ⟨.hbm, 589, rfl⟩
abbrev main_call2_call0_c_6 : Ref sig .tc := ⟨.hbm, 590, rfl⟩
abbrev main_call2_call0_v28 : Ref sig .tc := ⟨.hbm, 591, rfl⟩
abbrev main_call2_call0_v29 : Ref sig .tc := ⟨.hbm, 592, rfl⟩
abbrev main_call2_call0_c_7 : Ref sig .tc := ⟨.hbm, 593, rfl⟩
abbrev main_call2_call0_v30 : Ref sig .tc := ⟨.hbm, 594, rfl⟩
abbrev main_call2_call0_v31 : Ref sig .tc := ⟨.hbm, 595, rfl⟩
abbrev main_call2_call0_v32 : Ref sig .tc := ⟨.hbm, 596, rfl⟩
abbrev main_call2_call0_v33 : Ref sig .tc := ⟨.hbm, 597, rfl⟩
abbrev main_call2_call0_v34 : Ref sig .tc := ⟨.hbm, 598, rfl⟩
abbrev main_call2_call0_v35 : Ref sig .tc := ⟨.hbm, 599, rfl⟩
abbrev main_call2_call0_v36 : Ref sig .tc := ⟨.hbm, 600, rfl⟩
abbrev main_call2_call0_v37 : Ref sig .tc := ⟨.hbm, 601, rfl⟩
abbrev main_call2_call0_c_8 : Ref sig .tc := ⟨.hbm, 602, rfl⟩
abbrev main_call2_call0_v38 : Ref sig .tc := ⟨.hbm, 603, rfl⟩
abbrev main_call2_call0_v39 : Ref sig .tc := ⟨.hbm, 604, rfl⟩
abbrev main_call2_call0_v40 : Ref sig .tc := ⟨.hbm, 605, rfl⟩
abbrev main_call2_call0_c_9 : Ref sig .tc := ⟨.hbm, 606, rfl⟩
abbrev main_call2_call0_v41 : Ref sig .tc := ⟨.hbm, 607, rfl⟩
abbrev main_call2_call0_v42 : Ref sig .tc := ⟨.hbm, 608, rfl⟩
abbrev main_call2_call0_c_10 : Ref sig .tc := ⟨.hbm, 609, rfl⟩
abbrev main_call2_call0_v43 : Ref sig .tc := ⟨.hbm, 610, rfl⟩
abbrev main_call2_call0_v44 : Ref sig .tc := ⟨.hbm, 611, rfl⟩
abbrev main_call2_call0_v45 : Ref sig .tc := ⟨.hbm, 612, rfl⟩
abbrev main_call2_call0_v46 : Ref sig .tc := ⟨.hbm, 613, rfl⟩
abbrev main_call2_call0_v47 : Ref sig .tc := ⟨.hbm, 614, rfl⟩
abbrev main_call2_call0_c_11 : Ref sig .tc := ⟨.hbm, 615, rfl⟩
abbrev main_call2_call0_v48 : Ref sig .tc := ⟨.hbm, 616, rfl⟩
abbrev main_call2_call0_v49 : Ref sig .tc := ⟨.hbm, 617, rfl⟩
abbrev main_call2_call0_c_12 : Ref sig .tc := ⟨.hbm, 618, rfl⟩
abbrev main_call2_call0_v50 : Ref sig .tc := ⟨.hbm, 619, rfl⟩
abbrev main_call2_call0_v51 : Ref sig .tc := ⟨.hbm, 620, rfl⟩
abbrev main_call2_call0_v52 : Ref sig .tc := ⟨.hbm, 621, rfl⟩
abbrev main_call2_call0_v53 : Ref sig .tc := ⟨.hbm, 622, rfl⟩
abbrev main_call2_call0_v54 : Ref sig .tc := ⟨.hbm, 623, rfl⟩
abbrev main_call2_call0_c_13 : Ref sig .tc := ⟨.hbm, 624, rfl⟩
abbrev main_call2_call0_v55 : Ref sig .tc := ⟨.hbm, 625, rfl⟩
abbrev main_call2_call0_v56 : Ref sig .tc := ⟨.hbm, 626, rfl⟩
abbrev main_call2_call0_c_14 : Ref sig .tc := ⟨.hbm, 627, rfl⟩
abbrev main_call2_call0_v57 : Ref sig .tc := ⟨.hbm, 628, rfl⟩
abbrev main_call2_call0_v58 : Ref sig .tc := ⟨.hbm, 629, rfl⟩
abbrev main_call2_call0_v59 : Ref sig .tc := ⟨.hbm, 630, rfl⟩
abbrev main_call2_call0_v60 : Ref sig .tc := ⟨.hbm, 631, rfl⟩
abbrev main_call2_call0_v61 : Ref sig .tc := ⟨.hbm, 632, rfl⟩
abbrev main_call2_call0_c_15 : Ref sig .tc := ⟨.hbm, 633, rfl⟩
abbrev main_call2_call0_v62 : Ref sig .tc := ⟨.hbm, 634, rfl⟩
abbrev main_call2_call0_v63 : Ref sig .tc := ⟨.hbm, 635, rfl⟩
abbrev main_call2_call0_c_16 : Ref sig .tc := ⟨.hbm, 636, rfl⟩
abbrev main_call2_call0_v64 : Ref sig .tc := ⟨.hbm, 637, rfl⟩
abbrev main_call2_call0_v65 : Ref sig .tc := ⟨.hbm, 638, rfl⟩
abbrev main_call2_call0_v66 : Ref sig .tc := ⟨.hbm, 639, rfl⟩
abbrev main_call2_call0_v67 : Ref sig .tc := ⟨.hbm, 640, rfl⟩
abbrev main_call2_call0_v68 : Ref sig .tc := ⟨.hbm, 641, rfl⟩
abbrev main_call2_call0_v69 : Ref sig .tc := ⟨.hbm, 642, rfl⟩
abbrev main_call2_call0_v70 : Ref sig .tc := ⟨.hbm, 643, rfl⟩
abbrev main_call2_call0_v71 : Ref sig .tc := ⟨.hbm, 644, rfl⟩
abbrev main_call2_call0_c_17 : Ref sig .tc := ⟨.hbm, 645, rfl⟩
abbrev main_call2_call0_v72 : Ref sig .tc := ⟨.hbm, 646, rfl⟩
abbrev main_call2_call0_v73 : Ref sig .tc := ⟨.hbm, 647, rfl⟩
abbrev main_call2_call0_v74 : Ref sig .tc := ⟨.hbm, 648, rfl⟩
abbrev main_call2_call0_c_18 : Ref sig .tc := ⟨.hbm, 649, rfl⟩
abbrev main_call2_call0_v75 : Ref sig .tc := ⟨.hbm, 650, rfl⟩
abbrev main_call2_call0_v76 : Ref sig .tc := ⟨.hbm, 651, rfl⟩
abbrev main_call2_call0_c_19 : Ref sig .tc := ⟨.hbm, 652, rfl⟩
abbrev main_call2_call0_v77 : Ref sig .tc := ⟨.hbm, 653, rfl⟩
abbrev main_call2_call0_v78 : Ref sig .tc := ⟨.hbm, 654, rfl⟩
abbrev main_call2_call0_v79 : Ref sig .tc := ⟨.hbm, 655, rfl⟩
abbrev main_call2_call0_v80 : Ref sig .tc := ⟨.hbm, 656, rfl⟩
abbrev main_call2_call0_v81 : Ref sig .tc := ⟨.hbm, 657, rfl⟩
abbrev main_call2_call0_c_20 : Ref sig .tc := ⟨.hbm, 658, rfl⟩
abbrev main_call2_call0_v82 : Ref sig .tc := ⟨.hbm, 659, rfl⟩
abbrev main_call2_call0_v83 : Ref sig .tc := ⟨.hbm, 660, rfl⟩
abbrev main_call2_call0_c_21 : Ref sig .tc := ⟨.hbm, 661, rfl⟩
abbrev main_call2_call0_v84 : Ref sig .tc := ⟨.hbm, 662, rfl⟩
abbrev main_call2_call0_v85 : Ref sig .tc := ⟨.hbm, 663, rfl⟩
abbrev main_call2_call0_v86 : Ref sig .tc := ⟨.hbm, 664, rfl⟩
abbrev main_call2_call0_v87 : Ref sig .tc := ⟨.hbm, 665, rfl⟩
abbrev main_call2_call0_v88 : Ref sig .tc := ⟨.hbm, 666, rfl⟩
abbrev main_call2_call0_c_22 : Ref sig .tc := ⟨.hbm, 667, rfl⟩
abbrev main_call2_call0_v89 : Ref sig .tc := ⟨.hbm, 668, rfl⟩
abbrev main_call2_call0_v90 : Ref sig .tc := ⟨.hbm, 669, rfl⟩
abbrev main_call2_call0_c_23 : Ref sig .tc := ⟨.hbm, 670, rfl⟩
abbrev main_call2_call0_v91 : Ref sig .tc := ⟨.hbm, 671, rfl⟩
abbrev main_call2_call0_v92 : Ref sig .tc := ⟨.hbm, 672, rfl⟩
abbrev main_call2_call0_v93 : Ref sig .tc := ⟨.hbm, 673, rfl⟩
abbrev main_call2_call0_v94 : Ref sig .tc := ⟨.hbm, 674, rfl⟩
abbrev main_call2_call0_v95 : Ref sig .tc := ⟨.hbm, 675, rfl⟩
abbrev main_call2_call0_c_24 : Ref sig .tc := ⟨.hbm, 676, rfl⟩
abbrev main_call2_call0_v96 : Ref sig .tc := ⟨.hbm, 677, rfl⟩
abbrev main_call2_call0_v97 : Ref sig .tc := ⟨.hbm, 678, rfl⟩
abbrev main_call2_call0_c_25 : Ref sig .tc := ⟨.hbm, 679, rfl⟩
abbrev main_call2_call0_v98 : Ref sig .tc := ⟨.hbm, 680, rfl⟩
abbrev main_call2_call0_v99 : Ref sig .tc := ⟨.hbm, 681, rfl⟩
abbrev main_call2_call0_v100 : Ref sig .tc := ⟨.hbm, 682, rfl⟩
abbrev main_call2_call0_v101 : Ref sig .tc := ⟨.hbm, 683, rfl⟩
abbrev main_call2_call0_v102 : Ref sig .tc := ⟨.hbm, 684, rfl⟩
abbrev main_call2_call0_v103 : Ref sig .tc := ⟨.hbm, 685, rfl⟩
abbrev main_call2_call0_v104 : Ref sig .tc := ⟨.hbm, 686, rfl⟩
abbrev main_call2_call0_v105 : Ref sig .tc := ⟨.hbm, 687, rfl⟩
abbrev main_call2_call0_c_26 : Ref sig .tc := ⟨.hbm, 688, rfl⟩
abbrev main_call2_call0_v106 : Ref sig .tc := ⟨.hbm, 689, rfl⟩
abbrev main_call2_call0_v107 : Ref sig .tc := ⟨.hbm, 690, rfl⟩
abbrev main_call2_call0_v108 : Ref sig .tc := ⟨.hbm, 691, rfl⟩
abbrev main_call2_call0_c_27 : Ref sig .tc := ⟨.hbm, 692, rfl⟩
abbrev main_call2_call0_v109 : Ref sig .tc := ⟨.hbm, 693, rfl⟩
abbrev main_call2_call0_v110 : Ref sig .tc := ⟨.hbm, 694, rfl⟩
abbrev main_call2_call0_c_28 : Ref sig .tc := ⟨.hbm, 695, rfl⟩
abbrev main_call2_call0_v111 : Ref sig .tc := ⟨.hbm, 696, rfl⟩
abbrev main_call2_call0_v112 : Ref sig .tc := ⟨.hbm, 697, rfl⟩
abbrev main_call2_call0_v113 : Ref sig .tc := ⟨.hbm, 698, rfl⟩
abbrev main_call2_call0_v114 : Ref sig .tc := ⟨.hbm, 699, rfl⟩
abbrev main_call2_call0_v115 : Ref sig .tc := ⟨.hbm, 700, rfl⟩
abbrev main_call2_call0_c_29 : Ref sig .tc := ⟨.hbm, 701, rfl⟩
abbrev main_call2_call0_v116 : Ref sig .tc := ⟨.hbm, 702, rfl⟩
abbrev main_call2_call0_v117 : Ref sig .tc := ⟨.hbm, 703, rfl⟩
abbrev main_call2_call0_c_30 : Ref sig .tc := ⟨.hbm, 704, rfl⟩
abbrev main_call2_call0_v118 : Ref sig .tc := ⟨.hbm, 705, rfl⟩
abbrev main_call2_call0_v119 : Ref sig .tc := ⟨.hbm, 706, rfl⟩
abbrev main_call2_call0_v120 : Ref sig .tc := ⟨.hbm, 707, rfl⟩
abbrev main_call2_call0_v121 : Ref sig .tc := ⟨.hbm, 708, rfl⟩
abbrev main_call2_call0_v122 : Ref sig .tc := ⟨.hbm, 709, rfl⟩
abbrev main_call2_call0_c_31 : Ref sig .tc := ⟨.hbm, 710, rfl⟩
abbrev main_call2_call0_v123 : Ref sig .tc := ⟨.hbm, 711, rfl⟩
abbrev main_call2_call0_v124 : Ref sig .tc := ⟨.hbm, 712, rfl⟩
abbrev main_call2_call0_c_32 : Ref sig .tc := ⟨.hbm, 713, rfl⟩
abbrev main_call2_call0_v125 : Ref sig .tc := ⟨.hbm, 714, rfl⟩
abbrev main_call2_call0_v126 : Ref sig .tc := ⟨.hbm, 715, rfl⟩
abbrev main_call2_call0_v127 : Ref sig .tc := ⟨.hbm, 716, rfl⟩
abbrev main_call2_call0_v128 : Ref sig .tc := ⟨.hbm, 717, rfl⟩
abbrev main_call2_call0_v129 : Ref sig .tc := ⟨.hbm, 718, rfl⟩
abbrev main_call2_call0_c_33 : Ref sig .tc := ⟨.hbm, 719, rfl⟩
abbrev main_call2_call0_v130 : Ref sig .tc := ⟨.hbm, 720, rfl⟩
abbrev main_call2_call0_v131 : Ref sig .tc := ⟨.hbm, 721, rfl⟩
abbrev main_call2_call0_c_34 : Ref sig .tc := ⟨.hbm, 722, rfl⟩
abbrev main_call2_call0_v132 : Ref sig .tc := ⟨.hbm, 723, rfl⟩
abbrev main_call2_call0_v133 : Ref sig .tc := ⟨.hbm, 724, rfl⟩
abbrev main_call2_call0_v134 : Ref sig .tc := ⟨.hbm, 725, rfl⟩
abbrev main_call2_call0_v135 : Ref sig .tc := ⟨.hbm, 726, rfl⟩
abbrev main_call2_call0_v136 : Ref sig .tc := ⟨.hbm, 727, rfl⟩
abbrev main_call2_call0_v137 : Ref sig .tc := ⟨.hbm, 728, rfl⟩
abbrev main_call2_call0_v138 : Ref sig .tc := ⟨.hbm, 729, rfl⟩
abbrev main_call2_call0_v139 : Ref sig .tc := ⟨.hbm, 730, rfl⟩
abbrev main_call2_call0_c_35 : Ref sig .tc := ⟨.hbm, 731, rfl⟩
abbrev main_call2_call0_v140 : Ref sig .tc := ⟨.hbm, 732, rfl⟩
abbrev main_call2_call0_v141 : Ref sig .tc := ⟨.hbm, 733, rfl⟩
abbrev main_call2_call0_v142 : Ref sig .tc := ⟨.hbm, 734, rfl⟩
abbrev main_call2_call0_c_36 : Ref sig .tc := ⟨.hbm, 735, rfl⟩
abbrev main_call2_call0_v143 : Ref sig .tc := ⟨.hbm, 736, rfl⟩
abbrev main_call2_call0_v144 : Ref sig .tc := ⟨.hbm, 737, rfl⟩
abbrev main_call2_call0_c_37 : Ref sig .tc := ⟨.hbm, 738, rfl⟩
abbrev main_call2_call0_v145 : Ref sig .tc := ⟨.hbm, 739, rfl⟩
abbrev main_call2_call0_v146 : Ref sig .tc := ⟨.hbm, 740, rfl⟩
abbrev main_call2_call0_v147 : Ref sig .tc := ⟨.hbm, 741, rfl⟩
abbrev main_call2_call0_v148 : Ref sig .tc := ⟨.hbm, 742, rfl⟩
abbrev main_call2_call0_v149 : Ref sig .tc := ⟨.hbm, 743, rfl⟩
abbrev main_call2_call0_c_38 : Ref sig .tc := ⟨.hbm, 744, rfl⟩
abbrev main_call2_call0_v150 : Ref sig .tc := ⟨.hbm, 745, rfl⟩
abbrev main_call2_call0_v151 : Ref sig .tc := ⟨.hbm, 746, rfl⟩
abbrev main_call2_call0_c_39 : Ref sig .tc := ⟨.hbm, 747, rfl⟩
abbrev main_call2_call0_v152 : Ref sig .tc := ⟨.hbm, 748, rfl⟩
abbrev main_call2_call0_v153 : Ref sig .tc := ⟨.hbm, 749, rfl⟩
abbrev main_call2_call0_v154 : Ref sig .tc := ⟨.hbm, 750, rfl⟩
abbrev main_call2_call0_v155 : Ref sig .tc := ⟨.hbm, 751, rfl⟩
abbrev main_call2_call0_v156 : Ref sig .tc := ⟨.hbm, 752, rfl⟩
abbrev main_call2_call0_c_40 : Ref sig .tc := ⟨.hbm, 753, rfl⟩
abbrev main_call2_call0_v157 : Ref sig .tc := ⟨.hbm, 754, rfl⟩
abbrev main_call2_call0_v158 : Ref sig .tc := ⟨.hbm, 755, rfl⟩
abbrev main_call2_call0_c_41 : Ref sig .tc := ⟨.hbm, 756, rfl⟩
abbrev main_call2_call0_v159 : Ref sig .tc := ⟨.hbm, 757, rfl⟩
abbrev main_call2_call0_v160 : Ref sig .tc := ⟨.hbm, 758, rfl⟩
abbrev main_call2_call0_v161 : Ref sig .tc := ⟨.hbm, 759, rfl⟩
abbrev main_call2_call0_v162 : Ref sig .tc := ⟨.hbm, 760, rfl⟩
abbrev main_call2_call0_v163 : Ref sig .tc := ⟨.hbm, 761, rfl⟩
abbrev main_call2_call0_c_42 : Ref sig .tc := ⟨.hbm, 762, rfl⟩
abbrev main_call2_call0_v164 : Ref sig .tc := ⟨.hbm, 763, rfl⟩
abbrev main_call2_call0_v165 : Ref sig .tc := ⟨.hbm, 764, rfl⟩
abbrev main_call2_call0_c_43 : Ref sig .tc := ⟨.hbm, 765, rfl⟩
abbrev main_call2_call0_v166 : Ref sig .tc := ⟨.hbm, 766, rfl⟩
abbrev main_call2_call0_v167 : Ref sig .tc := ⟨.hbm, 767, rfl⟩
abbrev main_call2_call0_v168 : Ref sig .tc := ⟨.hbm, 768, rfl⟩
abbrev main_call2_call0_v169 : Ref sig .tc := ⟨.hbm, 769, rfl⟩
abbrev main_call2_call0_v170 : Ref sig .tc := ⟨.hbm, 770, rfl⟩
abbrev main_call2_v19_0 : Ref sig .tc := ⟨.hbm, 771, rfl⟩
abbrev main_call2_call0_v172 : Ref sig .tc := ⟨.hbm, 772, rfl⟩
abbrev main_call2_call0_v173 : Ref sig .tc := ⟨.hbm, 773, rfl⟩
abbrev main_call2_call0_c_44 : Ref sig .tc := ⟨.hbm, 774, rfl⟩
abbrev main_call2_call0_v174 : Ref sig .tc := ⟨.hbm, 775, rfl⟩
abbrev main_call2_v19_1 : Ref sig .tc := ⟨.hbm, 776, rfl⟩
abbrev main_call2_v20 : Ref sig .tc := ⟨.hbm, 777, rfl⟩
abbrev main_call2_c_2 : Ref sig .tc := ⟨.hbm, 778, rfl⟩
abbrev main_call2_v21 : Ref sig .tc := ⟨.hbm, 779, rfl⟩
abbrev main_call2_v22 : Ref sig .tc := ⟨.hbm, 780, rfl⟩
abbrev main_call2_c_3 : Ref sig .tc := ⟨.hbm, 781, rfl⟩
abbrev main_call2_v23 : Ref sig .tc := ⟨.hbm, 782, rfl⟩
abbrev main_call2_v24 : Ref sig .tc := ⟨.hbm, 783, rfl⟩
abbrev main_call2_v25 : Ref sig .tc := ⟨.hbm, 784, rfl⟩
abbrev main_call2_cst : Ref sig .tc := ⟨.hbm, 785, rfl⟩
abbrev main_call2_v26 : Ref sig .tc := ⟨.hbm, 786, rfl⟩
abbrev main_call2_v27 : Ref sig .tc := ⟨.hbm, 787, rfl⟩
abbrev main_call2_v28 : Ref sig .tc := ⟨.hbm, 788, rfl⟩
abbrev main_call2_v29 : Ref sig .tc := ⟨.hbm, 789, rfl⟩
abbrev main_call2_v30 : Ref sig .tc := ⟨.hbm, 790, rfl⟩
abbrev main_call2_v31 : Ref sig .tc := ⟨.hbm, 791, rfl⟩
abbrev main_call2_v32 : Ref sig .tc := ⟨.hbm, 792, rfl⟩
abbrev main_call2_v33 : Ref sig .tc := ⟨.hbm, 793, rfl⟩
abbrev main_v25 : Ref sig .tc := ⟨.hbm, 794, rfl⟩
abbrev main_v26 : Ref sig .tc := ⟨.hbm, 795, rfl⟩
abbrev main_cst_6 : Ref sig .tc := ⟨.hbm, 796, rfl⟩
abbrev main_cst_7 : Ref sig .tc := ⟨.hbm, 797, rfl⟩
abbrev main_call3_v0 : Ref sig .tc := ⟨.hbm, 798, rfl⟩
abbrev main_call3_v1 : Ref sig .tc := ⟨.hbm, 799, rfl⟩
abbrev main_call3_v2 : Ref sig .tc := ⟨.hbm, 800, rfl⟩
abbrev main_call3_v3 : Ref sig .tc := ⟨.hbm, 801, rfl⟩
abbrev main_call3_v4 : Ref sig .tc := ⟨.hbm, 802, rfl⟩
abbrev main_call3_v5 : Ref sig .tc := ⟨.hbm, 803, rfl⟩
abbrev main_call3_v6 : Ref sig .tc := ⟨.hbm, 804, rfl⟩
abbrev main_call3_v7 : Ref sig .tc := ⟨.hbm, 805, rfl⟩
abbrev main_call3_v8 : Ref sig .tc := ⟨.hbm, 806, rfl⟩
abbrev main_call3_v9 : Ref sig .tc := ⟨.hbm, 807, rfl⟩
abbrev main_call3_c : Ref sig .tc := ⟨.hbm, 808, rfl⟩
abbrev main_call3_v10 : Ref sig .tc := ⟨.hbm, 809, rfl⟩
abbrev main_call3_v11 : Ref sig .tc := ⟨.hbm, 810, rfl⟩
abbrev main_call3_c_0 : Ref sig .tc := ⟨.hbm, 811, rfl⟩
abbrev main_call3_v12 : Ref sig .tc := ⟨.hbm, 812, rfl⟩
abbrev main_call3_v13 : Ref sig .tc := ⟨.hbm, 813, rfl⟩
abbrev main_call3_v14 : Ref sig .tc := ⟨.hbm, 814, rfl⟩
abbrev main_call3_c_1 : Ref sig .tc := ⟨.hbm, 815, rfl⟩
abbrev main_call3_v15 : Ref sig .tc := ⟨.hbm, 816, rfl⟩
abbrev main_call3_v16 : Ref sig .tc := ⟨.hbm, 817, rfl⟩
abbrev main_call3_v17 : Ref sig .tc := ⟨.hbm, 818, rfl⟩
abbrev main_call3_v18 : Ref sig .tc := ⟨.hbm, 819, rfl⟩
abbrev main_call3_call0_v0 : Ref sig .tc := ⟨.hbm, 820, rfl⟩
abbrev main_call3_call0_c : Ref sig .tc := ⟨.hbm, 821, rfl⟩
abbrev main_call3_call0_v1 : Ref sig .tc := ⟨.hbm, 822, rfl⟩
abbrev main_call3_call0_v2 : Ref sig .tc := ⟨.hbm, 823, rfl⟩
abbrev main_call3_call0_v3 : Ref sig .tc := ⟨.hbm, 824, rfl⟩
abbrev main_call3_call0_v4 : Ref sig .tc := ⟨.hbm, 825, rfl⟩
abbrev main_call3_call0_v5 : Ref sig .tc := ⟨.hbm, 826, rfl⟩
abbrev main_call3_call0_v6 : Ref sig .tc := ⟨.hbm, 827, rfl⟩
abbrev main_call3_call0_c_0 : Ref sig .tc := ⟨.hbm, 828, rfl⟩
abbrev main_call3_call0_v7 : Ref sig .tc := ⟨.hbm, 829, rfl⟩
abbrev main_call3_call0_v8 : Ref sig .tc := ⟨.hbm, 830, rfl⟩
abbrev main_call3_call0_c_1 : Ref sig .tc := ⟨.hbm, 831, rfl⟩
abbrev main_call3_call0_v9 : Ref sig .tc := ⟨.hbm, 832, rfl⟩
abbrev main_call3_call0_v10 : Ref sig .tc := ⟨.hbm, 833, rfl⟩
abbrev main_call3_call0_v11 : Ref sig .tc := ⟨.hbm, 834, rfl⟩
abbrev main_call3_call0_v12 : Ref sig .tc := ⟨.hbm, 835, rfl⟩
abbrev main_call3_call0_v13 : Ref sig .tc := ⟨.hbm, 836, rfl⟩
abbrev main_call3_call0_c_2 : Ref sig .tc := ⟨.hbm, 837, rfl⟩
abbrev main_call3_call0_v14 : Ref sig .tc := ⟨.hbm, 838, rfl⟩
abbrev main_call3_call0_v15 : Ref sig .tc := ⟨.hbm, 839, rfl⟩
abbrev main_call3_call0_c_3 : Ref sig .tc := ⟨.hbm, 840, rfl⟩
abbrev main_call3_call0_v16 : Ref sig .tc := ⟨.hbm, 841, rfl⟩
abbrev main_call3_call0_v17 : Ref sig .tc := ⟨.hbm, 842, rfl⟩
abbrev main_call3_call0_v18 : Ref sig .tc := ⟨.hbm, 843, rfl⟩
abbrev main_call3_call0_v19 : Ref sig .tc := ⟨.hbm, 844, rfl⟩
abbrev main_call3_call0_v20 : Ref sig .tc := ⟨.hbm, 845, rfl⟩
abbrev main_call3_call0_c_4 : Ref sig .tc := ⟨.hbm, 846, rfl⟩
abbrev main_call3_call0_v21 : Ref sig .tc := ⟨.hbm, 847, rfl⟩
abbrev main_call3_call0_v22 : Ref sig .tc := ⟨.hbm, 848, rfl⟩
abbrev main_call3_call0_c_5 : Ref sig .tc := ⟨.hbm, 849, rfl⟩
abbrev main_call3_call0_v23 : Ref sig .tc := ⟨.hbm, 850, rfl⟩
abbrev main_call3_call0_v24 : Ref sig .tc := ⟨.hbm, 851, rfl⟩
abbrev main_call3_call0_v25 : Ref sig .tc := ⟨.hbm, 852, rfl⟩
abbrev main_call3_call0_v26 : Ref sig .tc := ⟨.hbm, 853, rfl⟩
abbrev main_call3_call0_v27 : Ref sig .tc := ⟨.hbm, 854, rfl⟩
abbrev main_call3_call0_c_6 : Ref sig .tc := ⟨.hbm, 855, rfl⟩
abbrev main_call3_call0_v28 : Ref sig .tc := ⟨.hbm, 856, rfl⟩
abbrev main_call3_call0_v29 : Ref sig .tc := ⟨.hbm, 857, rfl⟩
abbrev main_call3_call0_c_7 : Ref sig .tc := ⟨.hbm, 858, rfl⟩
abbrev main_call3_call0_v30 : Ref sig .tc := ⟨.hbm, 859, rfl⟩
abbrev main_call3_call0_v31 : Ref sig .tc := ⟨.hbm, 860, rfl⟩
abbrev main_call3_call0_v32 : Ref sig .tc := ⟨.hbm, 861, rfl⟩
abbrev main_call3_call0_v33 : Ref sig .tc := ⟨.hbm, 862, rfl⟩
abbrev main_call3_call0_v34 : Ref sig .tc := ⟨.hbm, 863, rfl⟩
abbrev main_call3_call0_v35 : Ref sig .tc := ⟨.hbm, 864, rfl⟩
abbrev main_call3_call0_v36 : Ref sig .tc := ⟨.hbm, 865, rfl⟩
abbrev main_call3_call0_v37 : Ref sig .tc := ⟨.hbm, 866, rfl⟩
abbrev main_call3_call0_c_8 : Ref sig .tc := ⟨.hbm, 867, rfl⟩
abbrev main_call3_call0_v38 : Ref sig .tc := ⟨.hbm, 868, rfl⟩
abbrev main_call3_call0_v39 : Ref sig .tc := ⟨.hbm, 869, rfl⟩
abbrev main_call3_call0_v40 : Ref sig .tc := ⟨.hbm, 870, rfl⟩
abbrev main_call3_call0_c_9 : Ref sig .tc := ⟨.hbm, 871, rfl⟩
abbrev main_call3_call0_v41 : Ref sig .tc := ⟨.hbm, 872, rfl⟩
abbrev main_call3_call0_v42 : Ref sig .tc := ⟨.hbm, 873, rfl⟩
abbrev main_call3_call0_c_10 : Ref sig .tc := ⟨.hbm, 874, rfl⟩
abbrev main_call3_call0_v43 : Ref sig .tc := ⟨.hbm, 875, rfl⟩
abbrev main_call3_call0_v44 : Ref sig .tc := ⟨.hbm, 876, rfl⟩
abbrev main_call3_call0_v45 : Ref sig .tc := ⟨.hbm, 877, rfl⟩
abbrev main_call3_call0_v46 : Ref sig .tc := ⟨.hbm, 878, rfl⟩
abbrev main_call3_call0_v47 : Ref sig .tc := ⟨.hbm, 879, rfl⟩
abbrev main_call3_call0_c_11 : Ref sig .tc := ⟨.hbm, 880, rfl⟩
abbrev main_call3_call0_v48 : Ref sig .tc := ⟨.hbm, 881, rfl⟩
abbrev main_call3_call0_v49 : Ref sig .tc := ⟨.hbm, 882, rfl⟩
abbrev main_call3_call0_c_12 : Ref sig .tc := ⟨.hbm, 883, rfl⟩
abbrev main_call3_call0_v50 : Ref sig .tc := ⟨.hbm, 884, rfl⟩
abbrev main_call3_call0_v51 : Ref sig .tc := ⟨.hbm, 885, rfl⟩
abbrev main_call3_call0_v52 : Ref sig .tc := ⟨.hbm, 886, rfl⟩
abbrev main_call3_call0_v53 : Ref sig .tc := ⟨.hbm, 887, rfl⟩
abbrev main_call3_call0_v54 : Ref sig .tc := ⟨.hbm, 888, rfl⟩
abbrev main_call3_call0_c_13 : Ref sig .tc := ⟨.hbm, 889, rfl⟩
abbrev main_call3_call0_v55 : Ref sig .tc := ⟨.hbm, 890, rfl⟩
abbrev main_call3_call0_v56 : Ref sig .tc := ⟨.hbm, 891, rfl⟩
abbrev main_call3_call0_c_14 : Ref sig .tc := ⟨.hbm, 892, rfl⟩
abbrev main_call3_call0_v57 : Ref sig .tc := ⟨.hbm, 893, rfl⟩
abbrev main_call3_call0_v58 : Ref sig .tc := ⟨.hbm, 894, rfl⟩
abbrev main_call3_call0_v59 : Ref sig .tc := ⟨.hbm, 895, rfl⟩
abbrev main_call3_call0_v60 : Ref sig .tc := ⟨.hbm, 896, rfl⟩
abbrev main_call3_call0_v61 : Ref sig .tc := ⟨.hbm, 897, rfl⟩
abbrev main_call3_call0_c_15 : Ref sig .tc := ⟨.hbm, 898, rfl⟩
abbrev main_call3_call0_v62 : Ref sig .tc := ⟨.hbm, 899, rfl⟩
abbrev main_call3_call0_v63 : Ref sig .tc := ⟨.hbm, 900, rfl⟩
abbrev main_call3_call0_c_16 : Ref sig .tc := ⟨.hbm, 901, rfl⟩
abbrev main_call3_call0_v64 : Ref sig .tc := ⟨.hbm, 902, rfl⟩
abbrev main_call3_call0_v65 : Ref sig .tc := ⟨.hbm, 903, rfl⟩
abbrev main_call3_call0_v66 : Ref sig .tc := ⟨.hbm, 904, rfl⟩
abbrev main_call3_call0_v67 : Ref sig .tc := ⟨.hbm, 905, rfl⟩
abbrev main_call3_call0_v68 : Ref sig .tc := ⟨.hbm, 906, rfl⟩
abbrev main_call3_call0_v69 : Ref sig .tc := ⟨.hbm, 907, rfl⟩
abbrev main_call3_call0_v70 : Ref sig .tc := ⟨.hbm, 908, rfl⟩
abbrev main_call3_call0_v71 : Ref sig .tc := ⟨.hbm, 909, rfl⟩
abbrev main_call3_call0_c_17 : Ref sig .tc := ⟨.hbm, 910, rfl⟩
abbrev main_call3_call0_v72 : Ref sig .tc := ⟨.hbm, 911, rfl⟩
abbrev main_call3_call0_v73 : Ref sig .tc := ⟨.hbm, 912, rfl⟩
abbrev main_call3_call0_v74 : Ref sig .tc := ⟨.hbm, 913, rfl⟩
abbrev main_call3_call0_c_18 : Ref sig .tc := ⟨.hbm, 914, rfl⟩
abbrev main_call3_call0_v75 : Ref sig .tc := ⟨.hbm, 915, rfl⟩
abbrev main_call3_call0_v76 : Ref sig .tc := ⟨.hbm, 916, rfl⟩
abbrev main_call3_call0_c_19 : Ref sig .tc := ⟨.hbm, 917, rfl⟩
abbrev main_call3_call0_v77 : Ref sig .tc := ⟨.hbm, 918, rfl⟩
abbrev main_call3_call0_v78 : Ref sig .tc := ⟨.hbm, 919, rfl⟩
abbrev main_call3_call0_v79 : Ref sig .tc := ⟨.hbm, 920, rfl⟩
abbrev main_call3_call0_v80 : Ref sig .tc := ⟨.hbm, 921, rfl⟩
abbrev main_call3_call0_v81 : Ref sig .tc := ⟨.hbm, 922, rfl⟩
abbrev main_call3_call0_c_20 : Ref sig .tc := ⟨.hbm, 923, rfl⟩
abbrev main_call3_call0_v82 : Ref sig .tc := ⟨.hbm, 924, rfl⟩
abbrev main_call3_call0_v83 : Ref sig .tc := ⟨.hbm, 925, rfl⟩
abbrev main_call3_call0_c_21 : Ref sig .tc := ⟨.hbm, 926, rfl⟩
abbrev main_call3_call0_v84 : Ref sig .tc := ⟨.hbm, 927, rfl⟩
abbrev main_call3_call0_v85 : Ref sig .tc := ⟨.hbm, 928, rfl⟩
abbrev main_call3_call0_v86 : Ref sig .tc := ⟨.hbm, 929, rfl⟩
abbrev main_call3_call0_v87 : Ref sig .tc := ⟨.hbm, 930, rfl⟩
abbrev main_call3_call0_v88 : Ref sig .tc := ⟨.hbm, 931, rfl⟩
abbrev main_call3_call0_c_22 : Ref sig .tc := ⟨.hbm, 932, rfl⟩
abbrev main_call3_call0_v89 : Ref sig .tc := ⟨.hbm, 933, rfl⟩
abbrev main_call3_call0_v90 : Ref sig .tc := ⟨.hbm, 934, rfl⟩
abbrev main_call3_call0_c_23 : Ref sig .tc := ⟨.hbm, 935, rfl⟩
abbrev main_call3_call0_v91 : Ref sig .tc := ⟨.hbm, 936, rfl⟩
abbrev main_call3_call0_v92 : Ref sig .tc := ⟨.hbm, 937, rfl⟩
abbrev main_call3_call0_v93 : Ref sig .tc := ⟨.hbm, 938, rfl⟩
abbrev main_call3_call0_v94 : Ref sig .tc := ⟨.hbm, 939, rfl⟩
abbrev main_call3_call0_v95 : Ref sig .tc := ⟨.hbm, 940, rfl⟩
abbrev main_call3_call0_c_24 : Ref sig .tc := ⟨.hbm, 941, rfl⟩
abbrev main_call3_call0_v96 : Ref sig .tc := ⟨.hbm, 942, rfl⟩
abbrev main_call3_call0_v97 : Ref sig .tc := ⟨.hbm, 943, rfl⟩
abbrev main_call3_call0_c_25 : Ref sig .tc := ⟨.hbm, 944, rfl⟩
abbrev main_call3_call0_v98 : Ref sig .tc := ⟨.hbm, 945, rfl⟩
abbrev main_call3_call0_v99 : Ref sig .tc := ⟨.hbm, 946, rfl⟩
abbrev main_call3_call0_v100 : Ref sig .tc := ⟨.hbm, 947, rfl⟩
abbrev main_call3_call0_v101 : Ref sig .tc := ⟨.hbm, 948, rfl⟩
abbrev main_call3_call0_v102 : Ref sig .tc := ⟨.hbm, 949, rfl⟩
abbrev main_call3_call0_v103 : Ref sig .tc := ⟨.hbm, 950, rfl⟩
abbrev main_call3_call0_v104 : Ref sig .tc := ⟨.hbm, 951, rfl⟩
abbrev main_call3_call0_v105 : Ref sig .tc := ⟨.hbm, 952, rfl⟩
abbrev main_call3_call0_c_26 : Ref sig .tc := ⟨.hbm, 953, rfl⟩
abbrev main_call3_call0_v106 : Ref sig .tc := ⟨.hbm, 954, rfl⟩
abbrev main_call3_call0_v107 : Ref sig .tc := ⟨.hbm, 955, rfl⟩
abbrev main_call3_call0_v108 : Ref sig .tc := ⟨.hbm, 956, rfl⟩
abbrev main_call3_call0_c_27 : Ref sig .tc := ⟨.hbm, 957, rfl⟩
abbrev main_call3_call0_v109 : Ref sig .tc := ⟨.hbm, 958, rfl⟩
abbrev main_call3_call0_v110 : Ref sig .tc := ⟨.hbm, 959, rfl⟩
abbrev main_call3_call0_c_28 : Ref sig .tc := ⟨.hbm, 960, rfl⟩
abbrev main_call3_call0_v111 : Ref sig .tc := ⟨.hbm, 961, rfl⟩
abbrev main_call3_call0_v112 : Ref sig .tc := ⟨.hbm, 962, rfl⟩
abbrev main_call3_call0_v113 : Ref sig .tc := ⟨.hbm, 963, rfl⟩
abbrev main_call3_call0_v114 : Ref sig .tc := ⟨.hbm, 964, rfl⟩
abbrev main_call3_call0_v115 : Ref sig .tc := ⟨.hbm, 965, rfl⟩
abbrev main_call3_call0_c_29 : Ref sig .tc := ⟨.hbm, 966, rfl⟩
abbrev main_call3_call0_v116 : Ref sig .tc := ⟨.hbm, 967, rfl⟩
abbrev main_call3_call0_v117 : Ref sig .tc := ⟨.hbm, 968, rfl⟩
abbrev main_call3_call0_c_30 : Ref sig .tc := ⟨.hbm, 969, rfl⟩
abbrev main_call3_call0_v118 : Ref sig .tc := ⟨.hbm, 970, rfl⟩
abbrev main_call3_call0_v119 : Ref sig .tc := ⟨.hbm, 971, rfl⟩
abbrev main_call3_call0_v120 : Ref sig .tc := ⟨.hbm, 972, rfl⟩
abbrev main_call3_call0_v121 : Ref sig .tc := ⟨.hbm, 973, rfl⟩
abbrev main_call3_call0_v122 : Ref sig .tc := ⟨.hbm, 974, rfl⟩
abbrev main_call3_call0_c_31 : Ref sig .tc := ⟨.hbm, 975, rfl⟩
abbrev main_call3_call0_v123 : Ref sig .tc := ⟨.hbm, 976, rfl⟩
abbrev main_call3_call0_v124 : Ref sig .tc := ⟨.hbm, 977, rfl⟩
abbrev main_call3_call0_c_32 : Ref sig .tc := ⟨.hbm, 978, rfl⟩
abbrev main_call3_call0_v125 : Ref sig .tc := ⟨.hbm, 979, rfl⟩
abbrev main_call3_call0_v126 : Ref sig .tc := ⟨.hbm, 980, rfl⟩
abbrev main_call3_call0_v127 : Ref sig .tc := ⟨.hbm, 981, rfl⟩
abbrev main_call3_call0_v128 : Ref sig .tc := ⟨.hbm, 982, rfl⟩
abbrev main_call3_call0_v129 : Ref sig .tc := ⟨.hbm, 983, rfl⟩
abbrev main_call3_call0_c_33 : Ref sig .tc := ⟨.hbm, 984, rfl⟩
abbrev main_call3_call0_v130 : Ref sig .tc := ⟨.hbm, 985, rfl⟩
abbrev main_call3_call0_v131 : Ref sig .tc := ⟨.hbm, 986, rfl⟩
abbrev main_call3_call0_c_34 : Ref sig .tc := ⟨.hbm, 987, rfl⟩
abbrev main_call3_call0_v132 : Ref sig .tc := ⟨.hbm, 988, rfl⟩
abbrev main_call3_call0_v133 : Ref sig .tc := ⟨.hbm, 989, rfl⟩
abbrev main_call3_call0_v134 : Ref sig .tc := ⟨.hbm, 990, rfl⟩
abbrev main_call3_call0_v135 : Ref sig .tc := ⟨.hbm, 991, rfl⟩
abbrev main_call3_call0_v136 : Ref sig .tc := ⟨.hbm, 992, rfl⟩
abbrev main_call3_call0_v137 : Ref sig .tc := ⟨.hbm, 993, rfl⟩
abbrev main_call3_call0_v138 : Ref sig .tc := ⟨.hbm, 994, rfl⟩
abbrev main_call3_call0_v139 : Ref sig .tc := ⟨.hbm, 995, rfl⟩
abbrev main_call3_call0_c_35 : Ref sig .tc := ⟨.hbm, 996, rfl⟩
abbrev main_call3_call0_v140 : Ref sig .tc := ⟨.hbm, 997, rfl⟩
abbrev main_call3_call0_v141 : Ref sig .tc := ⟨.hbm, 998, rfl⟩
abbrev main_call3_call0_v142 : Ref sig .tc := ⟨.hbm, 999, rfl⟩
abbrev main_call3_call0_c_36 : Ref sig .tc := ⟨.hbm, 1000, rfl⟩
abbrev main_call3_call0_v143 : Ref sig .tc := ⟨.hbm, 1001, rfl⟩
abbrev main_call3_call0_v144 : Ref sig .tc := ⟨.hbm, 1002, rfl⟩
abbrev main_call3_call0_c_37 : Ref sig .tc := ⟨.hbm, 1003, rfl⟩
abbrev main_call3_call0_v145 : Ref sig .tc := ⟨.hbm, 1004, rfl⟩
abbrev main_call3_call0_v146 : Ref sig .tc := ⟨.hbm, 1005, rfl⟩
abbrev main_call3_call0_v147 : Ref sig .tc := ⟨.hbm, 1006, rfl⟩
abbrev main_call3_call0_v148 : Ref sig .tc := ⟨.hbm, 1007, rfl⟩
abbrev main_call3_call0_v149 : Ref sig .tc := ⟨.hbm, 1008, rfl⟩
abbrev main_call3_call0_c_38 : Ref sig .tc := ⟨.hbm, 1009, rfl⟩
abbrev main_call3_call0_v150 : Ref sig .tc := ⟨.hbm, 1010, rfl⟩
abbrev main_call3_call0_v151 : Ref sig .tc := ⟨.hbm, 1011, rfl⟩
abbrev main_call3_call0_c_39 : Ref sig .tc := ⟨.hbm, 1012, rfl⟩
abbrev main_call3_call0_v152 : Ref sig .tc := ⟨.hbm, 1013, rfl⟩
abbrev main_call3_call0_v153 : Ref sig .tc := ⟨.hbm, 1014, rfl⟩
abbrev main_call3_call0_v154 : Ref sig .tc := ⟨.hbm, 1015, rfl⟩
abbrev main_call3_call0_v155 : Ref sig .tc := ⟨.hbm, 1016, rfl⟩
abbrev main_call3_call0_v156 : Ref sig .tc := ⟨.hbm, 1017, rfl⟩
abbrev main_call3_call0_c_40 : Ref sig .tc := ⟨.hbm, 1018, rfl⟩
abbrev main_call3_call0_v157 : Ref sig .tc := ⟨.hbm, 1019, rfl⟩
abbrev main_call3_call0_v158 : Ref sig .tc := ⟨.hbm, 1020, rfl⟩
abbrev main_call3_call0_c_41 : Ref sig .tc := ⟨.hbm, 1021, rfl⟩
abbrev main_call3_call0_v159 : Ref sig .tc := ⟨.hbm, 1022, rfl⟩
abbrev main_call3_call0_v160 : Ref sig .tc := ⟨.hbm, 1023, rfl⟩
abbrev main_call3_call0_v161 : Ref sig .tc := ⟨.hbm, 1024, rfl⟩
abbrev main_call3_call0_v162 : Ref sig .tc := ⟨.hbm, 1025, rfl⟩
abbrev main_call3_call0_v163 : Ref sig .tc := ⟨.hbm, 1026, rfl⟩
abbrev main_call3_call0_c_42 : Ref sig .tc := ⟨.hbm, 1027, rfl⟩
abbrev main_call3_call0_v164 : Ref sig .tc := ⟨.hbm, 1028, rfl⟩
abbrev main_call3_call0_v165 : Ref sig .tc := ⟨.hbm, 1029, rfl⟩
abbrev main_call3_call0_c_43 : Ref sig .tc := ⟨.hbm, 1030, rfl⟩
abbrev main_call3_call0_v166 : Ref sig .tc := ⟨.hbm, 1031, rfl⟩
abbrev main_call3_call0_v167 : Ref sig .tc := ⟨.hbm, 1032, rfl⟩
abbrev main_call3_call0_v168 : Ref sig .tc := ⟨.hbm, 1033, rfl⟩
abbrev main_call3_call0_v169 : Ref sig .tc := ⟨.hbm, 1034, rfl⟩
abbrev main_call3_call0_v170 : Ref sig .tc := ⟨.hbm, 1035, rfl⟩
abbrev main_call3_v19_0 : Ref sig .tc := ⟨.hbm, 1036, rfl⟩
abbrev main_call3_call0_v172 : Ref sig .tc := ⟨.hbm, 1037, rfl⟩
abbrev main_call3_call0_v173 : Ref sig .tc := ⟨.hbm, 1038, rfl⟩
abbrev main_call3_call0_c_44 : Ref sig .tc := ⟨.hbm, 1039, rfl⟩
abbrev main_call3_call0_v174 : Ref sig .tc := ⟨.hbm, 1040, rfl⟩
abbrev main_call3_v19_1 : Ref sig .tc := ⟨.hbm, 1041, rfl⟩
abbrev main_call3_v20 : Ref sig .tc := ⟨.hbm, 1042, rfl⟩
abbrev main_call3_c_2 : Ref sig .tc := ⟨.hbm, 1043, rfl⟩
abbrev main_call3_v21 : Ref sig .tc := ⟨.hbm, 1044, rfl⟩
abbrev main_call3_v22 : Ref sig .tc := ⟨.hbm, 1045, rfl⟩
abbrev main_call3_c_3 : Ref sig .tc := ⟨.hbm, 1046, rfl⟩
abbrev main_call3_v23 : Ref sig .tc := ⟨.hbm, 1047, rfl⟩
abbrev main_call3_v24 : Ref sig .tc := ⟨.hbm, 1048, rfl⟩
abbrev main_call3_v25 : Ref sig .tc := ⟨.hbm, 1049, rfl⟩
abbrev main_call3_cst : Ref sig .tc := ⟨.hbm, 1050, rfl⟩
abbrev main_call3_v26 : Ref sig .tc := ⟨.hbm, 1051, rfl⟩
abbrev main_call3_v27 : Ref sig .tc := ⟨.hbm, 1052, rfl⟩
abbrev main_call3_v28 : Ref sig .tc := ⟨.hbm, 1053, rfl⟩
abbrev main_call3_v29 : Ref sig .tc := ⟨.hbm, 1054, rfl⟩
abbrev main_call3_v30 : Ref sig .tc := ⟨.hbm, 1055, rfl⟩
abbrev main_call3_v31 : Ref sig .tc := ⟨.hbm, 1056, rfl⟩
abbrev main_call3_v32 : Ref sig .tc := ⟨.hbm, 1057, rfl⟩
abbrev main_call3_v33 : Ref sig .tc := ⟨.hbm, 1058, rfl⟩
abbrev main_v27 : Ref sig .tc := ⟨.hbm, 1059, rfl⟩
abbrev main_v28 : Ref sig .tc := ⟨.hbm, 1060, rfl⟩
abbrev main_v29 : Ref sig .tc := ⟨.hbm, 1061, rfl⟩
abbrev main_v30 : Ref sig .tc := ⟨.hbm, 1062, rfl⟩
abbrev main_v31 : Ref sig .tc := ⟨.hbm, 1063, rfl⟩
abbrev main_v32 : Ref sig .tc := ⟨.hbm, 1064, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S65536x8 : Shape := ⟨2, ![65536, 8]⟩
abbrev S65536x128 : Shape := ⟨2, ![65536, 128]⟩
abbrev S65536x1 : Shape := ⟨2, ![65536, 1]⟩
abbrev S_ : Shape := ⟨0, ![]⟩
abbrev S1 : Shape := ⟨1, ![1]⟩
abbrev S2 : Shape := ⟨1, ![2]⟩
abbrev S3 : Shape := ⟨1, ![3]⟩
abbrev S3x1 : Shape := ⟨2, ![3, 1]⟩
abbrev S3x2 : Shape := ⟨2, ![3, 2]⟩
abbrev S1x2 : Shape := ⟨2, ![1, 2]⟩
abbrev S127 : Shape := ⟨1, ![127]⟩
abbrev S128 : Shape := ⟨1, ![128]⟩
abbrev S1x128 : Shape := ⟨2, ![1, 128]⟩
abbrev S1x1 : Shape := ⟨2, ![1, 1]⟩
abbrev S65536 : Shape := ⟨1, ![65536]⟩
abbrev S65536x129 : Shape := ⟨2, ![65536, 129]⟩
abbrev S65536x64 : Shape := ⟨2, ![65536, 64]⟩
abbrev S65536x1x129 : Shape := ⟨3, ![65536, 1, 129]⟩
abbrev S65536x64x1 : Shape := ⟨3, ![65536, 64, 1]⟩
abbrev S65536x64x129 : Shape := ⟨3, ![65536, 64, 129]⟩
abbrev S65536x192 : Shape := ⟨2, ![65536, 192]⟩

abbrev nBuf : Space → Nat
  | .hbm => 1131
  | .vmem => 0
  | .smem => 0
  | _ => 0

abbrev hbmTy0_0 (i : Nat) : BufTy := match i % 128 with
  | 0 => ⟨S65536x8, .f32⟩
  | 1 => ⟨S65536x128, .f32⟩
  | 2 => ⟨S65536x1, .f32⟩
  | 3 => ⟨S65536x1, .f32⟩
  | 4 => ⟨S_, .i32⟩
  | 5 => ⟨S_, .i32⟩
  | 6 => ⟨S_, .i32⟩
  | 7 => ⟨S_, .i32⟩
  | 8 => ⟨S1, .i32⟩
  | 9 => ⟨S_, .i32⟩
  | 10 => ⟨S_, .i32⟩
  | 11 => ⟨S_, .i32⟩
  | 12 => ⟨S1, .i32⟩
  | 13 => ⟨S2, .i32⟩
  | 14 => ⟨S1, .i32⟩
  | 15 => ⟨S_, .i32⟩
  | 16 => ⟨S1, .i32⟩
  | 17 => ⟨S_, .i32⟩
  | 18 => ⟨S3, .i64⟩
  | 19 => ⟨S_, .i64⟩
  | 20 => ⟨S3, .i64⟩
  | 21 => ⟨S3, .i64⟩
  | 22 => ⟨S_, .i64⟩
  | 23 => ⟨S3, .i64⟩
  | 24 => ⟨S3, .i64⟩
  | 25 => ⟨S3, .i32⟩
  | 26 => ⟨S3, .i32⟩
  | 27 => ⟨S_, .i32⟩
  | 28 => ⟨S_, .i32⟩
  | 29 => ⟨S_, .i32⟩
  | 30 => ⟨S3, .i32⟩
  | 31 => ⟨S3, .i32⟩
  | 32 => ⟨S3, .i32⟩
  | 33 => ⟨S3, .i32⟩
  | 34 => ⟨S3, .i32⟩
  | 35 => ⟨S_, .i32⟩
  | 36 => ⟨S3, .i32⟩
  | 37 => ⟨S3, .i32⟩
  | 38 => ⟨S_, .i32⟩
  | 39 => ⟨S3, .i32⟩
  | 40 => ⟨S3, .i32⟩
  | 41 => ⟨S3, .i32⟩
  | 42 => ⟨S3, .i32⟩
  | 43 => ⟨S3, .i32⟩
  | 44 => ⟨S_, .i32⟩
  | 45 => ⟨S3, .i32⟩
  | 46 => ⟨S3, .i32⟩
  | 47 => ⟨S_, .i32⟩
  | 48 => ⟨S3, .i32⟩
  | 49 => ⟨S3, .i32⟩
  | 50 => ⟨S3, .i32⟩
  | 51 => ⟨S3, .i32⟩
  | 52 => ⟨S3, .i32⟩
  | 53 => ⟨S_, .i32⟩
  | 54 => ⟨S3, .i32⟩
  | 55 => ⟨S3, .i32⟩
  | 56 => ⟨S_, .i32⟩
  | 57 => ⟨S3, .i32⟩
  | 58 => ⟨S3, .i32⟩
  | 59 => ⟨S3, .i32⟩
  | 60 => ⟨S3, .i32⟩
  | 61 => ⟨S3, .i32⟩
  | 62 => ⟨S_, .i32⟩
  | 63 => ⟨S3, .i32⟩
  | 64 => ⟨S3, .i32⟩
  | 65 => ⟨S_, .i32⟩
  | 66 => ⟨S3, .i32⟩
  | 67 => ⟨S3, .i32⟩
  | 68 => ⟨S3, .i32⟩
  | 69 => ⟨S3, .i32⟩
  | 70 => ⟨S3, .i32⟩
  | 71 => ⟨S3, .i32⟩
  | 72 => ⟨S3, .i32⟩
  | 73 => ⟨S3, .i32⟩
  | 74 => ⟨S_, .i32⟩
  | 75 => ⟨S3, .i32⟩
  | 76 => ⟨S3, .i32⟩
  | 77 => ⟨S3, .i32⟩
  | 78 => ⟨S_, .i32⟩
  | 79 => ⟨S3, .i32⟩
  | 80 => ⟨S3, .i32⟩
  | 81 => ⟨S_, .i32⟩
  | 82 => ⟨S3, .i32⟩
  | 83 => ⟨S3, .i32⟩
  | 84 => ⟨S3, .i32⟩
  | 85 => ⟨S3, .i32⟩
  | 86 => ⟨S3, .i32⟩
  | 87 => ⟨S_, .i32⟩
  | 88 => ⟨S3, .i32⟩
  | 89 => ⟨S3, .i32⟩
  | 90 => ⟨S_, .i32⟩
  | 91 => ⟨S3, .i32⟩
  | 92 => ⟨S3, .i32⟩
  | 93 => ⟨S3, .i32⟩
  | 94 => ⟨S3, .i32⟩
  | 95 => ⟨S3, .i32⟩
  | 96 => ⟨S_, .i32⟩
  | 97 => ⟨S3, .i32⟩
  | 98 => ⟨S3, .i32⟩
  | 99 => ⟨S_, .i32⟩
  | 100 => ⟨S3, .i32⟩
  | 101 => ⟨S3, .i32⟩
  | 102 => ⟨S3, .i32⟩
  | 103 => ⟨S3, .i32⟩
  | 104 => ⟨S3, .i32⟩
  | 105 => ⟨S_, .i32⟩
  | 106 => ⟨S3, .i32⟩
  | 107 => ⟨S3, .i32⟩
  | 108 => ⟨S_, .i32⟩
  | 109 => ⟨S3, .i32⟩
  | 110 => ⟨S3, .i32⟩
  | 111 => ⟨S3, .i32⟩
  | 112 => ⟨S3, .i32⟩
  | 113 => ⟨S3, .i32⟩
  | 114 => ⟨S3, .i32⟩
  | 115 => ⟨S3, .i32⟩
  | 116 => ⟨S3, .i32⟩
  | 117 => ⟨S_, .i32⟩
  | 118 => ⟨S3, .i32⟩
  | 119 => ⟨S3, .i32⟩
  | 120 => ⟨S3, .i32⟩
  | 121 => ⟨S_, .i32⟩
  | 122 => ⟨S3, .i32⟩
  | 123 => ⟨S3, .i32⟩
  | 124 => ⟨S_, .i32⟩
  | 125 => ⟨S3, .i32⟩
  | 126 => ⟨S3, .i32⟩
  | 127 => ⟨S3, .i32⟩
  | _ => ⟨S65536x8, .f32⟩

abbrev hbmTy0_1 (i : Nat) : BufTy := match i % 128 with
  | 0 => ⟨S3, .i32⟩
  | 1 => ⟨S3, .i32⟩
  | 2 => ⟨S_, .i32⟩
  | 3 => ⟨S3, .i32⟩
  | 4 => ⟨S3, .i32⟩
  | 5 => ⟨S_, .i32⟩
  | 6 => ⟨S3, .i32⟩
  | 7 => ⟨S3, .i32⟩
  | 8 => ⟨S3, .i32⟩
  | 9 => ⟨S3, .i32⟩
  | 10 => ⟨S3, .i32⟩
  | 11 => ⟨S_, .i32⟩
  | 12 => ⟨S3, .i32⟩
  | 13 => ⟨S3, .i32⟩
  | 14 => ⟨S_, .i32⟩
  | 15 => ⟨S3, .i32⟩
  | 16 => ⟨S3, .i32⟩
  | 17 => ⟨S3, .i32⟩
  | 18 => ⟨S3, .i32⟩
  | 19 => ⟨S3, .i32⟩
  | 20 => ⟨S_, .i32⟩
  | 21 => ⟨S3, .i32⟩
  | 22 => ⟨S3, .i32⟩
  | 23 => ⟨S_, .i32⟩
  | 24 => ⟨S3, .i32⟩
  | 25 => ⟨S3, .i32⟩
  | 26 => ⟨S3, .i32⟩
  | 27 => ⟨S3, .i32⟩
  | 28 => ⟨S3, .i32⟩
  | 29 => ⟨S3, .i32⟩
  | 30 => ⟨S3, .i32⟩
  | 31 => ⟨S3, .i32⟩
  | 32 => ⟨S_, .i32⟩
  | 33 => ⟨S3, .i32⟩
  | 34 => ⟨S3, .i32⟩
  | 35 => ⟨S3, .i32⟩
  | 36 => ⟨S_, .i32⟩
  | 37 => ⟨S3, .i32⟩
  | 38 => ⟨S3, .i32⟩
  | 39 => ⟨S_, .i32⟩
  | 40 => ⟨S3, .i32⟩
  | 41 => ⟨S3, .i32⟩
  | 42 => ⟨S3, .i32⟩
  | 43 => ⟨S3, .i32⟩
  | 44 => ⟨S3, .i32⟩
  | 45 => ⟨S_, .i32⟩
  | 46 => ⟨S3, .i32⟩
  | 47 => ⟨S3, .i32⟩
  | 48 => ⟨S_, .i32⟩
  | 49 => ⟨S3, .i32⟩
  | 50 => ⟨S3, .i32⟩
  | 51 => ⟨S3, .i32⟩
  | 52 => ⟨S3, .i32⟩
  | 53 => ⟨S3, .i32⟩
  | 54 => ⟨S_, .i32⟩
  | 55 => ⟨S3, .i32⟩
  | 56 => ⟨S3, .i32⟩
  | 57 => ⟨S_, .i32⟩
  | 58 => ⟨S3, .i32⟩
  | 59 => ⟨S3, .i32⟩
  | 60 => ⟨S3, .i32⟩
  | 61 => ⟨S3, .i32⟩
  | 62 => ⟨S3, .i32⟩
  | 63 => ⟨S_, .i32⟩
  | 64 => ⟨S3, .i32⟩
  | 65 => ⟨S3, .i32⟩
  | 66 => ⟨S_, .i32⟩
  | 67 => ⟨S3, .i32⟩
  | 68 => ⟨S3, .i32⟩
  | 69 => ⟨S3, .i32⟩
  | 70 => ⟨S3, .i32⟩
  | 71 => ⟨S3, .i32⟩
  | 72 => ⟨S3, .i32⟩
  | 73 => ⟨S3, .i32⟩
  | 74 => ⟨S3, .i32⟩
  | 75 => ⟨S_, .i32⟩
  | 76 => ⟨S3, .i32⟩
  | 77 => ⟨S3, .i32⟩
  | 78 => ⟨S3, .i32⟩
  | 79 => ⟨S_, .i32⟩
  | 80 => ⟨S3, .i32⟩
  | 81 => ⟨S3, .i32⟩
  | 82 => ⟨S_, .i32⟩
  | 83 => ⟨S3, .i32⟩
  | 84 => ⟨S3, .i32⟩
  | 85 => ⟨S3, .i32⟩
  | 86 => ⟨S3, .i32⟩
  | 87 => ⟨S3, .i32⟩
  | 88 => ⟨S_, .i32⟩
  | 89 => ⟨S3, .i32⟩
  | 90 => ⟨S3, .i32⟩
  | 91 => ⟨S_, .i32⟩
  | 92 => ⟨S3, .i32⟩
  | 93 => ⟨S3, .i32⟩
  | 94 => ⟨S3, .i32⟩
  | 95 => ⟨S3, .i32⟩
  | 96 => ⟨S3, .i32⟩
  | 97 => ⟨S_, .i32⟩
  | 98 => ⟨S3, .i32⟩
  | 99 => ⟨S3, .i32⟩
  | 100 => ⟨S_, .i32⟩
  | 101 => ⟨S3, .i32⟩
  | 102 => ⟨S3, .i32⟩
  | 103 => ⟨S3, .i32⟩
  | 104 => ⟨S3, .i32⟩
  | 105 => ⟨S3, .i32⟩
  | 106 => ⟨S_, .i32⟩
  | 107 => ⟨S3, .i32⟩
  | 108 => ⟨S3, .i32⟩
  | 109 => ⟨S_, .i32⟩
  | 110 => ⟨S3, .i32⟩
  | 111 => ⟨S3, .i32⟩
  | 112 => ⟨S3, .i32⟩
  | 113 => ⟨S3, .i32⟩
  | 114 => ⟨S3, .i32⟩
  | 115 => ⟨S3, .i32⟩
  | 116 => ⟨S3, .i32⟩
  | 117 => ⟨S3, .i32⟩
  | 118 => ⟨S_, .i32⟩
  | 119 => ⟨S3, .i32⟩
  | 120 => ⟨S3, .i32⟩
  | 121 => ⟨S3x1, .i32⟩
  | 122 => ⟨S3x1, .i32⟩
  | 123 => ⟨S3x2, .i32⟩
  | 124 => ⟨S1x2, .i32⟩
  | 125 => ⟨S2, .i32⟩
  | 126 => ⟨S1x2, .i32⟩
  | 127 => ⟨S2, .i32⟩
  | _ => ⟨S65536x8, .f32⟩

abbrev hbmTy0_2 (i : Nat) : BufTy := match i % 128 with
  | 0 => ⟨S1x2, .i32⟩
  | 1 => ⟨S2, .i32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S127, .f32⟩
  | 10 => ⟨S_, .f32⟩
  | 11 => ⟨S127, .f32⟩
  | 12 => ⟨S127, .f32⟩
  | 13 => ⟨S1, .f32⟩
  | 14 => ⟨S_, .f32⟩
  | 15 => ⟨S127, .f32⟩
  | 16 => ⟨S127, .f32⟩
  | 17 => ⟨S127, .f32⟩
  | 18 => ⟨S127, .f32⟩
  | 19 => ⟨S1, .f32⟩
  | 20 => ⟨S127, .f32⟩
  | 21 => ⟨S127, .f32⟩
  | 22 => ⟨S127, .f32⟩
  | 23 => ⟨S1, .f32⟩
  | 24 => ⟨S128, .f32⟩
  | 25 => ⟨S1x128, .f32⟩
  | 26 => ⟨S65536x128, .f32⟩
  | 27 => ⟨S_, .f32⟩
  | 28 => ⟨S_, .f32⟩
  | 29 => ⟨S_, .f32⟩
  | 30 => ⟨S_, .f32⟩
  | 31 => ⟨S1x1, .f32⟩
  | 32 => ⟨S1x1, .f32⟩
  | 33 => ⟨S1, .i32⟩
  | 34 => ⟨S_, .i32⟩
  | 35 => ⟨S1, .i32⟩
  | 36 => ⟨S_, .i32⟩
  | 37 => ⟨S65536x128, .i64⟩
  | 38 => ⟨S65536x128, .i64⟩
  | 39 => ⟨S_, .i64⟩
  | 40 => ⟨S65536x128, .i64⟩
  | 41 => ⟨S65536x128, .i64⟩
  | 42 => ⟨S_, .i64⟩
  | 43 => ⟨S65536x128, .i64⟩
  | 44 => ⟨S65536x128, .i64⟩
  | 45 => ⟨S65536x128, .i64⟩
  | 46 => ⟨S_, .i64⟩
  | 47 => ⟨S65536x128, .i64⟩
  | 48 => ⟨S65536x128, .i64⟩
  | 49 => ⟨S65536x128, .i32⟩
  | 50 => ⟨S65536x128, .i32⟩
  | 51 => ⟨S_, .i32⟩
  | 52 => ⟨S_, .i32⟩
  | 53 => ⟨S_, .i32⟩
  | 54 => ⟨S65536x128, .i32⟩
  | 55 => ⟨S65536x128, .i32⟩
  | 56 => ⟨S65536x128, .i32⟩
  | 57 => ⟨S65536x128, .i32⟩
  | 58 => ⟨S65536x128, .i32⟩
  | 59 => ⟨S_, .i32⟩
  | 60 => ⟨S65536x128, .i32⟩
  | 61 => ⟨S65536x128, .i32⟩
  | 62 => ⟨S_, .i32⟩
  | 63 => ⟨S65536x128, .i32⟩
  | 64 => ⟨S65536x128, .i32⟩
  | 65 => ⟨S65536x128, .i32⟩
  | 66 => ⟨S65536x128, .i32⟩
  | 67 => ⟨S65536x128, .i32⟩
  | 68 => ⟨S_, .i32⟩
  | 69 => ⟨S65536x128, .i32⟩
  | 70 => ⟨S65536x128, .i32⟩
  | 71 => ⟨S_, .i32⟩
  | 72 => ⟨S65536x128, .i32⟩
  | 73 => ⟨S65536x128, .i32⟩
  | 74 => ⟨S65536x128, .i32⟩
  | 75 => ⟨S65536x128, .i32⟩
  | 76 => ⟨S65536x128, .i32⟩
  | 77 => ⟨S_, .i32⟩
  | 78 => ⟨S65536x128, .i32⟩
  | 79 => ⟨S65536x128, .i32⟩
  | 80 => ⟨S_, .i32⟩
  | 81 => ⟨S65536x128, .i32⟩
  | 82 => ⟨S65536x128, .i32⟩
  | 83 => ⟨S65536x128, .i32⟩
  | 84 => ⟨S65536x128, .i32⟩
  | 85 => ⟨S65536x128, .i32⟩
  | 86 => ⟨S_, .i32⟩
  | 87 => ⟨S65536x128, .i32⟩
  | 88 => ⟨S65536x128, .i32⟩
  | 89 => ⟨S_, .i32⟩
  | 90 => ⟨S65536x128, .i32⟩
  | 91 => ⟨S65536x128, .i32⟩
  | 92 => ⟨S65536x128, .i32⟩
  | 93 => ⟨S65536x128, .i32⟩
  | 94 => ⟨S65536x128, .i32⟩
  | 95 => ⟨S65536x128, .i32⟩
  | 96 => ⟨S65536x128, .i32⟩
  | 97 => ⟨S65536x128, .i32⟩
  | 98 => ⟨S_, .i32⟩
  | 99 => ⟨S65536x128, .i32⟩
  | 100 => ⟨S65536x128, .i32⟩
  | 101 => ⟨S65536x128, .i32⟩
  | 102 => ⟨S_, .i32⟩
  | 103 => ⟨S65536x128, .i32⟩
  | 104 => ⟨S65536x128, .i32⟩
  | 105 => ⟨S_, .i32⟩
  | 106 => ⟨S65536x128, .i32⟩
  | 107 => ⟨S65536x128, .i32⟩
  | 108 => ⟨S65536x128, .i32⟩
  | 109 => ⟨S65536x128, .i32⟩
  | 110 => ⟨S65536x128, .i32⟩
  | 111 => ⟨S_, .i32⟩
  | 112 => ⟨S65536x128, .i32⟩
  | 113 => ⟨S65536x128, .i32⟩
  | 114 => ⟨S_, .i32⟩
  | 115 => ⟨S65536x128, .i32⟩
  | 116 => ⟨S65536x128, .i32⟩
  | 117 => ⟨S65536x128, .i32⟩
  | 118 => ⟨S65536x128, .i32⟩
  | 119 => ⟨S65536x128, .i32⟩
  | 120 => ⟨S_, .i32⟩
  | 121 => ⟨S65536x128, .i32⟩
  | 122 => ⟨S65536x128, .i32⟩
  | 123 => ⟨S_, .i32⟩
  | 124 => ⟨S65536x128, .i32⟩
  | 125 => ⟨S65536x128, .i32⟩
  | 126 => ⟨S65536x128, .i32⟩
  | 127 => ⟨S65536x128, .i32⟩
  | _ => ⟨S65536x8, .f32⟩

abbrev hbmTy0_3 (i : Nat) : BufTy := match i % 128 with
  | 0 => ⟨S65536x128, .i32⟩
  | 1 => ⟨S_, .i32⟩
  | 2 => ⟨S65536x128, .i32⟩
  | 3 => ⟨S65536x128, .i32⟩
  | 4 => ⟨S_, .i32⟩
  | 5 => ⟨S65536x128, .i32⟩
  | 6 => ⟨S65536x128, .i32⟩
  | 7 => ⟨S65536x128, .i32⟩
  | 8 => ⟨S65536x128, .i32⟩
  | 9 => ⟨S65536x128, .i32⟩
  | 10 => ⟨S65536x128, .i32⟩
  | 11 => ⟨S65536x128, .i32⟩
  | 12 => ⟨S65536x128, .i32⟩
  | 13 => ⟨S_, .i32⟩
  | 14 => ⟨S65536x128, .i32⟩
  | 15 => ⟨S65536x128, .i32⟩
  | 16 => ⟨S65536x128, .i32⟩
  | 17 => ⟨S_, .i32⟩
  | 18 => ⟨S65536x128, .i32⟩
  | 19 => ⟨S65536x128, .i32⟩
  | 20 => ⟨S_, .i32⟩
  | 21 => ⟨S65536x128, .i32⟩
  | 22 => ⟨S65536x128, .i32⟩
  | 23 => ⟨S65536x128, .i32⟩
  | 24 => ⟨S65536x128, .i32⟩
  | 25 => ⟨S65536x128, .i32⟩
  | 26 => ⟨S_, .i32⟩
  | 27 => ⟨S65536x128, .i32⟩
  | 28 => ⟨S65536x128, .i32⟩
  | 29 => ⟨S_, .i32⟩
  | 30 => ⟨S65536x128, .i32⟩
  | 31 => ⟨S65536x128, .i32⟩
  | 32 => ⟨S65536x128, .i32⟩
  | 33 => ⟨S65536x128, .i32⟩
  | 34 => ⟨S65536x128, .i32⟩
  | 35 => ⟨S_, .i32⟩
  | 36 => ⟨S65536x128, .i32⟩
  | 37 => ⟨S65536x128, .i32⟩
  | 38 => ⟨S_, .i32⟩
  | 39 => ⟨S65536x128, .i32⟩
  | 40 => ⟨S65536x128, .i32⟩
  | 41 => ⟨S65536x128, .i32⟩
  | 42 => ⟨S65536x128, .i32⟩
  | 43 => ⟨S65536x128, .i32⟩
  | 44 => ⟨S_, .i32⟩
  | 45 => ⟨S65536x128, .i32⟩
  | 46 => ⟨S65536x128, .i32⟩
  | 47 => ⟨S_, .i32⟩
  | 48 => ⟨S65536x128, .i32⟩
  | 49 => ⟨S65536x128, .i32⟩
  | 50 => ⟨S65536x128, .i32⟩
  | 51 => ⟨S65536x128, .i32⟩
  | 52 => ⟨S65536x128, .i32⟩
  | 53 => ⟨S65536x128, .i32⟩
  | 54 => ⟨S65536x128, .i32⟩
  | 55 => ⟨S65536x128, .i32⟩
  | 56 => ⟨S_, .i32⟩
  | 57 => ⟨S65536x128, .i32⟩
  | 58 => ⟨S65536x128, .i32⟩
  | 59 => ⟨S65536x128, .i32⟩
  | 60 => ⟨S_, .i32⟩
  | 61 => ⟨S65536x128, .i32⟩
  | 62 => ⟨S65536x128, .i32⟩
  | 63 => ⟨S_, .i32⟩
  | 64 => ⟨S65536x128, .i32⟩
  | 65 => ⟨S65536x128, .i32⟩
  | 66 => ⟨S65536x128, .i32⟩
  | 67 => ⟨S65536x128, .i32⟩
  | 68 => ⟨S65536x128, .i32⟩
  | 69 => ⟨S_, .i32⟩
  | 70 => ⟨S65536x128, .i32⟩
  | 71 => ⟨S65536x128, .i32⟩
  | 72 => ⟨S_, .i32⟩
  | 73 => ⟨S65536x128, .i32⟩
  | 74 => ⟨S65536x128, .i32⟩
  | 75 => ⟨S65536x128, .i32⟩
  | 76 => ⟨S65536x128, .i32⟩
  | 77 => ⟨S65536x128, .i32⟩
  | 78 => ⟨S_, .i32⟩
  | 79 => ⟨S65536x128, .i32⟩
  | 80 => ⟨S65536x128, .i32⟩
  | 81 => ⟨S_, .i32⟩
  | 82 => ⟨S65536x128, .i32⟩
  | 83 => ⟨S65536x128, .i32⟩
  | 84 => ⟨S65536x128, .i32⟩
  | 85 => ⟨S65536x128, .i32⟩
  | 86 => ⟨S65536x128, .i32⟩
  | 87 => ⟨S_, .i32⟩
  | 88 => ⟨S65536x128, .i32⟩
  | 89 => ⟨S65536x128, .i32⟩
  | 90 => ⟨S_, .i32⟩
  | 91 => ⟨S65536x128, .i32⟩
  | 92 => ⟨S65536x128, .i32⟩
  | 93 => ⟨S65536x128, .i32⟩
  | 94 => ⟨S65536x128, .i32⟩
  | 95 => ⟨S65536x128, .i32⟩
  | 96 => ⟨S65536x128, .i32⟩
  | 97 => ⟨S65536x128, .i32⟩
  | 98 => ⟨S65536x128, .i32⟩
  | 99 => ⟨S_, .i32⟩
  | 100 => ⟨S65536x128, .i32⟩
  | 101 => ⟨S65536x128, .i32⟩
  | 102 => ⟨S65536x128, .i32⟩
  | 103 => ⟨S_, .i32⟩
  | 104 => ⟨S65536x128, .i32⟩
  | 105 => ⟨S65536x128, .i32⟩
  | 106 => ⟨S_, .i32⟩
  | 107 => ⟨S65536x128, .i32⟩
  | 108 => ⟨S65536x128, .i32⟩
  | 109 => ⟨S65536x128, .i32⟩
  | 110 => ⟨S65536x128, .i32⟩
  | 111 => ⟨S65536x128, .i32⟩
  | 112 => ⟨S_, .i32⟩
  | 113 => ⟨S65536x128, .i32⟩
  | 114 => ⟨S65536x128, .i32⟩
  | 115 => ⟨S_, .i32⟩
  | 116 => ⟨S65536x128, .i32⟩
  | 117 => ⟨S65536x128, .i32⟩
  | 118 => ⟨S65536x128, .i32⟩
  | 119 => ⟨S65536x128, .i32⟩
  | 120 => ⟨S65536x128, .i32⟩
  | 121 => ⟨S_, .i32⟩
  | 122 => ⟨S65536x128, .i32⟩
  | 123 => ⟨S65536x128, .i32⟩
  | 124 => ⟨S_, .i32⟩
  | 125 => ⟨S65536x128, .i32⟩
  | 126 => ⟨S65536x128, .i32⟩
  | 127 => ⟨S65536x128, .i32⟩
  | _ => ⟨S65536x8, .f32⟩

abbrev hbmTy0_4 (i : Nat) : BufTy := match i % 128 with
  | 0 => ⟨S65536x128, .i32⟩
  | 1 => ⟨S65536x128, .i32⟩
  | 2 => ⟨S_, .i32⟩
  | 3 => ⟨S65536x128, .i32⟩
  | 4 => ⟨S65536x128, .i32⟩
  | 5 => ⟨S_, .i32⟩
  | 6 => ⟨S65536x128, .i32⟩
  | 7 => ⟨S65536x128, .i32⟩
  | 8 => ⟨S65536x128, .i32⟩
  | 9 => ⟨S65536x128, .i32⟩
  | 10 => ⟨S65536x128, .i32⟩
  | 11 => ⟨S65536x128, .i32⟩
  | 12 => ⟨S65536x128, .i32⟩
  | 13 => ⟨S65536x128, .i32⟩
  | 14 => ⟨S_, .i32⟩
  | 15 => ⟨S65536x128, .i32⟩
  | 16 => ⟨S65536x128, .i32⟩
  | 17 => ⟨S65536x128, .i32⟩
  | 18 => ⟨S_, .i32⟩
  | 19 => ⟨S65536x128, .i32⟩
  | 20 => ⟨S65536x128, .i32⟩
  | 21 => ⟨S_, .i32⟩
  | 22 => ⟨S65536x128, .i32⟩
  | 23 => ⟨S65536x128, .i32⟩
  | 24 => ⟨S65536x128, .f32⟩
  | 25 => ⟨S_, .f32⟩
  | 26 => ⟨S65536x128, .f32⟩
  | 27 => ⟨S65536x128, .f32⟩
  | 28 => ⟨S1x1, .f32⟩
  | 29 => ⟨S65536x128, .f32⟩
  | 30 => ⟨S65536x128, .f32⟩
  | 31 => ⟨S65536x128, .f32⟩
  | 32 => ⟨S65536x128, .f32⟩
  | 33 => ⟨S65536x128, .f32⟩
  | 34 => ⟨S65536x128, .f32⟩
  | 35 => ⟨S_, .f32⟩
  | 36 => ⟨S65536x128, .f32⟩
  | 37 => ⟨S65536x128, .f32⟩
  | 38 => ⟨S65536x128, .f32⟩
  | 39 => ⟨S_, .f32⟩
  | 40 => ⟨S65536x128, .f32⟩
  | 41 => ⟨S65536x128, .f32⟩
  | 42 => ⟨S65536x128, .f32⟩
  | 43 => ⟨S65536x128, .f32⟩
  | 44 => ⟨S65536x128, .f32⟩
  | 45 => ⟨S65536x128, .f32⟩
  | 46 => ⟨S65536x128, .f32⟩
  | 47 => ⟨S_, .f32⟩
  | 48 => ⟨S65536x128, .f32⟩
  | 49 => ⟨S65536x128, .f32⟩
  | 50 => ⟨S_, .f32⟩
  | 51 => ⟨S65536, .f32⟩
  | 52 => ⟨S65536x1, .f32⟩
  | 53 => ⟨S65536x128, .f32⟩
  | 54 => ⟨S65536x128, .f32⟩
  | 55 => ⟨S_, .f32⟩
  | 56 => ⟨S_, .f32⟩
  | 57 => ⟨S65536x128, .f32⟩
  | 58 => ⟨S65536x1, .f32⟩
  | 59 => ⟨S_, .f32⟩
  | 60 => ⟨S65536x1, .f32⟩
  | 61 => ⟨S65536x129, .f32⟩
  | 62 => ⟨S_, .f32⟩
  | 63 => ⟨S_, .f32⟩
  | 64 => ⟨S_, .f32⟩
  | 65 => ⟨S_, .f32⟩
  | 66 => ⟨S1x1, .f32⟩
  | 67 => ⟨S1x1, .f32⟩
  | 68 => ⟨S1, .i32⟩
  | 69 => ⟨S_, .i32⟩
  | 70 => ⟨S1, .i32⟩
  | 71 => ⟨S_, .i32⟩
  | 72 => ⟨S65536x64, .i64⟩
  | 73 => ⟨S65536x64, .i64⟩
  | 74 => ⟨S_, .i64⟩
  | 75 => ⟨S65536x64, .i64⟩
  | 76 => ⟨S65536x64, .i64⟩
  | 77 => ⟨S_, .i64⟩
  | 78 => ⟨S65536x64, .i64⟩
  | 79 => ⟨S65536x64, .i64⟩
  | 80 => ⟨S65536x64, .i64⟩
  | 81 => ⟨S_, .i64⟩
  | 82 => ⟨S65536x64, .i64⟩
  | 83 => ⟨S65536x64, .i64⟩
  | 84 => ⟨S65536x64, .i32⟩
  | 85 => ⟨S65536x64, .i32⟩
  | 86 => ⟨S_, .i32⟩
  | 87 => ⟨S_, .i32⟩
  | 88 => ⟨S_, .i32⟩
  | 89 => ⟨S65536x64, .i32⟩
  | 90 => ⟨S65536x64, .i32⟩
  | 91 => ⟨S65536x64, .i32⟩
  | 92 => ⟨S65536x64, .i32⟩
  | 93 => ⟨S65536x64, .i32⟩
  | 94 => ⟨S_, .i32⟩
  | 95 => ⟨S65536x64, .i32⟩
  | 96 => ⟨S65536x64, .i32⟩
  | 97 => ⟨S_, .i32⟩
  | 98 => ⟨S65536x64, .i32⟩
  | 99 => ⟨S65536x64, .i32⟩
  | 100 => ⟨S65536x64, .i32⟩
  | 101 => ⟨S65536x64, .i32⟩
  | 102 => ⟨S65536x64, .i32⟩
  | 103 => ⟨S_, .i32⟩
  | 104 => ⟨S65536x64, .i32⟩
  | 105 => ⟨S65536x64, .i32⟩
  | 106 => ⟨S_, .i32⟩
  | 107 => ⟨S65536x64, .i32⟩
  | 108 => ⟨S65536x64, .i32⟩
  | 109 => ⟨S65536x64, .i32⟩
  | 110 => ⟨S65536x64, .i32⟩
  | 111 => ⟨S65536x64, .i32⟩
  | 112 => ⟨S_, .i32⟩
  | 113 => ⟨S65536x64, .i32⟩
  | 114 => ⟨S65536x64, .i32⟩
  | 115 => ⟨S_, .i32⟩
  | 116 => ⟨S65536x64, .i32⟩
  | 117 => ⟨S65536x64, .i32⟩
  | 118 => ⟨S65536x64, .i32⟩
  | 119 => ⟨S65536x64, .i32⟩
  | 120 => ⟨S65536x64, .i32⟩
  | 121 => ⟨S_, .i32⟩
  | 122 => ⟨S65536x64, .i32⟩
  | 123 => ⟨S65536x64, .i32⟩
  | 124 => ⟨S_, .i32⟩
  | 125 => ⟨S65536x64, .i32⟩
  | 126 => ⟨S65536x64, .i32⟩
  | 127 => ⟨S65536x64, .i32⟩
  | _ => ⟨S65536x8, .f32⟩

abbrev hbmTy0_5 (i : Nat) : BufTy := match i % 128 with
  | 0 => ⟨S65536x64, .i32⟩
  | 1 => ⟨S65536x64, .i32⟩
  | 2 => ⟨S65536x64, .i32⟩
  | 3 => ⟨S65536x64, .i32⟩
  | 4 => ⟨S65536x64, .i32⟩
  | 5 => ⟨S_, .i32⟩
  | 6 => ⟨S65536x64, .i32⟩
  | 7 => ⟨S65536x64, .i32⟩
  | 8 => ⟨S65536x64, .i32⟩
  | 9 => ⟨S_, .i32⟩
  | 10 => ⟨S65536x64, .i32⟩
  | 11 => ⟨S65536x64, .i32⟩
  | 12 => ⟨S_, .i32⟩
  | 13 => ⟨S65536x64, .i32⟩
  | 14 => ⟨S65536x64, .i32⟩
  | 15 => ⟨S65536x64, .i32⟩
  | 16 => ⟨S65536x64, .i32⟩
  | 17 => ⟨S65536x64, .i32⟩
  | 18 => ⟨S_, .i32⟩
  | 19 => ⟨S65536x64, .i32⟩
  | 20 => ⟨S65536x64, .i32⟩
  | 21 => ⟨S_, .i32⟩
  | 22 => ⟨S65536x64, .i32⟩
  | 23 => ⟨S65536x64, .i32⟩
  | 24 => ⟨S65536x64, .i32⟩
  | 25 => ⟨S65536x64, .i32⟩
  | 26 => ⟨S65536x64, .i32⟩
  | 27 => ⟨S_, .i32⟩
  | 28 => ⟨S65536x64, .i32⟩
  | 29 => ⟨S65536x64, .i32⟩
  | 30 => ⟨S_, .i32⟩
  | 31 => ⟨S65536x64, .i32⟩
  | 32 => ⟨S65536x64, .i32⟩
  | 33 => ⟨S65536x64, .i32⟩
  | 34 => ⟨S65536x64, .i32⟩
  | 35 => ⟨S65536x64, .i32⟩
  | 36 => ⟨S_, .i32⟩
  | 37 => ⟨S65536x64, .i32⟩
  | 38 => ⟨S65536x64, .i32⟩
  | 39 => ⟨S_, .i32⟩
  | 40 => ⟨S65536x64, .i32⟩
  | 41 => ⟨S65536x64, .i32⟩
  | 42 => ⟨S65536x64, .i32⟩
  | 43 => ⟨S65536x64, .i32⟩
  | 44 => ⟨S65536x64, .i32⟩
  | 45 => ⟨S65536x64, .i32⟩
  | 46 => ⟨S65536x64, .i32⟩
  | 47 => ⟨S65536x64, .i32⟩
  | 48 => ⟨S_, .i32⟩
  | 49 => ⟨S65536x64, .i32⟩
  | 50 => ⟨S65536x64, .i32⟩
  | 51 => ⟨S65536x64, .i32⟩
  | 52 => ⟨S_, .i32⟩
  | 53 => ⟨S65536x64, .i32⟩
  | 54 => ⟨S65536x64, .i32⟩
  | 55 => ⟨S_, .i32⟩
  | 56 => ⟨S65536x64, .i32⟩
  | 57 => ⟨S65536x64, .i32⟩
  | 58 => ⟨S65536x64, .i32⟩
  | 59 => ⟨S65536x64, .i32⟩
  | 60 => ⟨S65536x64, .i32⟩
  | 61 => ⟨S_, .i32⟩
  | 62 => ⟨S65536x64, .i32⟩
  | 63 => ⟨S65536x64, .i32⟩
  | 64 => ⟨S_, .i32⟩
  | 65 => ⟨S65536x64, .i32⟩
  | 66 => ⟨S65536x64, .i32⟩
  | 67 => ⟨S65536x64, .i32⟩
  | 68 => ⟨S65536x64, .i32⟩
  | 69 => ⟨S65536x64, .i32⟩
  | 70 => ⟨S_, .i32⟩
  | 71 => ⟨S65536x64, .i32⟩
  | 72 => ⟨S65536x64, .i32⟩
  | 73 => ⟨S_, .i32⟩
  | 74 => ⟨S65536x64, .i32⟩
  | 75 => ⟨S65536x64, .i32⟩
  | 76 => ⟨S65536x64, .i32⟩
  | 77 => ⟨S65536x64, .i32⟩
  | 78 => ⟨S65536x64, .i32⟩
  | 79 => ⟨S_, .i32⟩
  | 80 => ⟨S65536x64, .i32⟩
  | 81 => ⟨S65536x64, .i32⟩
  | 82 => ⟨S_, .i32⟩
  | 83 => ⟨S65536x64, .i32⟩
  | 84 => ⟨S65536x64, .i32⟩
  | 85 => ⟨S65536x64, .i32⟩
  | 86 => ⟨S65536x64, .i32⟩
  | 87 => ⟨S65536x64, .i32⟩
  | 88 => ⟨S65536x64, .i32⟩
  | 89 => ⟨S65536x64, .i32⟩
  | 90 => ⟨S65536x64, .i32⟩
  | 91 => ⟨S_, .i32⟩
  | 92 => ⟨S65536x64, .i32⟩
  | 93 => ⟨S65536x64, .i32⟩
  | 94 => ⟨S65536x64, .i32⟩
  | 95 => ⟨S_, .i32⟩
  | 96 => ⟨S65536x64, .i32⟩
  | 97 => ⟨S65536x64, .i32⟩
  | 98 => ⟨S_, .i32⟩
  | 99 => ⟨S65536x64, .i32⟩
  | 100 => ⟨S65536x64, .i32⟩
  | 101 => ⟨S65536x64, .i32⟩
  | 102 => ⟨S65536x64, .i32⟩
  | 103 => ⟨S65536x64, .i32⟩
  | 104 => ⟨S_, .i32⟩
  | 105 => ⟨S65536x64, .i32⟩
  | 106 => ⟨S65536x64, .i32⟩
  | 107 => ⟨S_, .i32⟩
  | 108 => ⟨S65536x64, .i32⟩
  | 109 => ⟨S65536x64, .i32⟩
  | 110 => ⟨S65536x64, .i32⟩
  | 111 => ⟨S65536x64, .i32⟩
  | 112 => ⟨S65536x64, .i32⟩
  | 113 => ⟨S_, .i32⟩
  | 114 => ⟨S65536x64, .i32⟩
  | 115 => ⟨S65536x64, .i32⟩
  | 116 => ⟨S_, .i32⟩
  | 117 => ⟨S65536x64, .i32⟩
  | 118 => ⟨S65536x64, .i32⟩
  | 119 => ⟨S65536x64, .i32⟩
  | 120 => ⟨S65536x64, .i32⟩
  | 121 => ⟨S65536x64, .i32⟩
  | 122 => ⟨S_, .i32⟩
  | 123 => ⟨S65536x64, .i32⟩
  | 124 => ⟨S65536x64, .i32⟩
  | 125 => ⟨S_, .i32⟩
  | 126 => ⟨S65536x64, .i32⟩
  | 127 => ⟨S65536x64, .i32⟩
  | _ => ⟨S65536x8, .f32⟩

abbrev hbmTy0_6 (i : Nat) : BufTy := match i % 128 with
  | 0 => ⟨S65536x64, .i32⟩
  | 1 => ⟨S65536x64, .i32⟩
  | 2 => ⟨S65536x64, .i32⟩
  | 3 => ⟨S65536x64, .i32⟩
  | 4 => ⟨S65536x64, .i32⟩
  | 5 => ⟨S65536x64, .i32⟩
  | 6 => ⟨S_, .i32⟩
  | 7 => ⟨S65536x64, .i32⟩
  | 8 => ⟨S65536x64, .i32⟩
  | 9 => ⟨S65536x64, .i32⟩
  | 10 => ⟨S_, .i32⟩
  | 11 => ⟨S65536x64, .i32⟩
  | 12 => ⟨S65536x64, .i32⟩
  | 13 => ⟨S_, .i32⟩
  | 14 => ⟨S65536x64, .i32⟩
  | 15 => ⟨S65536x64, .i32⟩
  | 16 => ⟨S65536x64, .i32⟩
  | 17 => ⟨S65536x64, .i32⟩
  | 18 => ⟨S65536x64, .i32⟩
  | 19 => ⟨S_, .i32⟩
  | 20 => ⟨S65536x64, .i32⟩
  | 21 => ⟨S65536x64, .i32⟩
  | 22 => ⟨S_, .i32⟩
  | 23 => ⟨S65536x64, .i32⟩
  | 24 => ⟨S65536x64, .i32⟩
  | 25 => ⟨S65536x64, .i32⟩
  | 26 => ⟨S65536x64, .i32⟩
  | 27 => ⟨S65536x64, .i32⟩
  | 28 => ⟨S_, .i32⟩
  | 29 => ⟨S65536x64, .i32⟩
  | 30 => ⟨S65536x64, .i32⟩
  | 31 => ⟨S_, .i32⟩
  | 32 => ⟨S65536x64, .i32⟩
  | 33 => ⟨S65536x64, .i32⟩
  | 34 => ⟨S65536x64, .i32⟩
  | 35 => ⟨S65536x64, .i32⟩
  | 36 => ⟨S65536x64, .i32⟩
  | 37 => ⟨S_, .i32⟩
  | 38 => ⟨S65536x64, .i32⟩
  | 39 => ⟨S65536x64, .i32⟩
  | 40 => ⟨S_, .i32⟩
  | 41 => ⟨S65536x64, .i32⟩
  | 42 => ⟨S65536x64, .i32⟩
  | 43 => ⟨S65536x64, .i32⟩
  | 44 => ⟨S65536x64, .i32⟩
  | 45 => ⟨S65536x64, .i32⟩
  | 46 => ⟨S65536x64, .i32⟩
  | 47 => ⟨S65536x64, .i32⟩
  | 48 => ⟨S65536x64, .i32⟩
  | 49 => ⟨S_, .i32⟩
  | 50 => ⟨S65536x64, .i32⟩
  | 51 => ⟨S65536x64, .i32⟩
  | 52 => ⟨S65536x64, .i32⟩
  | 53 => ⟨S_, .i32⟩
  | 54 => ⟨S65536x64, .i32⟩
  | 55 => ⟨S65536x64, .i32⟩
  | 56 => ⟨S_, .i32⟩
  | 57 => ⟨S65536x64, .i32⟩
  | 58 => ⟨S65536x64, .i32⟩
  | 59 => ⟨S65536x64, .f32⟩
  | 60 => ⟨S_, .f32⟩
  | 61 => ⟨S65536x64, .f32⟩
  | 62 => ⟨S65536x64, .f32⟩
  | 63 => ⟨S1x1, .f32⟩
  | 64 => ⟨S65536x64, .f32⟩
  | 65 => ⟨S65536x64, .f32⟩
  | 66 => ⟨S65536x64, .f32⟩
  | 67 => ⟨S65536x64, .f32⟩
  | 68 => ⟨S65536x64, .f32⟩
  | 69 => ⟨S65536x64, .f32⟩
  | 70 => ⟨S65536x1x129, .f32⟩
  | 71 => ⟨S65536x64x1, .f32⟩
  | 72 => ⟨S65536x64x129, .f32⟩
  | 73 => ⟨S65536x64x129, .f32⟩
  | 74 => ⟨S65536x64x129, .i1⟩
  | 75 => ⟨S65536x64x129, .i32⟩
  | 76 => ⟨S_, .i32⟩
  | 77 => ⟨S65536x64, .i32⟩
  | 78 => ⟨S65536x64, .f32⟩
  | 79 => ⟨S_, .f32⟩
  | 80 => ⟨S65536x64, .f32⟩
  | 81 => ⟨S65536x64, .f32⟩
  | 82 => ⟨S_, .f32⟩
  | 83 => ⟨S65536x64, .f32⟩
  | 84 => ⟨S65536x64, .f32⟩
  | 85 => ⟨S_, .f32⟩
  | 86 => ⟨S_, .f32⟩
  | 87 => ⟨S_, .f32⟩
  | 88 => ⟨S_, .f32⟩
  | 89 => ⟨S1x1, .f32⟩
  | 90 => ⟨S1x1, .f32⟩
  | 91 => ⟨S1, .i32⟩
  | 92 => ⟨S_, .i32⟩
  | 93 => ⟨S1, .i32⟩
  | 94 => ⟨S_, .i32⟩
  | 95 => ⟨S65536x64, .i64⟩
  | 96 => ⟨S65536x64, .i64⟩
  | 97 => ⟨S_, .i64⟩
  | 98 => ⟨S65536x64, .i64⟩
  | 99 => ⟨S65536x64, .i64⟩
  | 100 => ⟨S_, .i64⟩
  | 101 => ⟨S65536x64, .i64⟩
  | 102 => ⟨S65536x64, .i64⟩
  | 103 => ⟨S65536x64, .i64⟩
  | 104 => ⟨S_, .i64⟩
  | 105 => ⟨S65536x64, .i64⟩
  | 106 => ⟨S65536x64, .i64⟩
  | 107 => ⟨S65536x64, .i32⟩
  | 108 => ⟨S65536x64, .i32⟩
  | 109 => ⟨S_, .i32⟩
  | 110 => ⟨S_, .i32⟩
  | 111 => ⟨S_, .i32⟩
  | 112 => ⟨S65536x64, .i32⟩
  | 113 => ⟨S65536x64, .i32⟩
  | 114 => ⟨S65536x64, .i32⟩
  | 115 => ⟨S65536x64, .i32⟩
  | 116 => ⟨S65536x64, .i32⟩
  | 117 => ⟨S_, .i32⟩
  | 118 => ⟨S65536x64, .i32⟩
  | 119 => ⟨S65536x64, .i32⟩
  | 120 => ⟨S_, .i32⟩
  | 121 => ⟨S65536x64, .i32⟩
  | 122 => ⟨S65536x64, .i32⟩
  | 123 => ⟨S65536x64, .i32⟩
  | 124 => ⟨S65536x64, .i32⟩
  | 125 => ⟨S65536x64, .i32⟩
  | 126 => ⟨S_, .i32⟩
  | 127 => ⟨S65536x64, .i32⟩
  | _ => ⟨S65536x8, .f32⟩

abbrev hbmTy0_7 (i : Nat) : BufTy := match i % 128 with
  | 0 => ⟨S65536x64, .i32⟩
  | 1 => ⟨S_, .i32⟩
  | 2 => ⟨S65536x64, .i32⟩
  | 3 => ⟨S65536x64, .i32⟩
  | 4 => ⟨S65536x64, .i32⟩
  | 5 => ⟨S65536x64, .i32⟩
  | 6 => ⟨S65536x64, .i32⟩
  | 7 => ⟨S_, .i32⟩
  | 8 => ⟨S65536x64, .i32⟩
  | 9 => ⟨S65536x64, .i32⟩
  | 10 => ⟨S_, .i32⟩
  | 11 => ⟨S65536x64, .i32⟩
  | 12 => ⟨S65536x64, .i32⟩
  | 13 => ⟨S65536x64, .i32⟩
  | 14 => ⟨S65536x64, .i32⟩
  | 15 => ⟨S65536x64, .i32⟩
  | 16 => ⟨S_, .i32⟩
  | 17 => ⟨S65536x64, .i32⟩
  | 18 => ⟨S65536x64, .i32⟩
  | 19 => ⟨S_, .i32⟩
  | 20 => ⟨S65536x64, .i32⟩
  | 21 => ⟨S65536x64, .i32⟩
  | 22 => ⟨S65536x64, .i32⟩
  | 23 => ⟨S65536x64, .i32⟩
  | 24 => ⟨S65536x64, .i32⟩
  | 25 => ⟨S65536x64, .i32⟩
  | 26 => ⟨S65536x64, .i32⟩
  | 27 => ⟨S65536x64, .i32⟩
  | 28 => ⟨S_, .i32⟩
  | 29 => ⟨S65536x64, .i32⟩
  | 30 => ⟨S65536x64, .i32⟩
  | 31 => ⟨S65536x64, .i32⟩
  | 32 => ⟨S_, .i32⟩
  | 33 => ⟨S65536x64, .i32⟩
  | 34 => ⟨S65536x64, .i32⟩
  | 35 => ⟨S_, .i32⟩
  | 36 => ⟨S65536x64, .i32⟩
  | 37 => ⟨S65536x64, .i32⟩
  | 38 => ⟨S65536x64, .i32⟩
  | 39 => ⟨S65536x64, .i32⟩
  | 40 => ⟨S65536x64, .i32⟩
  | 41 => ⟨S_, .i32⟩
  | 42 => ⟨S65536x64, .i32⟩
  | 43 => ⟨S65536x64, .i32⟩
  | 44 => ⟨S_, .i32⟩
  | 45 => ⟨S65536x64, .i32⟩
  | 46 => ⟨S65536x64, .i32⟩
  | 47 => ⟨S65536x64, .i32⟩
  | 48 => ⟨S65536x64, .i32⟩
  | 49 => ⟨S65536x64, .i32⟩
  | 50 => ⟨S_, .i32⟩
  | 51 => ⟨S65536x64, .i32⟩
  | 52 => ⟨S65536x64, .i32⟩
  | 53 => ⟨S_, .i32⟩
  | 54 => ⟨S65536x64, .i32⟩
  | 55 => ⟨S65536x64, .i32⟩
  | 56 => ⟨S65536x64, .i32⟩
  | 57 => ⟨S65536x64, .i32⟩
  | 58 => ⟨S65536x64, .i32⟩
  | 59 => ⟨S_, .i32⟩
  | 60 => ⟨S65536x64, .i32⟩
  | 61 => ⟨S65536x64, .i32⟩
  | 62 => ⟨S_, .i32⟩
  | 63 => ⟨S65536x64, .i32⟩
  | 64 => ⟨S65536x64, .i32⟩
  | 65 => ⟨S65536x64, .i32⟩
  | 66 => ⟨S65536x64, .i32⟩
  | 67 => ⟨S65536x64, .i32⟩
  | 68 => ⟨S65536x64, .i32⟩
  | 69 => ⟨S65536x64, .i32⟩
  | 70 => ⟨S65536x64, .i32⟩
  | 71 => ⟨S_, .i32⟩
  | 72 => ⟨S65536x64, .i32⟩
  | 73 => ⟨S65536x64, .i32⟩
  | 74 => ⟨S65536x64, .i32⟩
  | 75 => ⟨S_, .i32⟩
  | 76 => ⟨S65536x64, .i32⟩
  | 77 => ⟨S65536x64, .i32⟩
  | 78 => ⟨S_, .i32⟩
  | 79 => ⟨S65536x64, .i32⟩
  | 80 => ⟨S65536x64, .i32⟩
  | 81 => ⟨S65536x64, .i32⟩
  | 82 => ⟨S65536x64, .i32⟩
  | 83 => ⟨S65536x64, .i32⟩
  | 84 => ⟨S_, .i32⟩
  | 85 => ⟨S65536x64, .i32⟩
  | 86 => ⟨S65536x64, .i32⟩
  | 87 => ⟨S_, .i32⟩
  | 88 => ⟨S65536x64, .i32⟩
  | 89 => ⟨S65536x64, .i32⟩
  | 90 => ⟨S65536x64, .i32⟩
  | 91 => ⟨S65536x64, .i32⟩
  | 92 => ⟨S65536x64, .i32⟩
  | 93 => ⟨S_, .i32⟩
  | 94 => ⟨S65536x64, .i32⟩
  | 95 => ⟨S65536x64, .i32⟩
  | 96 => ⟨S_, .i32⟩
  | 97 => ⟨S65536x64, .i32⟩
  | 98 => ⟨S65536x64, .i32⟩
  | 99 => ⟨S65536x64, .i32⟩
  | 100 => ⟨S65536x64, .i32⟩
  | 101 => ⟨S65536x64, .i32⟩
  | 102 => ⟨S_, .i32⟩
  | 103 => ⟨S65536x64, .i32⟩
  | 104 => ⟨S65536x64, .i32⟩
  | 105 => ⟨S_, .i32⟩
  | 106 => ⟨S65536x64, .i32⟩
  | 107 => ⟨S65536x64, .i32⟩
  | 108 => ⟨S65536x64, .i32⟩
  | 109 => ⟨S65536x64, .i32⟩
  | 110 => ⟨S65536x64, .i32⟩
  | 111 => ⟨S65536x64, .i32⟩
  | 112 => ⟨S65536x64, .i32⟩
  | 113 => ⟨S65536x64, .i32⟩
  | 114 => ⟨S_, .i32⟩
  | 115 => ⟨S65536x64, .i32⟩
  | 116 => ⟨S65536x64, .i32⟩
  | 117 => ⟨S65536x64, .i32⟩
  | 118 => ⟨S_, .i32⟩
  | 119 => ⟨S65536x64, .i32⟩
  | 120 => ⟨S65536x64, .i32⟩
  | 121 => ⟨S_, .i32⟩
  | 122 => ⟨S65536x64, .i32⟩
  | 123 => ⟨S65536x64, .i32⟩
  | 124 => ⟨S65536x64, .i32⟩
  | 125 => ⟨S65536x64, .i32⟩
  | 126 => ⟨S65536x64, .i32⟩
  | 127 => ⟨S_, .i32⟩
  | _ => ⟨S65536x8, .f32⟩

abbrev hbmTy0_8 (i : Nat) : BufTy := match i % 128 with
  | 0 => ⟨S65536x64, .i32⟩
  | 1 => ⟨S65536x64, .i32⟩
  | 2 => ⟨S_, .i32⟩
  | 3 => ⟨S65536x64, .i32⟩
  | 4 => ⟨S65536x64, .i32⟩
  | 5 => ⟨S65536x64, .i32⟩
  | 6 => ⟨S65536x64, .i32⟩
  | 7 => ⟨S65536x64, .i32⟩
  | 8 => ⟨S_, .i32⟩
  | 9 => ⟨S65536x64, .i32⟩
  | 10 => ⟨S65536x64, .i32⟩
  | 11 => ⟨S_, .i32⟩
  | 12 => ⟨S65536x64, .i32⟩
  | 13 => ⟨S65536x64, .i32⟩
  | 14 => ⟨S65536x64, .i32⟩
  | 15 => ⟨S65536x64, .i32⟩
  | 16 => ⟨S65536x64, .i32⟩
  | 17 => ⟨S_, .i32⟩
  | 18 => ⟨S65536x64, .i32⟩
  | 19 => ⟨S65536x64, .i32⟩
  | 20 => ⟨S_, .i32⟩
  | 21 => ⟨S65536x64, .i32⟩
  | 22 => ⟨S65536x64, .i32⟩
  | 23 => ⟨S65536x64, .i32⟩
  | 24 => ⟨S65536x64, .i32⟩
  | 25 => ⟨S65536x64, .i32⟩
  | 26 => ⟨S65536x64, .i32⟩
  | 27 => ⟨S65536x64, .i32⟩
  | 28 => ⟨S65536x64, .i32⟩
  | 29 => ⟨S_, .i32⟩
  | 30 => ⟨S65536x64, .i32⟩
  | 31 => ⟨S65536x64, .i32⟩
  | 32 => ⟨S65536x64, .i32⟩
  | 33 => ⟨S_, .i32⟩
  | 34 => ⟨S65536x64, .i32⟩
  | 35 => ⟨S65536x64, .i32⟩
  | 36 => ⟨S_, .i32⟩
  | 37 => ⟨S65536x64, .i32⟩
  | 38 => ⟨S65536x64, .i32⟩
  | 39 => ⟨S65536x64, .i32⟩
  | 40 => ⟨S65536x64, .i32⟩
  | 41 => ⟨S65536x64, .i32⟩
  | 42 => ⟨S_, .i32⟩
  | 43 => ⟨S65536x64, .i32⟩
  | 44 => ⟨S65536x64, .i32⟩
  | 45 => ⟨S_, .i32⟩
  | 46 => ⟨S65536x64, .i32⟩
  | 47 => ⟨S65536x64, .i32⟩
  | 48 => ⟨S65536x64, .i32⟩
  | 49 => ⟨S65536x64, .i32⟩
  | 50 => ⟨S65536x64, .i32⟩
  | 51 => ⟨S_, .i32⟩
  | 52 => ⟨S65536x64, .i32⟩
  | 53 => ⟨S65536x64, .i32⟩
  | 54 => ⟨S_, .i32⟩
  | 55 => ⟨S65536x64, .i32⟩
  | 56 => ⟨S65536x64, .i32⟩
  | 57 => ⟨S65536x64, .i32⟩
  | 58 => ⟨S65536x64, .i32⟩
  | 59 => ⟨S65536x64, .i32⟩
  | 60 => ⟨S_, .i32⟩
  | 61 => ⟨S65536x64, .i32⟩
  | 62 => ⟨S65536x64, .i32⟩
  | 63 => ⟨S_, .i32⟩
  | 64 => ⟨S65536x64, .i32⟩
  | 65 => ⟨S65536x64, .i32⟩
  | 66 => ⟨S65536x64, .i32⟩
  | 67 => ⟨S65536x64, .i32⟩
  | 68 => ⟨S65536x64, .i32⟩
  | 69 => ⟨S65536x64, .i32⟩
  | 70 => ⟨S65536x64, .i32⟩
  | 71 => ⟨S65536x64, .i32⟩
  | 72 => ⟨S_, .i32⟩
  | 73 => ⟨S65536x64, .i32⟩
  | 74 => ⟨S65536x64, .i32⟩
  | 75 => ⟨S65536x64, .i32⟩
  | 76 => ⟨S_, .i32⟩
  | 77 => ⟨S65536x64, .i32⟩
  | 78 => ⟨S65536x64, .i32⟩
  | 79 => ⟨S_, .i32⟩
  | 80 => ⟨S65536x64, .i32⟩
  | 81 => ⟨S65536x64, .i32⟩
  | 82 => ⟨S65536x64, .f32⟩
  | 83 => ⟨S_, .f32⟩
  | 84 => ⟨S65536x64, .f32⟩
  | 85 => ⟨S65536x64, .f32⟩
  | 86 => ⟨S1x1, .f32⟩
  | 87 => ⟨S65536x64, .f32⟩
  | 88 => ⟨S65536x64, .f32⟩
  | 89 => ⟨S65536x64, .f32⟩
  | 90 => ⟨S65536x64, .f32⟩
  | 91 => ⟨S65536x64, .f32⟩
  | 92 => ⟨S65536x64, .f32⟩
  | 93 => ⟨S65536x64, .f32⟩
  | 94 => ⟨S_, .f32⟩
  | 95 => ⟨S65536x64, .f32⟩
  | 96 => ⟨S65536x64, .f32⟩
  | 97 => ⟨S_, .f32⟩
  | 98 => ⟨S65536x64, .f32⟩
  | 99 => ⟨S65536x64, .f32⟩
  | 100 => ⟨S65536x64, .f32⟩
  | 101 => ⟨S65536x64, .f32⟩
  | 102 => ⟨S65536x64, .f32⟩
  | 103 => ⟨S65536x64, .f32⟩
  | 104 => ⟨S65536x64, .f32⟩
  | 105 => ⟨S65536x192, .f32⟩
  | 106 => ⟨S65536x192, .f32⟩
  | _ => ⟨S65536x8, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S65536x8, .f32⟩

abbrev bufTy : (tb : Table) → Fin (tcTables nBuf tb) → BufTy
  | .hbm, ⟨i, _⟩ => hbmTy i
  | _, _ => ⟨S65536x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c : Ref sig .tc := ⟨.hbm, 19, rfl⟩
abbrev main_call0_v5 : Ref sig .tc := ⟨.hbm, 20, rfl⟩
abbrev main_call0_v6 : Ref sig .tc := ⟨.hbm, 21, rfl⟩
abbrev main_call0_c_0 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_call0_v0 : Ref sig .tc := ⟨.hbm, 27, rfl⟩
abbrev main_call0_call0_c : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_c_0 : Ref sig .tc := ⟨.hbm, 35, rfl⟩
abbrev main_call0_call0_v7 : Ref sig .tc := ⟨.hbm, 36, rfl⟩
abbrev main_call0_call0_v8 : Ref sig .tc := ⟨.hbm, 37, rfl⟩
abbrev main_call0_call0_c_1 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_call0_v12 : Ref sig .tc := ⟨.hbm, 42, rfl⟩
abbrev main_call0_call0_v13 : Ref sig .tc := ⟨.hbm, 43, rfl⟩
abbrev main_call0_call0_c_2 : Ref sig .tc := ⟨.hbm, 44, rfl⟩
abbrev main_call0_call0_v14 : Ref sig .tc := ⟨.hbm, 45, rfl⟩
abbrev main_call0_call0_v15 : Ref sig .tc := ⟨.hbm, 46, rfl⟩
abbrev main_call0_call0_c_3 : Ref sig .tc := ⟨.hbm, 47, rfl⟩
abbrev main_call0_call0_v16 : Ref sig .tc := ⟨.hbm, 48, rfl⟩
abbrev main_call0_call0_v17 : Ref sig .tc := ⟨.hbm, 49, rfl⟩
abbrev main_call0_call0_v18 : Ref sig .tc := ⟨.hbm, 50, rfl⟩
abbrev main_call0_call0_v19 : Ref sig .tc := ⟨.hbm, 51, rfl⟩
abbrev main_call0_call0_v20 : Ref sig .tc := ⟨.hbm, 52, rfl⟩
abbrev main_call0_call0_c_4 : Ref sig .tc := ⟨.hbm, 53, rfl⟩
abbrev main_call0_call0_v21 : Ref sig .tc := ⟨.hbm, 54, rfl⟩
abbrev main_call0_call0_v22 : Ref sig .tc := ⟨.hbm, 55, rfl⟩
abbrev main_call0_call0_c_5 : Ref sig .tc := ⟨.hbm, 56, rfl⟩
abbrev main_call0_call0_v23 : Ref sig .tc := ⟨.hbm, 57, rfl⟩
abbrev main_call0_call0_v24 : Ref sig .tc := ⟨.hbm, 58, rfl⟩
abbrev main_call0_call0_v25 : Ref sig .tc := ⟨.hbm, 59, rfl⟩
abbrev main_call0_call0_v26 : Ref sig .tc := ⟨.hbm, 60, rfl⟩
abbrev main_call0_call0_v27 : Ref sig .tc := ⟨.hbm, 61, rfl⟩
abbrev main_call0_call0_c_6 : Ref sig .tc := ⟨.hbm, 62, rfl⟩
abbrev main_call0_call0_v28 : Ref sig .tc := ⟨.hbm, 63, rfl⟩
abbrev main_call0_call0_v29 : Ref sig .tc := ⟨.hbm, 64, rfl⟩
abbrev main_call0_call0_c_7 : Ref sig .tc := ⟨.hbm, 65, rfl⟩
abbrev main_call0_call0_v30 : Ref sig .tc := ⟨.hbm, 66, rfl⟩
abbrev main_call0_call0_v31 : Ref sig .tc := ⟨.hbm, 67, rfl⟩
abbrev main_call0_call0_v32 : Ref sig .tc := ⟨.hbm, 68, rfl⟩
abbrev main_call0_call0_v33 : Ref sig .tc := ⟨.hbm, 69, rfl⟩
abbrev main_call0_call0_v34 : Ref sig .tc := ⟨.hbm, 70, rfl⟩
abbrev main_call0_call0_v35 : Ref sig .tc := ⟨.hbm, 71, rfl⟩
abbrev main_call0_call0_v36 : Ref sig .tc := ⟨.hbm, 72, rfl⟩
abbrev main_call0_call0_v37 : Ref sig .tc := ⟨.hbm, 73, rfl⟩
abbrev main_call0_call0_c_8 : Ref sig .tc := ⟨.hbm, 74, rfl⟩
abbrev main_call0_call0_v38 : Ref sig .tc := ⟨.hbm, 75, rfl⟩
abbrev main_call0_call0_v39 : Ref sig .tc := ⟨.hbm, 76, rfl⟩
abbrev main_call0_call0_v40 : Ref sig .tc := ⟨.hbm, 77, rfl⟩
abbrev main_call0_call0_c_9 : Ref sig .tc := ⟨.hbm, 78, rfl⟩
abbrev main_call0_call0_v41 : Ref sig .tc := ⟨.hbm, 79, rfl⟩
abbrev main_call0_call0_v42 : Ref sig .tc := ⟨.hbm, 80, rfl⟩
abbrev main_call0_call0_c_10 : Ref sig .tc := ⟨.hbm, 81, rfl⟩
abbrev main_call0_call0_v43 : Ref sig .tc := ⟨.hbm, 82, rfl⟩
abbrev main_call0_call0_v44 : Ref sig .tc := ⟨.hbm, 83, rfl⟩
abbrev main_call0_call0_v45 : Ref sig .tc := ⟨.hbm, 84, rfl⟩
abbrev main_call0_call0_v46 : Ref sig .tc := ⟨.hbm, 85, rfl⟩
abbrev main_call0_call0_v47 : Ref sig .tc := ⟨.hbm, 86, rfl⟩
abbrev main_call0_call0_c_11 : Ref sig .tc := ⟨.hbm, 87, rfl⟩
abbrev main_call0_call0_v48 : Ref sig .tc := ⟨.hbm, 88, rfl⟩
abbrev main_call0_call0_v49 : Ref sig .tc := ⟨.hbm, 89, rfl⟩
abbrev main_call0_call0_c_12 : Ref sig .tc := ⟨.hbm, 90, rfl⟩
abbrev main_call0_call0_v50 : Ref sig .tc := ⟨.hbm, 91, rfl⟩
abbrev main_call0_call0_v51 : Ref sig .tc := ⟨.hbm, 92, rfl⟩
abbrev main_call0_call0_v52 : Ref sig .tc := ⟨.hbm, 93, rfl⟩
abbrev main_call0_call0_v53 : Ref sig .tc := ⟨.hbm, 94, rfl⟩
abbrev main_call0_call0_v54 : Ref sig .tc := ⟨.hbm, 95, rfl⟩
abbrev main_call0_call0_c_13 : Ref sig .tc := ⟨.hbm, 96, rfl⟩
abbrev main_call0_call0_v55 : Ref sig .tc := ⟨.hbm, 97, rfl⟩
abbrev main_call0_call0_v56 : Ref sig .tc := ⟨.hbm, 98, rfl⟩
abbrev main_call0_call0_c_14 : Ref sig .tc := ⟨.hbm, 99, rfl⟩
abbrev main_call0_call0_v57 : Ref sig .tc := ⟨.hbm, 100, rfl⟩
abbrev main_call0_call0_v58 : Ref sig .tc := ⟨.hbm, 101, rfl⟩
abbrev main_call0_call0_v59 : Ref sig .tc := ⟨.hbm, 102, rfl⟩
abbrev main_call0_call0_v60 : Ref sig .tc := ⟨.hbm, 103, rfl⟩
abbrev main_call0_call0_v61 : Ref sig .tc := ⟨.hbm, 104, rfl⟩
abbrev main_call0_call0_c_15 : Ref sig .tc := ⟨.hbm, 105, rfl⟩
abbrev main_call0_call0_v62 : Ref sig .tc := ⟨.hbm, 106, rfl⟩
abbrev main_call0_call0_v63 : Ref sig .tc := ⟨.hbm, 107, rfl⟩
abbrev main_call0_call0_c_16 : Ref sig .tc := ⟨.hbm, 108, rfl⟩
abbrev main_call0_call0_v64 : Ref sig .tc := ⟨.hbm, 109, rfl⟩
abbrev main_call0_call0_v65 : Ref sig .tc := ⟨.hbm, 110, rfl⟩
abbrev main_call0_call0_v66 : Ref sig .tc := ⟨.hbm, 111, rfl⟩
abbrev main_call0_call0_v67 : Ref sig .tc := ⟨.hbm, 112, rfl⟩
abbrev main_call0_call0_v68 : Ref sig .tc := ⟨.hbm, 113, rfl⟩
abbrev main_call0_call0_v69 : Ref sig .tc := ⟨.hbm, 114, rfl⟩
abbrev main_call0_call0_v70 : Ref sig .tc := ⟨.hbm, 115, rfl⟩
abbrev main_call0_call0_v71 : Ref sig .tc := ⟨.hbm, 116, rfl⟩
abbrev main_call0_call0_c_17 : Ref sig .tc := ⟨.hbm, 117, rfl⟩
abbrev main_call0_call0_v72 : Ref sig .tc := ⟨.hbm, 118, rfl⟩
abbrev main_call0_call0_v73 : Ref sig .tc := ⟨.hbm, 119, rfl⟩
abbrev main_call0_call0_v74 : Ref sig .tc := ⟨.hbm, 120, rfl⟩
abbrev main_call0_call0_c_18 : Ref sig .tc := ⟨.hbm, 121, rfl⟩
abbrev main_call0_call0_v75 : Ref sig .tc := ⟨.hbm, 122, rfl⟩
abbrev main_call0_call0_v76 : Ref sig .tc := ⟨.hbm, 123, rfl⟩
abbrev main_call0_call0_c_19 : Ref sig .tc := ⟨.hbm, 124, rfl⟩
abbrev main_call0_call0_v77 : Ref sig .tc := ⟨.hbm, 125, rfl⟩
abbrev main_call0_call0_v78 : Ref sig .tc := ⟨.hbm, 126, rfl⟩
abbrev main_call0_call0_v79 : Ref sig .tc := ⟨.hbm, 127, rfl⟩
abbrev main_call0_call0_v80 : Ref sig .tc := ⟨.hbm, 128, rfl⟩
abbrev main_call0_call0_v81 : Ref sig .tc := ⟨.hbm, 129, rfl⟩
abbrev main_call0_call0_c_20 : Ref sig .tc := ⟨.hbm, 130, rfl⟩
abbrev main_call0_call0_v82 : Ref sig .tc := ⟨.hbm, 131, rfl⟩
abbrev main_call0_call0_v83 : Ref sig .tc := ⟨.hbm, 132, rfl⟩
abbrev main_call0_call0_c_21 : Ref sig .tc := ⟨.hbm, 133, rfl⟩
abbrev main_call0_call0_v84 : Ref sig .tc := ⟨.hbm, 134, rfl⟩
abbrev main_call0_call0_v85 : Ref sig .tc := ⟨.hbm, 135, rfl⟩
abbrev main_call0_call0_v86 : Ref sig .tc := ⟨.hbm, 136, rfl⟩
abbrev main_call0_call0_v87 : Ref sig .tc := ⟨.hbm, 137, rfl⟩
abbrev main_call0_call0_v88 : Ref sig .tc := ⟨.hbm, 138, rfl⟩
abbrev main_call0_call0_c_22 : Ref sig .tc := ⟨.hbm, 139, rfl⟩
abbrev main_call0_call0_v89 : Ref sig .tc := ⟨.hbm, 140, rfl⟩
abbrev main_call0_call0_v90 : Ref sig .tc := ⟨.hbm, 141, rfl⟩
abbrev main_call0_call0_c_23 : Ref sig .tc := ⟨.hbm, 142, rfl⟩
abbrev main_call0_call0_v91 : Ref sig .tc := ⟨.hbm, 143, rfl⟩
abbrev main_call0_call0_v92 : Ref sig .tc := ⟨.hbm, 144, rfl⟩
abbrev main_call0_call0_v93 : Ref sig .tc := ⟨.hbm, 145, rfl⟩
abbrev main_call0_call0_v94 : Ref sig .tc := ⟨.hbm, 146, rfl⟩
abbrev main_call0_call0_v95 : Ref sig .tc := ⟨.hbm, 147, rfl⟩
abbrev main_call0_call0_c_24 : Ref sig .tc := ⟨.hbm, 148, rfl⟩
abbrev main_call0_call0_v96 : Ref sig .tc := ⟨.hbm, 149, rfl⟩
abbrev main_call0_call0_v97 : Ref sig .tc := ⟨.hbm, 150, rfl⟩
abbrev main_call0_call0_c_25 : Ref sig .tc := ⟨.hbm, 151, rfl⟩
abbrev main_call0_call0_v98 : Ref sig .tc := ⟨.hbm, 152, rfl⟩
abbrev main_call0_call0_v99 : Ref sig .tc := ⟨.hbm, 153, rfl⟩
abbrev main_call0_call0_v100 : Ref sig .tc := ⟨.hbm, 154, rfl⟩
abbrev main_call0_call0_v101 : Ref sig .tc := ⟨.hbm, 155, rfl⟩
abbrev main_call0_call0_v102 : Ref sig .tc := ⟨.hbm, 156, rfl⟩
abbrev main_call0_call0_v103 : Ref sig .tc := ⟨.hbm, 157, rfl⟩
abbrev main_call0_call0_v104 : Ref sig .tc := ⟨.hbm, 158, rfl⟩
abbrev main_call0_call0_v105 : Ref sig .tc := ⟨.hbm, 159, rfl⟩
abbrev main_call0_call0_c_26 : Ref sig .tc := ⟨.hbm, 160, rfl⟩
abbrev main_call0_call0_v106 : Ref sig .tc := ⟨.hbm, 161, rfl⟩
abbrev main_call0_call0_v107 : Ref sig .tc := ⟨.hbm, 162, rfl⟩
abbrev main_call0_call0_v108 : Ref sig .tc := ⟨.hbm, 163, rfl⟩
abbrev main_call0_call0_c_27 : Ref sig .tc := ⟨.hbm, 164, rfl⟩
abbrev main_call0_call0_v109 : Ref sig .tc := ⟨.hbm, 165, rfl⟩
abbrev main_call0_call0_v110 : Ref sig .tc := ⟨.hbm, 166, rfl⟩
abbrev main_call0_call0_c_28 : Ref sig .tc := ⟨.hbm, 167, rfl⟩
abbrev main_call0_call0_v111 : Ref sig .tc := ⟨.hbm, 168, rfl⟩
abbrev main_call0_call0_v112 : Ref sig .tc := ⟨.hbm, 169, rfl⟩
abbrev main_call0_call0_v113 : Ref sig .tc := ⟨.hbm, 170, rfl⟩
abbrev main_call0_call0_v114 : Ref sig .tc := ⟨.hbm, 171, rfl⟩
abbrev main_call0_call0_v115 : Ref sig .tc := ⟨.hbm, 172, rfl⟩
abbrev main_call0_call0_c_29 : Ref sig .tc := ⟨.hbm, 173, rfl⟩
abbrev main_call0_call0_v116 : Ref sig .tc := ⟨.hbm, 174, rfl⟩
abbrev main_call0_call0_v117 : Ref sig .tc := ⟨.hbm, 175, rfl⟩
abbrev main_call0_call0_c_30 : Ref sig .tc := ⟨.hbm, 176, rfl⟩
abbrev main_call0_call0_v118 : Ref sig .tc := ⟨.hbm, 177, rfl⟩
abbrev main_call0_call0_v119 : Ref sig .tc := ⟨.hbm, 178, rfl⟩
abbrev main_call0_call0_v120 : Ref sig .tc := ⟨.hbm, 179, rfl⟩
abbrev main_call0_call0_v121 : Ref sig .tc := ⟨.hbm, 180, rfl⟩
abbrev main_call0_call0_v122 : Ref sig .tc := ⟨.hbm, 181, rfl⟩
abbrev main_call0_call0_c_31 : Ref sig .tc := ⟨.hbm, 182, rfl⟩
abbrev main_call0_call0_v123 : Ref sig .tc := ⟨.hbm, 183, rfl⟩
abbrev main_call0_call0_v124 : Ref sig .tc := ⟨.hbm, 184, rfl⟩
abbrev main_call0_call0_c_32 : Ref sig .tc := ⟨.hbm, 185, rfl⟩
abbrev main_call0_call0_v125 : Ref sig .tc := ⟨.hbm, 186, rfl⟩
abbrev main_call0_call0_v126 : Ref sig .tc := ⟨.hbm, 187, rfl⟩
abbrev main_call0_call0_v127 : Ref sig .tc := ⟨.hbm, 188, rfl⟩
abbrev main_call0_call0_v128 : Ref sig .tc := ⟨.hbm, 189, rfl⟩
abbrev main_call0_call0_v129 : Ref sig .tc := ⟨.hbm, 190, rfl⟩
abbrev main_call0_call0_c_33 : Ref sig .tc := ⟨.hbm, 191, rfl⟩
abbrev main_call0_call0_v130 : Ref sig .tc := ⟨.hbm, 192, rfl⟩
abbrev main_call0_call0_v131 : Ref sig .tc := ⟨.hbm, 193, rfl⟩
abbrev main_call0_call0_c_34 : Ref sig .tc := ⟨.hbm, 194, rfl⟩
abbrev main_call0_call0_v132 : Ref sig .tc := ⟨.hbm, 195, rfl⟩
abbrev main_call0_call0_v133 : Ref sig .tc := ⟨.hbm, 196, rfl⟩
abbrev main_call0_call0_v134 : Ref sig .tc := ⟨.hbm, 197, rfl⟩
abbrev main_call0_call0_v135 : Ref sig .tc := ⟨.hbm, 198, rfl⟩
abbrev main_call0_call0_v136 : Ref sig .tc := ⟨.hbm, 199, rfl⟩
abbrev main_call0_call0_v137 : Ref sig .tc := ⟨.hbm, 200, rfl⟩
abbrev main_call0_call0_v138 : Ref sig .tc := ⟨.hbm, 201, rfl⟩
abbrev main_call0_call0_v139 : Ref sig .tc := ⟨.hbm, 202, rfl⟩
abbrev main_call0_call0_c_35 : Ref sig .tc := ⟨.hbm, 203, rfl⟩
abbrev main_call0_call0_v140 : Ref sig .tc := ⟨.hbm, 204, rfl⟩
abbrev main_call0_call0_v141 : Ref sig .tc := ⟨.hbm, 205, rfl⟩
abbrev main_call0_call0_v142 : Ref sig .tc := ⟨.hbm, 206, rfl⟩
abbrev main_call0_call0_c_36 : Ref sig .tc := ⟨.hbm, 207, rfl⟩
abbrev main_call0_call0_v143 : Ref sig .tc := ⟨.hbm, 208, rfl⟩
abbrev main_call0_call0_v144 : Ref sig .tc := ⟨.hbm, 209, rfl⟩
abbrev main_call0_call0_c_37 : Ref sig .tc := ⟨.hbm, 210, rfl⟩
abbrev main_call0_call0_v145 : Ref sig .tc := ⟨.hbm, 211, rfl⟩
abbrev main_call0_call0_v146 : Ref sig .tc := ⟨.hbm, 212, rfl⟩
abbrev main_call0_call0_v147 : Ref sig .tc := ⟨.hbm, 213, rfl⟩
abbrev main_call0_call0_v148 : Ref sig .tc := ⟨.hbm, 214, rfl⟩
abbrev main_call0_call0_v149 : Ref sig .tc := ⟨.hbm, 215, rfl⟩
abbrev main_call0_call0_c_38 : Ref sig .tc := ⟨.hbm, 216, rfl⟩
abbrev main_call0_call0_v150 : Ref sig .tc := ⟨.hbm, 217, rfl⟩
abbrev main_call0_call0_v151 : Ref sig .tc := ⟨.hbm, 218, rfl⟩
abbrev main_call0_call0_c_39 : Ref sig .tc := ⟨.hbm, 219, rfl⟩
abbrev main_call0_call0_v152 : Ref sig .tc := ⟨.hbm, 220, rfl⟩
abbrev main_call0_call0_v153 : Ref sig .tc := ⟨.hbm, 221, rfl⟩
abbrev main_call0_call0_v154 : Ref sig .tc := ⟨.hbm, 222, rfl⟩
abbrev main_call0_call0_v155 : Ref sig .tc := ⟨.hbm, 223, rfl⟩
abbrev main_call0_call0_v156 : Ref sig .tc := ⟨.hbm, 224, rfl⟩
abbrev main_call0_call0_c_40 : Ref sig .tc := ⟨.hbm, 225, rfl⟩
abbrev main_call0_call0_v157 : Ref sig .tc := ⟨.hbm, 226, rfl⟩
abbrev main_call0_call0_v158 : Ref sig .tc := ⟨.hbm, 227, rfl⟩
abbrev main_call0_call0_c_41 : Ref sig .tc := ⟨.hbm, 228, rfl⟩
abbrev main_call0_call0_v159 : Ref sig .tc := ⟨.hbm, 229, rfl⟩
abbrev main_call0_call0_v160 : Ref sig .tc := ⟨.hbm, 230, rfl⟩
abbrev main_call0_call0_v161 : Ref sig .tc := ⟨.hbm, 231, rfl⟩
abbrev main_call0_call0_v162 : Ref sig .tc := ⟨.hbm, 232, rfl⟩
abbrev main_call0_call0_v163 : Ref sig .tc := ⟨.hbm, 233, rfl⟩
abbrev main_call0_call0_c_42 : Ref sig .tc := ⟨.hbm, 234, rfl⟩
abbrev main_call0_call0_v164 : Ref sig .tc := ⟨.hbm, 235, rfl⟩
abbrev main_call0_call0_v165 : Ref sig .tc := ⟨.hbm, 236, rfl⟩
abbrev main_call0_call0_c_43 : Ref sig .tc := ⟨.hbm, 237, rfl⟩
abbrev main_call0_call0_v166 : Ref sig .tc := ⟨.hbm, 238, rfl⟩
abbrev main_call0_call0_v167 : Ref sig .tc := ⟨.hbm, 239, rfl⟩
abbrev main_call0_call0_v168 : Ref sig .tc := ⟨.hbm, 240, rfl⟩
abbrev main_call0_call0_v169 : Ref sig .tc := ⟨.hbm, 241, rfl⟩
abbrev main_call0_call0_v170 : Ref sig .tc := ⟨.hbm, 242, rfl⟩
abbrev main_call0_v11_0 : Ref sig .tc := ⟨.hbm, 243, rfl⟩
abbrev main_call0_call0_v172 : Ref sig .tc := ⟨.hbm, 244, rfl⟩
abbrev main_call0_call0_v173 : Ref sig .tc := ⟨.hbm, 245, rfl⟩
abbrev main_call0_call0_c_44 : Ref sig .tc := ⟨.hbm, 246, rfl⟩
abbrev main_call0_call0_v174 : Ref sig .tc := ⟨.hbm, 247, rfl⟩
abbrev main_call0_v11_1 : Ref sig .tc := ⟨.hbm, 248, rfl⟩
abbrev main_call0_v12 : Ref sig .tc := ⟨.hbm, 249, rfl⟩
abbrev main_call0_v13 : Ref sig .tc := ⟨.hbm, 250, rfl⟩
abbrev main_v9 : Ref sig .tc := ⟨.hbm, 251, rfl⟩
abbrev main_v10 : Ref sig .tc := ⟨.hbm, 252, rfl⟩
abbrev main_v11 : Ref sig .tc := ⟨.hbm, 253, rfl⟩
abbrev main_v12 : Ref sig .tc := ⟨.hbm, 254, rfl⟩
abbrev main_v13 : Ref sig .tc := ⟨.hbm, 255, rfl⟩
abbrev main_v14 : Ref sig .tc := ⟨.hbm, 256, rfl⟩
abbrev main_v15 : Ref sig .tc := ⟨.hbm, 257, rfl⟩
abbrev main_cst : Ref sig .tc := ⟨.hbm, 258, rfl⟩
abbrev main_cst_2 : Ref sig .tc := ⟨.hbm, 259, rfl⟩
abbrev main_call1_v0 : Ref sig .tc := ⟨.hbm, 260, rfl⟩
abbrev main_call1_v1 : Ref sig .tc := ⟨.hbm, 261, rfl⟩
abbrev main_call1_v2 : Ref sig .tc := ⟨.hbm, 262, rfl⟩
abbrev main_call1_cst : Ref sig .tc := ⟨.hbm, 263, rfl⟩
abbrev main_call1_v3 : Ref sig .tc := ⟨.hbm, 264, rfl⟩
abbrev main_call1_v4 : Ref sig .tc := ⟨.hbm, 265, rfl⟩
abbrev main_call1_cst_0 : Ref sig .tc := ⟨.hbm, 266, rfl⟩
abbrev main_call1_v5 : Ref sig .tc := ⟨.hbm, 267, rfl⟩
abbrev main_call1_v6 : Ref sig .tc := ⟨.hbm, 268, rfl⟩
abbrev main_call1_v7 : Ref sig .tc := ⟨.hbm, 269, rfl⟩
abbrev main_call1_cst_1 : Ref sig .tc := ⟨.hbm, 270, rfl⟩
abbrev main_call1_v8 : Ref sig .tc := ⟨.hbm, 271, rfl⟩
abbrev main_call1_v9 : Ref sig .tc := ⟨.hbm, 272, rfl⟩
abbrev main_call1_v10 : Ref sig .tc := ⟨.hbm, 273, rfl⟩
abbrev main_call1_v11 : Ref sig .tc := ⟨.hbm, 274, rfl⟩
abbrev main_call1_v12 : Ref sig .tc := ⟨.hbm, 275, rfl⟩
abbrev main_call1_v13 : Ref sig .tc := ⟨.hbm, 276, rfl⟩
abbrev main_call1_v14 : Ref sig .tc := ⟨.hbm, 277, rfl⟩
abbrev main_call1_v15 : Ref sig .tc := ⟨.hbm, 278, rfl⟩
abbrev main_call1_v16 : Ref sig .tc := ⟨.hbm, 279, rfl⟩
abbrev main_v16 : Ref sig .tc := ⟨.hbm, 280, rfl⟩
abbrev main_v17 : Ref sig .tc := ⟨.hbm, 281, rfl⟩
abbrev main_v18 : Ref sig .tc := ⟨.hbm, 282, rfl⟩
abbrev main_cst_3 : Ref sig .tc := ⟨.hbm, 283, rfl⟩
abbrev main_cst_4 : Ref sig .tc := ⟨.hbm, 284, rfl⟩
abbrev main_call2_v0 : Ref sig .tc := ⟨.hbm, 285, rfl⟩
abbrev main_call2_v1 : Ref sig .tc := ⟨.hbm, 286, rfl⟩
abbrev main_call2_v2 : Ref sig .tc := ⟨.hbm, 287, rfl⟩
abbrev main_call2_v3 : Ref sig .tc := ⟨.hbm, 288, rfl⟩
abbrev main_call2_v4 : Ref sig .tc := ⟨.hbm, 289, rfl⟩
abbrev main_call2_v5 : Ref sig .tc := ⟨.hbm, 290, rfl⟩
abbrev main_call2_v6 : Ref sig .tc := ⟨.hbm, 291, rfl⟩
abbrev main_call2_v7 : Ref sig .tc := ⟨.hbm, 292, rfl⟩
abbrev main_call2_v8 : Ref sig .tc := ⟨.hbm, 293, rfl⟩
abbrev main_call2_v9 : Ref sig .tc := ⟨.hbm, 294, rfl⟩
abbrev main_call2_c : Ref sig .tc := ⟨.hbm, 295, rfl⟩
abbrev main_call2_v10 : Ref sig .tc := ⟨.hbm, 296, rfl⟩
abbrev main_call2_v11 : Ref sig .tc := ⟨.hbm, 297, rfl⟩
abbrev main_call2_c_0 : Ref sig .tc := ⟨.hbm, 298, rfl⟩
abbrev main_call2_v12 : Ref sig .tc := ⟨.hbm, 299, rfl⟩
abbrev main_call2_v13 : Ref sig .tc := ⟨.hbm, 300, rfl⟩
abbrev main_call2_v14 : Ref sig .tc := ⟨.hbm, 301, rfl⟩
abbrev main_call2_c_1 : Ref sig .tc := ⟨.hbm, 302, rfl⟩
abbrev main_call2_v15 : Ref sig .tc := ⟨.hbm, 303, rfl⟩
abbrev main_call2_v16 : Ref sig .tc := ⟨.hbm, 304, rfl⟩
abbrev main_call2_v17 : Ref sig .tc := ⟨.hbm, 305, rfl⟩
abbrev main_call2_v18 : Ref sig .tc := ⟨.hbm, 306, rfl⟩
abbrev main_call2_call0_v0 : Ref sig .tc := ⟨.hbm, 307, rfl⟩
abbrev main_call2_call0_c : Ref sig .tc := ⟨.hbm, 308, rfl⟩
abbrev main_call2_call0_v1 : Ref sig .tc := ⟨.hbm, 309, rfl⟩
abbrev main_call2_call0_v2 : Ref sig .tc := ⟨.hbm, 310, rfl⟩
abbrev main_call2_call0_v3 : Ref sig .tc := ⟨.hbm, 311, rfl⟩
abbrev main_call2_call0_v4 : Ref sig .tc := ⟨.hbm, 312, rfl⟩
abbrev main_call2_call0_v5 : Ref sig .tc := ⟨.hbm, 313, rfl⟩
abbrev main_call2_call0_v6 : Ref sig .tc := ⟨.hbm, 314, rfl⟩
abbrev main_call2_call0_c_0 : Ref sig .tc := ⟨.hbm, 315, rfl⟩
abbrev main_call2_call0_v7 : Ref sig .tc := ⟨.hbm, 316, rfl⟩
abbrev main_call2_call0_v8 : Ref sig .tc := ⟨.hbm, 317, rfl⟩
abbrev main_call2_call0_c_1 : Ref sig .tc := ⟨.hbm, 318, rfl⟩
abbrev main_call2_call0_v9 : Ref sig .tc := ⟨.hbm, 319, rfl⟩
abbrev main_call2_call0_v10 : Ref sig .tc := ⟨.hbm, 320, rfl⟩
abbrev main_call2_call0_v11 : Ref sig .tc := ⟨.hbm, 321, rfl⟩
abbrev main_call2_call0_v12 : Ref sig .tc := ⟨.hbm, 322, rfl⟩
abbrev main_call2_call0_v13 : Ref sig .tc := ⟨.hbm, 323, rfl⟩
abbrev main_call2_call0_c_2 : Ref sig .tc := ⟨.hbm, 324, rfl⟩
abbrev main_call2_call0_v14 : Ref sig .tc := ⟨.hbm, 325, rfl⟩
abbrev main_call2_call0_v15 : Ref sig .tc := ⟨.hbm, 326, rfl⟩
abbrev main_call2_call0_c_3 : Ref sig .tc := ⟨.hbm, 327, rfl⟩
abbrev main_call2_call0_v16 : Ref sig .tc := ⟨.hbm, 328, rfl⟩
abbrev main_call2_call0_v17 : Ref sig .tc := ⟨.hbm, 329, rfl⟩
abbrev main_call2_call0_v18 : Ref sig .tc := ⟨.hbm, 330, rfl⟩
abbrev main_call2_call0_v19 : Ref sig .tc := ⟨.hbm, 331, rfl⟩
abbrev main_call2_call0_v20 : Ref sig .tc := ⟨.hbm, 332, rfl⟩
abbrev main_call2_call0_c_4 : Ref sig .tc := ⟨.hbm, 333, rfl⟩
abbrev main_call2_call0_v21 : Ref sig .tc := ⟨.hbm, 334, rfl⟩
abbrev main_call2_call0_v22 : Ref sig .tc := ⟨.hbm, 335, rfl⟩
abbrev main_call2_call0_c_5 : Ref sig .tc := ⟨.hbm, 336, rfl⟩
abbrev main_call2_call0_v23 : Ref sig .tc := ⟨.hbm, 337, rfl⟩
abbrev main_call2_call0_v24 : Ref sig .tc := ⟨.hbm, 338, rfl⟩
abbrev main_call2_call0_v25 : Ref sig .tc := ⟨.hbm, 339, rfl⟩
abbrev main_call2_call0_v26 : Ref sig .tc := ⟨.hbm, 340, rfl⟩
abbrev main_call2_call0_v27 : Ref sig .tc := ⟨.hbm, 341, rfl⟩
abbrev main_call2_call0_c_6 : Ref sig .tc := ⟨.hbm, 342, rfl⟩
abbrev main_call2_call0_v28 : Ref sig .tc := ⟨.hbm, 343, rfl⟩
abbrev main_call2_call0_v29 : Ref sig .tc := ⟨.hbm, 344, rfl⟩
abbrev main_call2_call0_c_7 : Ref sig .tc := ⟨.hbm, 345, rfl⟩
abbrev main_call2_call0_v30 : Ref sig .tc := ⟨.hbm, 346, rfl⟩
abbrev main_call2_call0_v31 : Ref sig .tc := ⟨.hbm, 347, rfl⟩
abbrev main_call2_call0_v32 : Ref sig .tc := ⟨.hbm, 348, rfl⟩
abbrev main_call2_call0_v33 : Ref sig .tc := ⟨.hbm, 349, rfl⟩
abbrev main_call2_call0_v34 : Ref sig .tc := ⟨.hbm, 350, rfl⟩
abbrev main_call2_call0_v35 : Ref sig .tc := ⟨.hbm, 351, rfl⟩
abbrev main_call2_call0_v36 : Ref sig .tc := ⟨.hbm, 352, rfl⟩
abbrev main_call2_call0_v37 : Ref sig .tc := ⟨.hbm, 353, rfl⟩
abbrev main_call2_call0_c_8 : Ref sig .tc := ⟨.hbm, 354, rfl⟩
abbrev main_call2_call0_v38 : Ref sig .tc := ⟨.hbm, 355, rfl⟩
abbrev main_call2_call0_v39 : Ref sig .tc := ⟨.hbm, 356, rfl⟩
abbrev main_call2_call0_v40 : Ref sig .tc := ⟨.hbm, 357, rfl⟩
abbrev main_call2_call0_c_9 : Ref sig .tc := ⟨.hbm, 358, rfl⟩
abbrev main_call2_call0_v41 : Ref sig .tc := ⟨.hbm, 359, rfl⟩
abbrev main_call2_call0_v42 : Ref sig .tc := ⟨.hbm, 360, rfl⟩
abbrev main_call2_call0_c_10 : Ref sig .tc := ⟨.hbm, 361, rfl⟩
abbrev main_call2_call0_v43 : Ref sig .tc := ⟨.hbm, 362, rfl⟩
abbrev main_call2_call0_v44 : Ref sig .tc := ⟨.hbm, 363, rfl⟩
abbrev main_call2_call0_v45 : Ref sig .tc := ⟨.hbm, 364, rfl⟩
abbrev main_call2_call0_v46 : Ref sig .tc := ⟨.hbm, 365, rfl⟩
abbrev main_call2_call0_v47 : Ref sig .tc := ⟨.hbm, 366, rfl⟩
abbrev main_call2_call0_c_11 : Ref sig .tc := ⟨.hbm, 367, rfl⟩
abbrev main_call2_call0_v48 : Ref sig .tc := ⟨.hbm, 368, rfl⟩
abbrev main_call2_call0_v49 : Ref sig .tc := ⟨.hbm, 369, rfl⟩
abbrev main_call2_call0_c_12 : Ref sig .tc := ⟨.hbm, 370, rfl⟩
abbrev main_call2_call0_v50 : Ref sig .tc := ⟨.hbm, 371, rfl⟩
abbrev main_call2_call0_v51 : Ref sig .tc := ⟨.hbm, 372, rfl⟩
abbrev main_call2_call0_v52 : Ref sig .tc := ⟨.hbm, 373, rfl⟩
abbrev main_call2_call0_v53 : Ref sig .tc := ⟨.hbm, 374, rfl⟩
abbrev main_call2_call0_v54 : Ref sig .tc := ⟨.hbm, 375, rfl⟩
abbrev main_call2_call0_c_13 : Ref sig .tc := ⟨.hbm, 376, rfl⟩
abbrev main_call2_call0_v55 : Ref sig .tc := ⟨.hbm, 377, rfl⟩
abbrev main_call2_call0_v56 : Ref sig .tc := ⟨.hbm, 378, rfl⟩
abbrev main_call2_call0_c_14 : Ref sig .tc := ⟨.hbm, 379, rfl⟩
abbrev main_call2_call0_v57 : Ref sig .tc := ⟨.hbm, 380, rfl⟩
abbrev main_call2_call0_v58 : Ref sig .tc := ⟨.hbm, 381, rfl⟩
abbrev main_call2_call0_v59 : Ref sig .tc := ⟨.hbm, 382, rfl⟩
abbrev main_call2_call0_v60 : Ref sig .tc := ⟨.hbm, 383, rfl⟩
abbrev main_call2_call0_v61 : Ref sig .tc := ⟨.hbm, 384, rfl⟩
abbrev main_call2_call0_c_15 : Ref sig .tc := ⟨.hbm, 385, rfl⟩
abbrev main_call2_call0_v62 : Ref sig .tc := ⟨.hbm, 386, rfl⟩
abbrev main_call2_call0_v63 : Ref sig .tc := ⟨.hbm, 387, rfl⟩
abbrev main_call2_call0_c_16 : Ref sig .tc := ⟨.hbm, 388, rfl⟩
abbrev main_call2_call0_v64 : Ref sig .tc := ⟨.hbm, 389, rfl⟩
abbrev main_call2_call0_v65 : Ref sig .tc := ⟨.hbm, 390, rfl⟩
abbrev main_call2_call0_v66 : Ref sig .tc := ⟨.hbm, 391, rfl⟩
abbrev main_call2_call0_v67 : Ref sig .tc := ⟨.hbm, 392, rfl⟩
abbrev main_call2_call0_v68 : Ref sig .tc := ⟨.hbm, 393, rfl⟩
abbrev main_call2_call0_v69 : Ref sig .tc := ⟨.hbm, 394, rfl⟩
abbrev main_call2_call0_v70 : Ref sig .tc := ⟨.hbm, 395, rfl⟩
abbrev main_call2_call0_v71 : Ref sig .tc := ⟨.hbm, 396, rfl⟩
abbrev main_call2_call0_c_17 : Ref sig .tc := ⟨.hbm, 397, rfl⟩
abbrev main_call2_call0_v72 : Ref sig .tc := ⟨.hbm, 398, rfl⟩
abbrev main_call2_call0_v73 : Ref sig .tc := ⟨.hbm, 399, rfl⟩
abbrev main_call2_call0_v74 : Ref sig .tc := ⟨.hbm, 400, rfl⟩
abbrev main_call2_call0_c_18 : Ref sig .tc := ⟨.hbm, 401, rfl⟩
abbrev main_call2_call0_v75 : Ref sig .tc := ⟨.hbm, 402, rfl⟩
abbrev main_call2_call0_v76 : Ref sig .tc := ⟨.hbm, 403, rfl⟩
abbrev main_call2_call0_c_19 : Ref sig .tc := ⟨.hbm, 404, rfl⟩
abbrev main_call2_call0_v77 : Ref sig .tc := ⟨.hbm, 405, rfl⟩
abbrev main_call2_call0_v78 : Ref sig .tc := ⟨.hbm, 406, rfl⟩
abbrev main_call2_call0_v79 : Ref sig .tc := ⟨.hbm, 407, rfl⟩
abbrev main_call2_call0_v80 : Ref sig .tc := ⟨.hbm, 408, rfl⟩
abbrev main_call2_call0_v81 : Ref sig .tc := ⟨.hbm, 409, rfl⟩
abbrev main_call2_call0_c_20 : Ref sig .tc := ⟨.hbm, 410, rfl⟩
abbrev main_call2_call0_v82 : Ref sig .tc := ⟨.hbm, 411, rfl⟩
abbrev main_call2_call0_v83 : Ref sig .tc := ⟨.hbm, 412, rfl⟩
abbrev main_call2_call0_c_21 : Ref sig .tc := ⟨.hbm, 413, rfl⟩
abbrev main_call2_call0_v84 : Ref sig .tc := ⟨.hbm, 414, rfl⟩
abbrev main_call2_call0_v85 : Ref sig .tc := ⟨.hbm, 415, rfl⟩
abbrev main_call2_call0_v86 : Ref sig .tc := ⟨.hbm, 416, rfl⟩
abbrev main_call2_call0_v87 : Ref sig .tc := ⟨.hbm, 417, rfl⟩
abbrev main_call2_call0_v88 : Ref sig .tc := ⟨.hbm, 418, rfl⟩
abbrev main_call2_call0_c_22 : Ref sig .tc := ⟨.hbm, 419, rfl⟩
abbrev main_call2_call0_v89 : Ref sig .tc := ⟨.hbm, 420, rfl⟩
abbrev main_call2_call0_v90 : Ref sig .tc := ⟨.hbm, 421, rfl⟩
abbrev main_call2_call0_c_23 : Ref sig .tc := ⟨.hbm, 422, rfl⟩
abbrev main_call2_call0_v91 : Ref sig .tc := ⟨.hbm, 423, rfl⟩
abbrev main_call2_call0_v92 : Ref sig .tc := ⟨.hbm, 424, rfl⟩
abbrev main_call2_call0_v93 : Ref sig .tc := ⟨.hbm, 425, rfl⟩
abbrev main_call2_call0_v94 : Ref sig .tc := ⟨.hbm, 426, rfl⟩
abbrev main_call2_call0_v95 : Ref sig .tc := ⟨.hbm, 427, rfl⟩
abbrev main_call2_call0_c_24 : Ref sig .tc := ⟨.hbm, 428, rfl⟩
abbrev main_call2_call0_v96 : Ref sig .tc := ⟨.hbm, 429, rfl⟩
abbrev main_call2_call0_v97 : Ref sig .tc := ⟨.hbm, 430, rfl⟩
abbrev main_call2_call0_c_25 : Ref sig .tc := ⟨.hbm, 431, rfl⟩
abbrev main_call2_call0_v98 : Ref sig .tc := ⟨.hbm, 432, rfl⟩
abbrev main_call2_call0_v99 : Ref sig .tc := ⟨.hbm, 433, rfl⟩
abbrev main_call2_call0_v100 : Ref sig .tc := ⟨.hbm, 434, rfl⟩
abbrev main_call2_call0_v101 : Ref sig .tc := ⟨.hbm, 435, rfl⟩
abbrev main_call2_call0_v102 : Ref sig .tc := ⟨.hbm, 436, rfl⟩
abbrev main_call2_call0_v103 : Ref sig .tc := ⟨.hbm, 437, rfl⟩
abbrev main_call2_call0_v104 : Ref sig .tc := ⟨.hbm, 438, rfl⟩
abbrev main_call2_call0_v105 : Ref sig .tc := ⟨.hbm, 439, rfl⟩
abbrev main_call2_call0_c_26 : Ref sig .tc := ⟨.hbm, 440, rfl⟩
abbrev main_call2_call0_v106 : Ref sig .tc := ⟨.hbm, 441, rfl⟩
abbrev main_call2_call0_v107 : Ref sig .tc := ⟨.hbm, 442, rfl⟩
abbrev main_call2_call0_v108 : Ref sig .tc := ⟨.hbm, 443, rfl⟩
abbrev main_call2_call0_c_27 : Ref sig .tc := ⟨.hbm, 444, rfl⟩
abbrev main_call2_call0_v109 : Ref sig .tc := ⟨.hbm, 445, rfl⟩
abbrev main_call2_call0_v110 : Ref sig .tc := ⟨.hbm, 446, rfl⟩
abbrev main_call2_call0_c_28 : Ref sig .tc := ⟨.hbm, 447, rfl⟩
abbrev main_call2_call0_v111 : Ref sig .tc := ⟨.hbm, 448, rfl⟩
abbrev main_call2_call0_v112 : Ref sig .tc := ⟨.hbm, 449, rfl⟩
abbrev main_call2_call0_v113 : Ref sig .tc := ⟨.hbm, 450, rfl⟩
abbrev main_call2_call0_v114 : Ref sig .tc := ⟨.hbm, 451, rfl⟩
abbrev main_call2_call0_v115 : Ref sig .tc := ⟨.hbm, 452, rfl⟩
abbrev main_call2_call0_c_29 : Ref sig .tc := ⟨.hbm, 453, rfl⟩
abbrev main_call2_call0_v116 : Ref sig .tc := ⟨.hbm, 454, rfl⟩
abbrev main_call2_call0_v117 : Ref sig .tc := ⟨.hbm, 455, rfl⟩
abbrev main_call2_call0_c_30 : Ref sig .tc := ⟨.hbm, 456, rfl⟩
abbrev main_call2_call0_v118 : Ref sig .tc := ⟨.hbm, 457, rfl⟩
abbrev main_call2_call0_v119 : Ref sig .tc := ⟨.hbm, 458, rfl⟩
abbrev main_call2_call0_v120 : Ref sig .tc := ⟨.hbm, 459, rfl⟩
abbrev main_call2_call0_v121 : Ref sig .tc := ⟨.hbm, 460, rfl⟩
abbrev main_call2_call0_v122 : Ref sig .tc := ⟨.hbm, 461, rfl⟩
abbrev main_call2_call0_c_31 : Ref sig .tc := ⟨.hbm, 462, rfl⟩
abbrev main_call2_call0_v123 : Ref sig .tc := ⟨.hbm, 463, rfl⟩
abbrev main_call2_call0_v124 : Ref sig .tc := ⟨.hbm, 464, rfl⟩
abbrev main_call2_call0_c_32 : Ref sig .tc := ⟨.hbm, 465, rfl⟩
abbrev main_call2_call0_v125 : Ref sig .tc := ⟨.hbm, 466, rfl⟩
abbrev main_call2_call0_v126 : Ref sig .tc := ⟨.hbm, 467, rfl⟩
abbrev main_call2_call0_v127 : Ref sig .tc := ⟨.hbm, 468, rfl⟩
abbrev main_call2_call0_v128 : Ref sig .tc := ⟨.hbm, 469, rfl⟩
abbrev main_call2_call0_v129 : Ref sig .tc := ⟨.hbm, 470, rfl⟩
abbrev main_call2_call0_c_33 : Ref sig .tc := ⟨.hbm, 471, rfl⟩
abbrev main_call2_call0_v130 : Ref sig .tc := ⟨.hbm, 472, rfl⟩
abbrev main_call2_call0_v131 : Ref sig .tc := ⟨.hbm, 473, rfl⟩
abbrev main_call2_call0_c_34 : Ref sig .tc := ⟨.hbm, 474, rfl⟩
abbrev main_call2_call0_v132 : Ref sig .tc := ⟨.hbm, 475, rfl⟩
abbrev main_call2_call0_v133 : Ref sig .tc := ⟨.hbm, 476, rfl⟩
abbrev main_call2_call0_v134 : Ref sig .tc := ⟨.hbm, 477, rfl⟩
abbrev main_call2_call0_v135 : Ref sig .tc := ⟨.hbm, 478, rfl⟩
abbrev main_call2_call0_v136 : Ref sig .tc := ⟨.hbm, 479, rfl⟩
abbrev main_call2_call0_v137 : Ref sig .tc := ⟨.hbm, 480, rfl⟩
abbrev main_call2_call0_v138 : Ref sig .tc := ⟨.hbm, 481, rfl⟩
abbrev main_call2_call0_v139 : Ref sig .tc := ⟨.hbm, 482, rfl⟩
abbrev main_call2_call0_c_35 : Ref sig .tc := ⟨.hbm, 483, rfl⟩
abbrev main_call2_call0_v140 : Ref sig .tc := ⟨.hbm, 484, rfl⟩
abbrev main_call2_call0_v141 : Ref sig .tc := ⟨.hbm, 485, rfl⟩
abbrev main_call2_call0_v142 : Ref sig .tc := ⟨.hbm, 486, rfl⟩
abbrev main_call2_call0_c_36 : Ref sig .tc := ⟨.hbm, 487, rfl⟩
abbrev main_call2_call0_v143 : Ref sig .tc := ⟨.hbm, 488, rfl⟩
abbrev main_call2_call0_v144 : Ref sig .tc := ⟨.hbm, 489, rfl⟩
abbrev main_call2_call0_c_37 : Ref sig .tc := ⟨.hbm, 490, rfl⟩
abbrev main_call2_call0_v145 : Ref sig .tc := ⟨.hbm, 491, rfl⟩
abbrev main_call2_call0_v146 : Ref sig .tc := ⟨.hbm, 492, rfl⟩
abbrev main_call2_call0_v147 : Ref sig .tc := ⟨.hbm, 493, rfl⟩
abbrev main_call2_call0_v148 : Ref sig .tc := ⟨.hbm, 494, rfl⟩
abbrev main_call2_call0_v149 : Ref sig .tc := ⟨.hbm, 495, rfl⟩
abbrev main_call2_call0_c_38 : Ref sig .tc := ⟨.hbm, 496, rfl⟩
abbrev main_call2_call0_v150 : Ref sig .tc := ⟨.hbm, 497, rfl⟩
abbrev main_call2_call0_v151 : Ref sig .tc := ⟨.hbm, 498, rfl⟩
abbrev main_call2_call0_c_39 : Ref sig .tc := ⟨.hbm, 499, rfl⟩
abbrev main_call2_call0_v152 : Ref sig .tc := ⟨.hbm, 500, rfl⟩
abbrev main_call2_call0_v153 : Ref sig .tc := ⟨.hbm, 501, rfl⟩
abbrev main_call2_call0_v154 : Ref sig .tc := ⟨.hbm, 502, rfl⟩
abbrev main_call2_call0_v155 : Ref sig .tc := ⟨.hbm, 503, rfl⟩
abbrev main_call2_call0_v156 : Ref sig .tc := ⟨.hbm, 504, rfl⟩
abbrev main_call2_call0_c_40 : Ref sig .tc := ⟨.hbm, 505, rfl⟩
abbrev main_call2_call0_v157 : Ref sig .tc := ⟨.hbm, 506, rfl⟩
abbrev main_call2_call0_v158 : Ref sig .tc := ⟨.hbm, 507, rfl⟩
abbrev main_call2_call0_c_41 : Ref sig .tc := ⟨.hbm, 508, rfl⟩
abbrev main_call2_call0_v159 : Ref sig .tc := ⟨.hbm, 509, rfl⟩
abbrev main_call2_call0_v160 : Ref sig .tc := ⟨.hbm, 510, rfl⟩
abbrev main_call2_call0_v161 : Ref sig .tc := ⟨.hbm, 511, rfl⟩
abbrev main_call2_call0_v162 : Ref sig .tc := ⟨.hbm, 512, rfl⟩
abbrev main_call2_call0_v163 : Ref sig .tc := ⟨.hbm, 513, rfl⟩
abbrev main_call2_call0_c_42 : Ref sig .tc := ⟨.hbm, 514, rfl⟩
abbrev main_call2_call0_v164 : Ref sig .tc := ⟨.hbm, 515, rfl⟩
abbrev main_call2_call0_v165 : Ref sig .tc := ⟨.hbm, 516, rfl⟩
abbrev main_call2_call0_c_43 : Ref sig .tc := ⟨.hbm, 517, rfl⟩
abbrev main_call2_call0_v166 : Ref sig .tc := ⟨.hbm, 518, rfl⟩
abbrev main_call2_call0_v167 : Ref sig .tc := ⟨.hbm, 519, rfl⟩
abbrev main_call2_call0_v168 : Ref sig .tc := ⟨.hbm, 520, rfl⟩
abbrev main_call2_call0_v169 : Ref sig .tc := ⟨.hbm, 521, rfl⟩
abbrev main_call2_call0_v170 : Ref sig .tc := ⟨.hbm, 522, rfl⟩
abbrev main_call2_v19_0 : Ref sig .tc := ⟨.hbm, 523, rfl⟩
abbrev main_call2_call0_v172 : Ref sig .tc := ⟨.hbm, 524, rfl⟩
abbrev main_call2_call0_v173 : Ref sig .tc := ⟨.hbm, 525, rfl⟩
abbrev main_call2_call0_c_44 : Ref sig .tc := ⟨.hbm, 526, rfl⟩
abbrev main_call2_call0_v174 : Ref sig .tc := ⟨.hbm, 527, rfl⟩
abbrev main_call2_v19_1 : Ref sig .tc := ⟨.hbm, 528, rfl⟩
abbrev main_call2_v20 : Ref sig .tc := ⟨.hbm, 529, rfl⟩
abbrev main_call2_c_2 : Ref sig .tc := ⟨.hbm, 530, rfl⟩
abbrev main_call2_v21 : Ref sig .tc := ⟨.hbm, 531, rfl⟩
abbrev main_call2_v22 : Ref sig .tc := ⟨.hbm, 532, rfl⟩
abbrev main_call2_c_3 : Ref sig .tc := ⟨.hbm, 533, rfl⟩
abbrev main_call2_v23 : Ref sig .tc := ⟨.hbm, 534, rfl⟩
abbrev main_call2_v24 : Ref sig .tc := ⟨.hbm, 535, rfl⟩
abbrev main_call2_v25 : Ref sig .tc := ⟨.hbm, 536, rfl⟩
abbrev main_call2_cst : Ref sig .tc := ⟨.hbm, 537, rfl⟩
abbrev main_call2_v26 : Ref sig .tc := ⟨.hbm, 538, rfl⟩
abbrev main_call2_v27 : Ref sig .tc := ⟨.hbm, 539, rfl⟩
abbrev main_call2_v28 : Ref sig .tc := ⟨.hbm, 540, rfl⟩
abbrev main_call2_v29 : Ref sig .tc := ⟨.hbm, 541, rfl⟩
abbrev main_call2_v30 : Ref sig .tc := ⟨.hbm, 542, rfl⟩
abbrev main_call2_v31 : Ref sig .tc := ⟨.hbm, 543, rfl⟩
abbrev main_call2_v32 : Ref sig .tc := ⟨.hbm, 544, rfl⟩
abbrev main_call2_v33 : Ref sig .tc := ⟨.hbm, 545, rfl⟩
abbrev main_v19 : Ref sig .tc := ⟨.hbm, 546, rfl⟩
abbrev main_cst_5 : Ref sig .tc := ⟨.hbm, 547, rfl⟩
abbrev main_v20 : Ref sig .tc := ⟨.hbm, 548, rfl⟩
abbrev main_v21 : Ref sig .tc := ⟨.hbm, 549, rfl⟩
abbrev main_v22 : Ref sig .tc := ⟨.hbm, 550, rfl⟩
abbrev main_cst_6 : Ref sig .tc := ⟨.hbm, 551, rfl⟩
abbrev main_v23 : Ref sig .tc := ⟨.hbm, 552, rfl⟩
abbrev main_v24 : Ref sig .tc := ⟨.hbm, 553, rfl⟩
abbrev main_v25 : Ref sig .tc := ⟨.hbm, 554, rfl⟩
abbrev main_v26 : Ref sig .tc := ⟨.hbm, 555, rfl⟩
abbrev main_v27 : Ref sig .tc := ⟨.hbm, 556, rfl⟩
abbrev main_v28 : Ref sig .tc := ⟨.hbm, 557, rfl⟩
abbrev main_v29 : Ref sig .tc := ⟨.hbm, 558, rfl⟩
abbrev main_cst_7 : Ref sig .tc := ⟨.hbm, 559, rfl⟩
abbrev main_v30 : Ref sig .tc := ⟨.hbm, 560, rfl⟩
abbrev main_v31 : Ref sig .tc := ⟨.hbm, 561, rfl⟩
abbrev main_cst_8 : Ref sig .tc := ⟨.hbm, 562, rfl⟩
abbrev main_v32 : Ref sig .tc := ⟨.hbm, 563, rfl⟩
abbrev main_v33 : Ref sig .tc := ⟨.hbm, 564, rfl⟩
abbrev main_v34 : Ref sig .tc := ⟨.hbm, 565, rfl⟩
abbrev main_v35 : Ref sig .tc := ⟨.hbm, 566, rfl⟩
abbrev main_call3_call0_cst : Ref sig .tc := ⟨.hbm, 567, rfl⟩
abbrev main_call3_call0_v0 : Ref sig .tc := ⟨.hbm, 568, rfl⟩
abbrev main_v36 : Ref sig .tc := ⟨.hbm, 569, rfl⟩
abbrev main_v37 : Ref sig .tc := ⟨.hbm, 570, rfl⟩
abbrev main_cst_9 : Ref sig .tc := ⟨.hbm, 571, rfl⟩
abbrev main_v38 : Ref sig .tc := ⟨.hbm, 572, rfl⟩
abbrev main_v39 : Ref sig .tc := ⟨.hbm, 573, rfl⟩
abbrev main_cst_10 : Ref sig .tc := ⟨.hbm, 574, rfl⟩
abbrev main_cst_11 : Ref sig .tc := ⟨.hbm, 575, rfl⟩
abbrev main_call4_v0 : Ref sig .tc := ⟨.hbm, 576, rfl⟩
abbrev main_call4_v1 : Ref sig .tc := ⟨.hbm, 577, rfl⟩
abbrev main_call4_v2 : Ref sig .tc := ⟨.hbm, 578, rfl⟩
abbrev main_call4_v3 : Ref sig .tc := ⟨.hbm, 579, rfl⟩
abbrev main_call4_v4 : Ref sig .tc := ⟨.hbm, 580, rfl⟩
abbrev main_call4_v5 : Ref sig .tc := ⟨.hbm, 581, rfl⟩
abbrev main_call4_v6 : Ref sig .tc := ⟨.hbm, 582, rfl⟩
abbrev main_call4_v7 : Ref sig .tc := ⟨.hbm, 583, rfl⟩
abbrev main_call4_v8 : Ref sig .tc := ⟨.hbm, 584, rfl⟩
abbrev main_call4_v9 : Ref sig .tc := ⟨.hbm, 585, rfl⟩
abbrev main_call4_c : Ref sig .tc := ⟨.hbm, 586, rfl⟩
abbrev main_call4_v10 : Ref sig .tc := ⟨.hbm, 587, rfl⟩
abbrev main_call4_v11 : Ref sig .tc := ⟨.hbm, 588, rfl⟩
abbrev main_call4_c_0 : Ref sig .tc := ⟨.hbm, 589, rfl⟩
abbrev main_call4_v12 : Ref sig .tc := ⟨.hbm, 590, rfl⟩
abbrev main_call4_v13 : Ref sig .tc := ⟨.hbm, 591, rfl⟩
abbrev main_call4_v14 : Ref sig .tc := ⟨.hbm, 592, rfl⟩
abbrev main_call4_c_1 : Ref sig .tc := ⟨.hbm, 593, rfl⟩
abbrev main_call4_v15 : Ref sig .tc := ⟨.hbm, 594, rfl⟩
abbrev main_call4_v16 : Ref sig .tc := ⟨.hbm, 595, rfl⟩
abbrev main_call4_v17 : Ref sig .tc := ⟨.hbm, 596, rfl⟩
abbrev main_call4_v18 : Ref sig .tc := ⟨.hbm, 597, rfl⟩
abbrev main_call4_call0_v0 : Ref sig .tc := ⟨.hbm, 598, rfl⟩
abbrev main_call4_call0_c : Ref sig .tc := ⟨.hbm, 599, rfl⟩
abbrev main_call4_call0_v1 : Ref sig .tc := ⟨.hbm, 600, rfl⟩
abbrev main_call4_call0_v2 : Ref sig .tc := ⟨.hbm, 601, rfl⟩
abbrev main_call4_call0_v3 : Ref sig .tc := ⟨.hbm, 602, rfl⟩
abbrev main_call4_call0_v4 : Ref sig .tc := ⟨.hbm, 603, rfl⟩
abbrev main_call4_call0_v5 : Ref sig .tc := ⟨.hbm, 604, rfl⟩
abbrev main_call4_call0_v6 : Ref sig .tc := ⟨.hbm, 605, rfl⟩
abbrev main_call4_call0_c_0 : Ref sig .tc := ⟨.hbm, 606, rfl⟩
abbrev main_call4_call0_v7 : Ref sig .tc := ⟨.hbm, 607, rfl⟩
abbrev main_call4_call0_v8 : Ref sig .tc := ⟨.hbm, 608, rfl⟩
abbrev main_call4_call0_c_1 : Ref sig .tc := ⟨.hbm, 609, rfl⟩
abbrev main_call4_call0_v9 : Ref sig .tc := ⟨.hbm, 610, rfl⟩
abbrev main_call4_call0_v10 : Ref sig .tc := ⟨.hbm, 611, rfl⟩
abbrev main_call4_call0_v11 : Ref sig .tc := ⟨.hbm, 612, rfl⟩
abbrev main_call4_call0_v12 : Ref sig .tc := ⟨.hbm, 613, rfl⟩
abbrev main_call4_call0_v13 : Ref sig .tc := ⟨.hbm, 614, rfl⟩
abbrev main_call4_call0_c_2 : Ref sig .tc := ⟨.hbm, 615, rfl⟩
abbrev main_call4_call0_v14 : Ref sig .tc := ⟨.hbm, 616, rfl⟩
abbrev main_call4_call0_v15 : Ref sig .tc := ⟨.hbm, 617, rfl⟩
abbrev main_call4_call0_c_3 : Ref sig .tc := ⟨.hbm, 618, rfl⟩
abbrev main_call4_call0_v16 : Ref sig .tc := ⟨.hbm, 619, rfl⟩
abbrev main_call4_call0_v17 : Ref sig .tc := ⟨.hbm, 620, rfl⟩
abbrev main_call4_call0_v18 : Ref sig .tc := ⟨.hbm, 621, rfl⟩
abbrev main_call4_call0_v19 : Ref sig .tc := ⟨.hbm, 622, rfl⟩
abbrev main_call4_call0_v20 : Ref sig .tc := ⟨.hbm, 623, rfl⟩
abbrev main_call4_call0_c_4 : Ref sig .tc := ⟨.hbm, 624, rfl⟩
abbrev main_call4_call0_v21 : Ref sig .tc := ⟨.hbm, 625, rfl⟩
abbrev main_call4_call0_v22 : Ref sig .tc := ⟨.hbm, 626, rfl⟩
abbrev main_call4_call0_c_5 : Ref sig .tc := ⟨.hbm, 627, rfl⟩
abbrev main_call4_call0_v23 : Ref sig .tc := ⟨.hbm, 628, rfl⟩
abbrev main_call4_call0_v24 : Ref sig .tc := ⟨.hbm, 629, rfl⟩
abbrev main_call4_call0_v25 : Ref sig .tc := ⟨.hbm, 630, rfl⟩
abbrev main_call4_call0_v26 : Ref sig .tc := ⟨.hbm, 631, rfl⟩
abbrev main_call4_call0_v27 : Ref sig .tc := ⟨.hbm, 632, rfl⟩
abbrev main_call4_call0_c_6 : Ref sig .tc := ⟨.hbm, 633, rfl⟩
abbrev main_call4_call0_v28 : Ref sig .tc := ⟨.hbm, 634, rfl⟩
abbrev main_call4_call0_v29 : Ref sig .tc := ⟨.hbm, 635, rfl⟩
abbrev main_call4_call0_c_7 : Ref sig .tc := ⟨.hbm, 636, rfl⟩
abbrev main_call4_call0_v30 : Ref sig .tc := ⟨.hbm, 637, rfl⟩
abbrev main_call4_call0_v31 : Ref sig .tc := ⟨.hbm, 638, rfl⟩
abbrev main_call4_call0_v32 : Ref sig .tc := ⟨.hbm, 639, rfl⟩
abbrev main_call4_call0_v33 : Ref sig .tc := ⟨.hbm, 640, rfl⟩
abbrev main_call4_call0_v34 : Ref sig .tc := ⟨.hbm, 641, rfl⟩
abbrev main_call4_call0_v35 : Ref sig .tc := ⟨.hbm, 642, rfl⟩
abbrev main_call4_call0_v36 : Ref sig .tc := ⟨.hbm, 643, rfl⟩
abbrev main_call4_call0_v37 : Ref sig .tc := ⟨.hbm, 644, rfl⟩
abbrev main_call4_call0_c_8 : Ref sig .tc := ⟨.hbm, 645, rfl⟩
abbrev main_call4_call0_v38 : Ref sig .tc := ⟨.hbm, 646, rfl⟩
abbrev main_call4_call0_v39 : Ref sig .tc := ⟨.hbm, 647, rfl⟩
abbrev main_call4_call0_v40 : Ref sig .tc := ⟨.hbm, 648, rfl⟩
abbrev main_call4_call0_c_9 : Ref sig .tc := ⟨.hbm, 649, rfl⟩
abbrev main_call4_call0_v41 : Ref sig .tc := ⟨.hbm, 650, rfl⟩
abbrev main_call4_call0_v42 : Ref sig .tc := ⟨.hbm, 651, rfl⟩
abbrev main_call4_call0_c_10 : Ref sig .tc := ⟨.hbm, 652, rfl⟩
abbrev main_call4_call0_v43 : Ref sig .tc := ⟨.hbm, 653, rfl⟩
abbrev main_call4_call0_v44 : Ref sig .tc := ⟨.hbm, 654, rfl⟩
abbrev main_call4_call0_v45 : Ref sig .tc := ⟨.hbm, 655, rfl⟩
abbrev main_call4_call0_v46 : Ref sig .tc := ⟨.hbm, 656, rfl⟩
abbrev main_call4_call0_v47 : Ref sig .tc := ⟨.hbm, 657, rfl⟩
abbrev main_call4_call0_c_11 : Ref sig .tc := ⟨.hbm, 658, rfl⟩
abbrev main_call4_call0_v48 : Ref sig .tc := ⟨.hbm, 659, rfl⟩
abbrev main_call4_call0_v49 : Ref sig .tc := ⟨.hbm, 660, rfl⟩
abbrev main_call4_call0_c_12 : Ref sig .tc := ⟨.hbm, 661, rfl⟩
abbrev main_call4_call0_v50 : Ref sig .tc := ⟨.hbm, 662, rfl⟩
abbrev main_call4_call0_v51 : Ref sig .tc := ⟨.hbm, 663, rfl⟩
abbrev main_call4_call0_v52 : Ref sig .tc := ⟨.hbm, 664, rfl⟩
abbrev main_call4_call0_v53 : Ref sig .tc := ⟨.hbm, 665, rfl⟩
abbrev main_call4_call0_v54 : Ref sig .tc := ⟨.hbm, 666, rfl⟩
abbrev main_call4_call0_c_13 : Ref sig .tc := ⟨.hbm, 667, rfl⟩
abbrev main_call4_call0_v55 : Ref sig .tc := ⟨.hbm, 668, rfl⟩
abbrev main_call4_call0_v56 : Ref sig .tc := ⟨.hbm, 669, rfl⟩
abbrev main_call4_call0_c_14 : Ref sig .tc := ⟨.hbm, 670, rfl⟩
abbrev main_call4_call0_v57 : Ref sig .tc := ⟨.hbm, 671, rfl⟩
abbrev main_call4_call0_v58 : Ref sig .tc := ⟨.hbm, 672, rfl⟩
abbrev main_call4_call0_v59 : Ref sig .tc := ⟨.hbm, 673, rfl⟩
abbrev main_call4_call0_v60 : Ref sig .tc := ⟨.hbm, 674, rfl⟩
abbrev main_call4_call0_v61 : Ref sig .tc := ⟨.hbm, 675, rfl⟩
abbrev main_call4_call0_c_15 : Ref sig .tc := ⟨.hbm, 676, rfl⟩
abbrev main_call4_call0_v62 : Ref sig .tc := ⟨.hbm, 677, rfl⟩
abbrev main_call4_call0_v63 : Ref sig .tc := ⟨.hbm, 678, rfl⟩
abbrev main_call4_call0_c_16 : Ref sig .tc := ⟨.hbm, 679, rfl⟩
abbrev main_call4_call0_v64 : Ref sig .tc := ⟨.hbm, 680, rfl⟩
abbrev main_call4_call0_v65 : Ref sig .tc := ⟨.hbm, 681, rfl⟩
abbrev main_call4_call0_v66 : Ref sig .tc := ⟨.hbm, 682, rfl⟩
abbrev main_call4_call0_v67 : Ref sig .tc := ⟨.hbm, 683, rfl⟩
abbrev main_call4_call0_v68 : Ref sig .tc := ⟨.hbm, 684, rfl⟩
abbrev main_call4_call0_v69 : Ref sig .tc := ⟨.hbm, 685, rfl⟩
abbrev main_call4_call0_v70 : Ref sig .tc := ⟨.hbm, 686, rfl⟩
abbrev main_call4_call0_v71 : Ref sig .tc := ⟨.hbm, 687, rfl⟩
abbrev main_call4_call0_c_17 : Ref sig .tc := ⟨.hbm, 688, rfl⟩
abbrev main_call4_call0_v72 : Ref sig .tc := ⟨.hbm, 689, rfl⟩
abbrev main_call4_call0_v73 : Ref sig .tc := ⟨.hbm, 690, rfl⟩
abbrev main_call4_call0_v74 : Ref sig .tc := ⟨.hbm, 691, rfl⟩
abbrev main_call4_call0_c_18 : Ref sig .tc := ⟨.hbm, 692, rfl⟩
abbrev main_call4_call0_v75 : Ref sig .tc := ⟨.hbm, 693, rfl⟩
abbrev main_call4_call0_v76 : Ref sig .tc := ⟨.hbm, 694, rfl⟩
abbrev main_call4_call0_c_19 : Ref sig .tc := ⟨.hbm, 695, rfl⟩
abbrev main_call4_call0_v77 : Ref sig .tc := ⟨.hbm, 696, rfl⟩
abbrev main_call4_call0_v78 : Ref sig .tc := ⟨.hbm, 697, rfl⟩
abbrev main_call4_call0_v79 : Ref sig .tc := ⟨.hbm, 698, rfl⟩
abbrev main_call4_call0_v80 : Ref sig .tc := ⟨.hbm, 699, rfl⟩
abbrev main_call4_call0_v81 : Ref sig .tc := ⟨.hbm, 700, rfl⟩
abbrev main_call4_call0_c_20 : Ref sig .tc := ⟨.hbm, 701, rfl⟩
abbrev main_call4_call0_v82 : Ref sig .tc := ⟨.hbm, 702, rfl⟩
abbrev main_call4_call0_v83 : Ref sig .tc := ⟨.hbm, 703, rfl⟩
abbrev main_call4_call0_c_21 : Ref sig .tc := ⟨.hbm, 704, rfl⟩
abbrev main_call4_call0_v84 : Ref sig .tc := ⟨.hbm, 705, rfl⟩
abbrev main_call4_call0_v85 : Ref sig .tc := ⟨.hbm, 706, rfl⟩
abbrev main_call4_call0_v86 : Ref sig .tc := ⟨.hbm, 707, rfl⟩
abbrev main_call4_call0_v87 : Ref sig .tc := ⟨.hbm, 708, rfl⟩
abbrev main_call4_call0_v88 : Ref sig .tc := ⟨.hbm, 709, rfl⟩
abbrev main_call4_call0_c_22 : Ref sig .tc := ⟨.hbm, 710, rfl⟩
abbrev main_call4_call0_v89 : Ref sig .tc := ⟨.hbm, 711, rfl⟩
abbrev main_call4_call0_v90 : Ref sig .tc := ⟨.hbm, 712, rfl⟩
abbrev main_call4_call0_c_23 : Ref sig .tc := ⟨.hbm, 713, rfl⟩
abbrev main_call4_call0_v91 : Ref sig .tc := ⟨.hbm, 714, rfl⟩
abbrev main_call4_call0_v92 : Ref sig .tc := ⟨.hbm, 715, rfl⟩
abbrev main_call4_call0_v93 : Ref sig .tc := ⟨.hbm, 716, rfl⟩
abbrev main_call4_call0_v94 : Ref sig .tc := ⟨.hbm, 717, rfl⟩
abbrev main_call4_call0_v95 : Ref sig .tc := ⟨.hbm, 718, rfl⟩
abbrev main_call4_call0_c_24 : Ref sig .tc := ⟨.hbm, 719, rfl⟩
abbrev main_call4_call0_v96 : Ref sig .tc := ⟨.hbm, 720, rfl⟩
abbrev main_call4_call0_v97 : Ref sig .tc := ⟨.hbm, 721, rfl⟩
abbrev main_call4_call0_c_25 : Ref sig .tc := ⟨.hbm, 722, rfl⟩
abbrev main_call4_call0_v98 : Ref sig .tc := ⟨.hbm, 723, rfl⟩
abbrev main_call4_call0_v99 : Ref sig .tc := ⟨.hbm, 724, rfl⟩
abbrev main_call4_call0_v100 : Ref sig .tc := ⟨.hbm, 725, rfl⟩
abbrev main_call4_call0_v101 : Ref sig .tc := ⟨.hbm, 726, rfl⟩
abbrev main_call4_call0_v102 : Ref sig .tc := ⟨.hbm, 727, rfl⟩
abbrev main_call4_call0_v103 : Ref sig .tc := ⟨.hbm, 728, rfl⟩
abbrev main_call4_call0_v104 : Ref sig .tc := ⟨.hbm, 729, rfl⟩
abbrev main_call4_call0_v105 : Ref sig .tc := ⟨.hbm, 730, rfl⟩
abbrev main_call4_call0_c_26 : Ref sig .tc := ⟨.hbm, 731, rfl⟩
abbrev main_call4_call0_v106 : Ref sig .tc := ⟨.hbm, 732, rfl⟩
abbrev main_call4_call0_v107 : Ref sig .tc := ⟨.hbm, 733, rfl⟩
abbrev main_call4_call0_v108 : Ref sig .tc := ⟨.hbm, 734, rfl⟩
abbrev main_call4_call0_c_27 : Ref sig .tc := ⟨.hbm, 735, rfl⟩
abbrev main_call4_call0_v109 : Ref sig .tc := ⟨.hbm, 736, rfl⟩
abbrev main_call4_call0_v110 : Ref sig .tc := ⟨.hbm, 737, rfl⟩
abbrev main_call4_call0_c_28 : Ref sig .tc := ⟨.hbm, 738, rfl⟩
abbrev main_call4_call0_v111 : Ref sig .tc := ⟨.hbm, 739, rfl⟩
abbrev main_call4_call0_v112 : Ref sig .tc := ⟨.hbm, 740, rfl⟩
abbrev main_call4_call0_v113 : Ref sig .tc := ⟨.hbm, 741, rfl⟩
abbrev main_call4_call0_v114 : Ref sig .tc := ⟨.hbm, 742, rfl⟩
abbrev main_call4_call0_v115 : Ref sig .tc := ⟨.hbm, 743, rfl⟩
abbrev main_call4_call0_c_29 : Ref sig .tc := ⟨.hbm, 744, rfl⟩
abbrev main_call4_call0_v116 : Ref sig .tc := ⟨.hbm, 745, rfl⟩
abbrev main_call4_call0_v117 : Ref sig .tc := ⟨.hbm, 746, rfl⟩
abbrev main_call4_call0_c_30 : Ref sig .tc := ⟨.hbm, 747, rfl⟩
abbrev main_call4_call0_v118 : Ref sig .tc := ⟨.hbm, 748, rfl⟩
abbrev main_call4_call0_v119 : Ref sig .tc := ⟨.hbm, 749, rfl⟩
abbrev main_call4_call0_v120 : Ref sig .tc := ⟨.hbm, 750, rfl⟩
abbrev main_call4_call0_v121 : Ref sig .tc := ⟨.hbm, 751, rfl⟩
abbrev main_call4_call0_v122 : Ref sig .tc := ⟨.hbm, 752, rfl⟩
abbrev main_call4_call0_c_31 : Ref sig .tc := ⟨.hbm, 753, rfl⟩
abbrev main_call4_call0_v123 : Ref sig .tc := ⟨.hbm, 754, rfl⟩
abbrev main_call4_call0_v124 : Ref sig .tc := ⟨.hbm, 755, rfl⟩
abbrev main_call4_call0_c_32 : Ref sig .tc := ⟨.hbm, 756, rfl⟩
abbrev main_call4_call0_v125 : Ref sig .tc := ⟨.hbm, 757, rfl⟩
abbrev main_call4_call0_v126 : Ref sig .tc := ⟨.hbm, 758, rfl⟩
abbrev main_call4_call0_v127 : Ref sig .tc := ⟨.hbm, 759, rfl⟩
abbrev main_call4_call0_v128 : Ref sig .tc := ⟨.hbm, 760, rfl⟩
abbrev main_call4_call0_v129 : Ref sig .tc := ⟨.hbm, 761, rfl⟩
abbrev main_call4_call0_c_33 : Ref sig .tc := ⟨.hbm, 762, rfl⟩
abbrev main_call4_call0_v130 : Ref sig .tc := ⟨.hbm, 763, rfl⟩
abbrev main_call4_call0_v131 : Ref sig .tc := ⟨.hbm, 764, rfl⟩
abbrev main_call4_call0_c_34 : Ref sig .tc := ⟨.hbm, 765, rfl⟩
abbrev main_call4_call0_v132 : Ref sig .tc := ⟨.hbm, 766, rfl⟩
abbrev main_call4_call0_v133 : Ref sig .tc := ⟨.hbm, 767, rfl⟩
abbrev main_call4_call0_v134 : Ref sig .tc := ⟨.hbm, 768, rfl⟩
abbrev main_call4_call0_v135 : Ref sig .tc := ⟨.hbm, 769, rfl⟩
abbrev main_call4_call0_v136 : Ref sig .tc := ⟨.hbm, 770, rfl⟩
abbrev main_call4_call0_v137 : Ref sig .tc := ⟨.hbm, 771, rfl⟩
abbrev main_call4_call0_v138 : Ref sig .tc := ⟨.hbm, 772, rfl⟩
abbrev main_call4_call0_v139 : Ref sig .tc := ⟨.hbm, 773, rfl⟩
abbrev main_call4_call0_c_35 : Ref sig .tc := ⟨.hbm, 774, rfl⟩
abbrev main_call4_call0_v140 : Ref sig .tc := ⟨.hbm, 775, rfl⟩
abbrev main_call4_call0_v141 : Ref sig .tc := ⟨.hbm, 776, rfl⟩
abbrev main_call4_call0_v142 : Ref sig .tc := ⟨.hbm, 777, rfl⟩
abbrev main_call4_call0_c_36 : Ref sig .tc := ⟨.hbm, 778, rfl⟩
abbrev main_call4_call0_v143 : Ref sig .tc := ⟨.hbm, 779, rfl⟩
abbrev main_call4_call0_v144 : Ref sig .tc := ⟨.hbm, 780, rfl⟩
abbrev main_call4_call0_c_37 : Ref sig .tc := ⟨.hbm, 781, rfl⟩
abbrev main_call4_call0_v145 : Ref sig .tc := ⟨.hbm, 782, rfl⟩
abbrev main_call4_call0_v146 : Ref sig .tc := ⟨.hbm, 783, rfl⟩
abbrev main_call4_call0_v147 : Ref sig .tc := ⟨.hbm, 784, rfl⟩
abbrev main_call4_call0_v148 : Ref sig .tc := ⟨.hbm, 785, rfl⟩
abbrev main_call4_call0_v149 : Ref sig .tc := ⟨.hbm, 786, rfl⟩
abbrev main_call4_call0_c_38 : Ref sig .tc := ⟨.hbm, 787, rfl⟩
abbrev main_call4_call0_v150 : Ref sig .tc := ⟨.hbm, 788, rfl⟩
abbrev main_call4_call0_v151 : Ref sig .tc := ⟨.hbm, 789, rfl⟩
abbrev main_call4_call0_c_39 : Ref sig .tc := ⟨.hbm, 790, rfl⟩
abbrev main_call4_call0_v152 : Ref sig .tc := ⟨.hbm, 791, rfl⟩
abbrev main_call4_call0_v153 : Ref sig .tc := ⟨.hbm, 792, rfl⟩
abbrev main_call4_call0_v154 : Ref sig .tc := ⟨.hbm, 793, rfl⟩
abbrev main_call4_call0_v155 : Ref sig .tc := ⟨.hbm, 794, rfl⟩
abbrev main_call4_call0_v156 : Ref sig .tc := ⟨.hbm, 795, rfl⟩
abbrev main_call4_call0_c_40 : Ref sig .tc := ⟨.hbm, 796, rfl⟩
abbrev main_call4_call0_v157 : Ref sig .tc := ⟨.hbm, 797, rfl⟩
abbrev main_call4_call0_v158 : Ref sig .tc := ⟨.hbm, 798, rfl⟩
abbrev main_call4_call0_c_41 : Ref sig .tc := ⟨.hbm, 799, rfl⟩
abbrev main_call4_call0_v159 : Ref sig .tc := ⟨.hbm, 800, rfl⟩
abbrev main_call4_call0_v160 : Ref sig .tc := ⟨.hbm, 801, rfl⟩
abbrev main_call4_call0_v161 : Ref sig .tc := ⟨.hbm, 802, rfl⟩
abbrev main_call4_call0_v162 : Ref sig .tc := ⟨.hbm, 803, rfl⟩
abbrev main_call4_call0_v163 : Ref sig .tc := ⟨.hbm, 804, rfl⟩
abbrev main_call4_call0_c_42 : Ref sig .tc := ⟨.hbm, 805, rfl⟩
abbrev main_call4_call0_v164 : Ref sig .tc := ⟨.hbm, 806, rfl⟩
abbrev main_call4_call0_v165 : Ref sig .tc := ⟨.hbm, 807, rfl⟩
abbrev main_call4_call0_c_43 : Ref sig .tc := ⟨.hbm, 808, rfl⟩
abbrev main_call4_call0_v166 : Ref sig .tc := ⟨.hbm, 809, rfl⟩
abbrev main_call4_call0_v167 : Ref sig .tc := ⟨.hbm, 810, rfl⟩
abbrev main_call4_call0_v168 : Ref sig .tc := ⟨.hbm, 811, rfl⟩
abbrev main_call4_call0_v169 : Ref sig .tc := ⟨.hbm, 812, rfl⟩
abbrev main_call4_call0_v170 : Ref sig .tc := ⟨.hbm, 813, rfl⟩
abbrev main_call4_v19_0 : Ref sig .tc := ⟨.hbm, 814, rfl⟩
abbrev main_call4_call0_v172 : Ref sig .tc := ⟨.hbm, 815, rfl⟩
abbrev main_call4_call0_v173 : Ref sig .tc := ⟨.hbm, 816, rfl⟩
abbrev main_call4_call0_c_44 : Ref sig .tc := ⟨.hbm, 817, rfl⟩
abbrev main_call4_call0_v174 : Ref sig .tc := ⟨.hbm, 818, rfl⟩
abbrev main_call4_v19_1 : Ref sig .tc := ⟨.hbm, 819, rfl⟩
abbrev main_call4_v20 : Ref sig .tc := ⟨.hbm, 820, rfl⟩
abbrev main_call4_c_2 : Ref sig .tc := ⟨.hbm, 821, rfl⟩
abbrev main_call4_v21 : Ref sig .tc := ⟨.hbm, 822, rfl⟩
abbrev main_call4_v22 : Ref sig .tc := ⟨.hbm, 823, rfl⟩
abbrev main_call4_c_3 : Ref sig .tc := ⟨.hbm, 824, rfl⟩
abbrev main_call4_v23 : Ref sig .tc := ⟨.hbm, 825, rfl⟩
abbrev main_call4_v24 : Ref sig .tc := ⟨.hbm, 826, rfl⟩
abbrev main_call4_v25 : Ref sig .tc := ⟨.hbm, 827, rfl⟩
abbrev main_call4_cst : Ref sig .tc := ⟨.hbm, 828, rfl⟩
abbrev main_call4_v26 : Ref sig .tc := ⟨.hbm, 829, rfl⟩
abbrev main_call4_v27 : Ref sig .tc := ⟨.hbm, 830, rfl⟩
abbrev main_call4_v28 : Ref sig .tc := ⟨.hbm, 831, rfl⟩
abbrev main_call4_v29 : Ref sig .tc := ⟨.hbm, 832, rfl⟩
abbrev main_call4_v30 : Ref sig .tc := ⟨.hbm, 833, rfl⟩
abbrev main_call4_v31 : Ref sig .tc := ⟨.hbm, 834, rfl⟩
abbrev main_call4_v32 : Ref sig .tc := ⟨.hbm, 835, rfl⟩
abbrev main_call4_v33 : Ref sig .tc := ⟨.hbm, 836, rfl⟩
abbrev main_v40 : Ref sig .tc := ⟨.hbm, 837, rfl⟩
abbrev main_v41 : Ref sig .tc := ⟨.hbm, 838, rfl⟩
abbrev main_v42 : Ref sig .tc := ⟨.hbm, 839, rfl⟩
abbrev main_v43 : Ref sig .tc := ⟨.hbm, 840, rfl⟩
abbrev main_v44 : Ref sig .tc := ⟨.hbm, 841, rfl⟩
abbrev main_v45 : Ref sig .tc := ⟨.hbm, 842, rfl⟩
abbrev main_v46 : Ref sig .tc := ⟨.hbm, 843, rfl⟩
abbrev main_c_12 : Ref sig .tc := ⟨.hbm, 844, rfl⟩
abbrev main_v47 : Ref sig .tc := ⟨.hbm, 845, rfl⟩
abbrev main_v48 : Ref sig .tc := ⟨.hbm, 846, rfl⟩
abbrev main_cst_13 : Ref sig .tc := ⟨.hbm, 847, rfl⟩
abbrev main_v49 : Ref sig .tc := ⟨.hbm, 848, rfl⟩
abbrev main_v50 : Ref sig .tc := ⟨.hbm, 849, rfl⟩
abbrev main_cst_14 : Ref sig .tc := ⟨.hbm, 850, rfl⟩
abbrev main_v51 : Ref sig .tc := ⟨.hbm, 851, rfl⟩
abbrev main_v52 : Ref sig .tc := ⟨.hbm, 852, rfl⟩
abbrev main_cst_15 : Ref sig .tc := ⟨.hbm, 853, rfl⟩
abbrev main_cst_16 : Ref sig .tc := ⟨.hbm, 854, rfl⟩
abbrev main_call5_v0 : Ref sig .tc := ⟨.hbm, 855, rfl⟩
abbrev main_call5_v1 : Ref sig .tc := ⟨.hbm, 856, rfl⟩
abbrev main_call5_v2 : Ref sig .tc := ⟨.hbm, 857, rfl⟩
abbrev main_call5_v3 : Ref sig .tc := ⟨.hbm, 858, rfl⟩
abbrev main_call5_v4 : Ref sig .tc := ⟨.hbm, 859, rfl⟩
abbrev main_call5_v5 : Ref sig .tc := ⟨.hbm, 860, rfl⟩
abbrev main_call5_v6 : Ref sig .tc := ⟨.hbm, 861, rfl⟩
abbrev main_call5_v7 : Ref sig .tc := ⟨.hbm, 862, rfl⟩
abbrev main_call5_v8 : Ref sig .tc := ⟨.hbm, 863, rfl⟩
abbrev main_call5_v9 : Ref sig .tc := ⟨.hbm, 864, rfl⟩
abbrev main_call5_c : Ref sig .tc := ⟨.hbm, 865, rfl⟩
abbrev main_call5_v10 : Ref sig .tc := ⟨.hbm, 866, rfl⟩
abbrev main_call5_v11 : Ref sig .tc := ⟨.hbm, 867, rfl⟩
abbrev main_call5_c_0 : Ref sig .tc := ⟨.hbm, 868, rfl⟩
abbrev main_call5_v12 : Ref sig .tc := ⟨.hbm, 869, rfl⟩
abbrev main_call5_v13 : Ref sig .tc := ⟨.hbm, 870, rfl⟩
abbrev main_call5_v14 : Ref sig .tc := ⟨.hbm, 871, rfl⟩
abbrev main_call5_c_1 : Ref sig .tc := ⟨.hbm, 872, rfl⟩
abbrev main_call5_v15 : Ref sig .tc := ⟨.hbm, 873, rfl⟩
abbrev main_call5_v16 : Ref sig .tc := ⟨.hbm, 874, rfl⟩
abbrev main_call5_v17 : Ref sig .tc := ⟨.hbm, 875, rfl⟩
abbrev main_call5_v18 : Ref sig .tc := ⟨.hbm, 876, rfl⟩
abbrev main_call5_call0_v0 : Ref sig .tc := ⟨.hbm, 877, rfl⟩
abbrev main_call5_call0_c : Ref sig .tc := ⟨.hbm, 878, rfl⟩
abbrev main_call5_call0_v1 : Ref sig .tc := ⟨.hbm, 879, rfl⟩
abbrev main_call5_call0_v2 : Ref sig .tc := ⟨.hbm, 880, rfl⟩
abbrev main_call5_call0_v3 : Ref sig .tc := ⟨.hbm, 881, rfl⟩
abbrev main_call5_call0_v4 : Ref sig .tc := ⟨.hbm, 882, rfl⟩
abbrev main_call5_call0_v5 : Ref sig .tc := ⟨.hbm, 883, rfl⟩
abbrev main_call5_call0_v6 : Ref sig .tc := ⟨.hbm, 884, rfl⟩
abbrev main_call5_call0_c_0 : Ref sig .tc := ⟨.hbm, 885, rfl⟩
abbrev main_call5_call0_v7 : Ref sig .tc := ⟨.hbm, 886, rfl⟩
abbrev main_call5_call0_v8 : Ref sig .tc := ⟨.hbm, 887, rfl⟩
abbrev main_call5_call0_c_1 : Ref sig .tc := ⟨.hbm, 888, rfl⟩
abbrev main_call5_call0_v9 : Ref sig .tc := ⟨.hbm, 889, rfl⟩
abbrev main_call5_call0_v10 : Ref sig .tc := ⟨.hbm, 890, rfl⟩
abbrev main_call5_call0_v11 : Ref sig .tc := ⟨.hbm, 891, rfl⟩
abbrev main_call5_call0_v12 : Ref sig .tc := ⟨.hbm, 892, rfl⟩
abbrev main_call5_call0_v13 : Ref sig .tc := ⟨.hbm, 893, rfl⟩
abbrev main_call5_call0_c_2 : Ref sig .tc := ⟨.hbm, 894, rfl⟩
abbrev main_call5_call0_v14 : Ref sig .tc := ⟨.hbm, 895, rfl⟩
abbrev main_call5_call0_v15 : Ref sig .tc := ⟨.hbm, 896, rfl⟩
abbrev main_call5_call0_c_3 : Ref sig .tc := ⟨.hbm, 897, rfl⟩
abbrev main_call5_call0_v16 : Ref sig .tc := ⟨.hbm, 898, rfl⟩
abbrev main_call5_call0_v17 : Ref sig .tc := ⟨.hbm, 899, rfl⟩
abbrev main_call5_call0_v18 : Ref sig .tc := ⟨.hbm, 900, rfl⟩
abbrev main_call5_call0_v19 : Ref sig .tc := ⟨.hbm, 901, rfl⟩
abbrev main_call5_call0_v20 : Ref sig .tc := ⟨.hbm, 902, rfl⟩
abbrev main_call5_call0_c_4 : Ref sig .tc := ⟨.hbm, 903, rfl⟩
abbrev main_call5_call0_v21 : Ref sig .tc := ⟨.hbm, 904, rfl⟩
abbrev main_call5_call0_v22 : Ref sig .tc := ⟨.hbm, 905, rfl⟩
abbrev main_call5_call0_c_5 : Ref sig .tc := ⟨.hbm, 906, rfl⟩
abbrev main_call5_call0_v23 : Ref sig .tc := ⟨.hbm, 907, rfl⟩
abbrev main_call5_call0_v24 : Ref sig .tc := ⟨.hbm, 908, rfl⟩
abbrev main_call5_call0_v25 : Ref sig .tc := ⟨.hbm, 909, rfl⟩
abbrev main_call5_call0_v26 : Ref sig .tc := ⟨.hbm, 910, rfl⟩
abbrev main_call5_call0_v27 : Ref sig .tc := ⟨.hbm, 911, rfl⟩
abbrev main_call5_call0_c_6 : Ref sig .tc := ⟨.hbm, 912, rfl⟩
abbrev main_call5_call0_v28 : Ref sig .tc := ⟨.hbm, 913, rfl⟩
abbrev main_call5_call0_v29 : Ref sig .tc := ⟨.hbm, 914, rfl⟩
abbrev main_call5_call0_c_7 : Ref sig .tc := ⟨.hbm, 915, rfl⟩
abbrev main_call5_call0_v30 : Ref sig .tc := ⟨.hbm, 916, rfl⟩
abbrev main_call5_call0_v31 : Ref sig .tc := ⟨.hbm, 917, rfl⟩
abbrev main_call5_call0_v32 : Ref sig .tc := ⟨.hbm, 918, rfl⟩
abbrev main_call5_call0_v33 : Ref sig .tc := ⟨.hbm, 919, rfl⟩
abbrev main_call5_call0_v34 : Ref sig .tc := ⟨.hbm, 920, rfl⟩
abbrev main_call5_call0_v35 : Ref sig .tc := ⟨.hbm, 921, rfl⟩
abbrev main_call5_call0_v36 : Ref sig .tc := ⟨.hbm, 922, rfl⟩
abbrev main_call5_call0_v37 : Ref sig .tc := ⟨.hbm, 923, rfl⟩
abbrev main_call5_call0_c_8 : Ref sig .tc := ⟨.hbm, 924, rfl⟩
abbrev main_call5_call0_v38 : Ref sig .tc := ⟨.hbm, 925, rfl⟩
abbrev main_call5_call0_v39 : Ref sig .tc := ⟨.hbm, 926, rfl⟩
abbrev main_call5_call0_v40 : Ref sig .tc := ⟨.hbm, 927, rfl⟩
abbrev main_call5_call0_c_9 : Ref sig .tc := ⟨.hbm, 928, rfl⟩
abbrev main_call5_call0_v41 : Ref sig .tc := ⟨.hbm, 929, rfl⟩
abbrev main_call5_call0_v42 : Ref sig .tc := ⟨.hbm, 930, rfl⟩
abbrev main_call5_call0_c_10 : Ref sig .tc := ⟨.hbm, 931, rfl⟩
abbrev main_call5_call0_v43 : Ref sig .tc := ⟨.hbm, 932, rfl⟩
abbrev main_call5_call0_v44 : Ref sig .tc := ⟨.hbm, 933, rfl⟩
abbrev main_call5_call0_v45 : Ref sig .tc := ⟨.hbm, 934, rfl⟩
abbrev main_call5_call0_v46 : Ref sig .tc := ⟨.hbm, 935, rfl⟩
abbrev main_call5_call0_v47 : Ref sig .tc := ⟨.hbm, 936, rfl⟩
abbrev main_call5_call0_c_11 : Ref sig .tc := ⟨.hbm, 937, rfl⟩
abbrev main_call5_call0_v48 : Ref sig .tc := ⟨.hbm, 938, rfl⟩
abbrev main_call5_call0_v49 : Ref sig .tc := ⟨.hbm, 939, rfl⟩
abbrev main_call5_call0_c_12 : Ref sig .tc := ⟨.hbm, 940, rfl⟩
abbrev main_call5_call0_v50 : Ref sig .tc := ⟨.hbm, 941, rfl⟩
abbrev main_call5_call0_v51 : Ref sig .tc := ⟨.hbm, 942, rfl⟩
abbrev main_call5_call0_v52 : Ref sig .tc := ⟨.hbm, 943, rfl⟩
abbrev main_call5_call0_v53 : Ref sig .tc := ⟨.hbm, 944, rfl⟩
abbrev main_call5_call0_v54 : Ref sig .tc := ⟨.hbm, 945, rfl⟩
abbrev main_call5_call0_c_13 : Ref sig .tc := ⟨.hbm, 946, rfl⟩
abbrev main_call5_call0_v55 : Ref sig .tc := ⟨.hbm, 947, rfl⟩
abbrev main_call5_call0_v56 : Ref sig .tc := ⟨.hbm, 948, rfl⟩
abbrev main_call5_call0_c_14 : Ref sig .tc := ⟨.hbm, 949, rfl⟩
abbrev main_call5_call0_v57 : Ref sig .tc := ⟨.hbm, 950, rfl⟩
abbrev main_call5_call0_v58 : Ref sig .tc := ⟨.hbm, 951, rfl⟩
abbrev main_call5_call0_v59 : Ref sig .tc := ⟨.hbm, 952, rfl⟩
abbrev main_call5_call0_v60 : Ref sig .tc := ⟨.hbm, 953, rfl⟩
abbrev main_call5_call0_v61 : Ref sig .tc := ⟨.hbm, 954, rfl⟩
abbrev main_call5_call0_c_15 : Ref sig .tc := ⟨.hbm, 955, rfl⟩
abbrev main_call5_call0_v62 : Ref sig .tc := ⟨.hbm, 956, rfl⟩
abbrev main_call5_call0_v63 : Ref sig .tc := ⟨.hbm, 957, rfl⟩
abbrev main_call5_call0_c_16 : Ref sig .tc := ⟨.hbm, 958, rfl⟩
abbrev main_call5_call0_v64 : Ref sig .tc := ⟨.hbm, 959, rfl⟩
abbrev main_call5_call0_v65 : Ref sig .tc := ⟨.hbm, 960, rfl⟩
abbrev main_call5_call0_v66 : Ref sig .tc := ⟨.hbm, 961, rfl⟩
abbrev main_call5_call0_v67 : Ref sig .tc := ⟨.hbm, 962, rfl⟩
abbrev main_call5_call0_v68 : Ref sig .tc := ⟨.hbm, 963, rfl⟩
abbrev main_call5_call0_v69 : Ref sig .tc := ⟨.hbm, 964, rfl⟩
abbrev main_call5_call0_v70 : Ref sig .tc := ⟨.hbm, 965, rfl⟩
abbrev main_call5_call0_v71 : Ref sig .tc := ⟨.hbm, 966, rfl⟩
abbrev main_call5_call0_c_17 : Ref sig .tc := ⟨.hbm, 967, rfl⟩
abbrev main_call5_call0_v72 : Ref sig .tc := ⟨.hbm, 968, rfl⟩
abbrev main_call5_call0_v73 : Ref sig .tc := ⟨.hbm, 969, rfl⟩
abbrev main_call5_call0_v74 : Ref sig .tc := ⟨.hbm, 970, rfl⟩
abbrev main_call5_call0_c_18 : Ref sig .tc := ⟨.hbm, 971, rfl⟩
abbrev main_call5_call0_v75 : Ref sig .tc := ⟨.hbm, 972, rfl⟩
abbrev main_call5_call0_v76 : Ref sig .tc := ⟨.hbm, 973, rfl⟩
abbrev main_call5_call0_c_19 : Ref sig .tc := ⟨.hbm, 974, rfl⟩
abbrev main_call5_call0_v77 : Ref sig .tc := ⟨.hbm, 975, rfl⟩
abbrev main_call5_call0_v78 : Ref sig .tc := ⟨.hbm, 976, rfl⟩
abbrev main_call5_call0_v79 : Ref sig .tc := ⟨.hbm, 977, rfl⟩
abbrev main_call5_call0_v80 : Ref sig .tc := ⟨.hbm, 978, rfl⟩
abbrev main_call5_call0_v81 : Ref sig .tc := ⟨.hbm, 979, rfl⟩
abbrev main_call5_call0_c_20 : Ref sig .tc := ⟨.hbm, 980, rfl⟩
abbrev main_call5_call0_v82 : Ref sig .tc := ⟨.hbm, 981, rfl⟩
abbrev main_call5_call0_v83 : Ref sig .tc := ⟨.hbm, 982, rfl⟩
abbrev main_call5_call0_c_21 : Ref sig .tc := ⟨.hbm, 983, rfl⟩
abbrev main_call5_call0_v84 : Ref sig .tc := ⟨.hbm, 984, rfl⟩
abbrev main_call5_call0_v85 : Ref sig .tc := ⟨.hbm, 985, rfl⟩
abbrev main_call5_call0_v86 : Ref sig .tc := ⟨.hbm, 986, rfl⟩
abbrev main_call5_call0_v87 : Ref sig .tc := ⟨.hbm, 987, rfl⟩
abbrev main_call5_call0_v88 : Ref sig .tc := ⟨.hbm, 988, rfl⟩
abbrev main_call5_call0_c_22 : Ref sig .tc := ⟨.hbm, 989, rfl⟩
abbrev main_call5_call0_v89 : Ref sig .tc := ⟨.hbm, 990, rfl⟩
abbrev main_call5_call0_v90 : Ref sig .tc := ⟨.hbm, 991, rfl⟩
abbrev main_call5_call0_c_23 : Ref sig .tc := ⟨.hbm, 992, rfl⟩
abbrev main_call5_call0_v91 : Ref sig .tc := ⟨.hbm, 993, rfl⟩
abbrev main_call5_call0_v92 : Ref sig .tc := ⟨.hbm, 994, rfl⟩
abbrev main_call5_call0_v93 : Ref sig .tc := ⟨.hbm, 995, rfl⟩
abbrev main_call5_call0_v94 : Ref sig .tc := ⟨.hbm, 996, rfl⟩
abbrev main_call5_call0_v95 : Ref sig .tc := ⟨.hbm, 997, rfl⟩
abbrev main_call5_call0_c_24 : Ref sig .tc := ⟨.hbm, 998, rfl⟩
abbrev main_call5_call0_v96 : Ref sig .tc := ⟨.hbm, 999, rfl⟩
abbrev main_call5_call0_v97 : Ref sig .tc := ⟨.hbm, 1000, rfl⟩
abbrev main_call5_call0_c_25 : Ref sig .tc := ⟨.hbm, 1001, rfl⟩
abbrev main_call5_call0_v98 : Ref sig .tc := ⟨.hbm, 1002, rfl⟩
abbrev main_call5_call0_v99 : Ref sig .tc := ⟨.hbm, 1003, rfl⟩
abbrev main_call5_call0_v100 : Ref sig .tc := ⟨.hbm, 1004, rfl⟩
abbrev main_call5_call0_v101 : Ref sig .tc := ⟨.hbm, 1005, rfl⟩
abbrev main_call5_call0_v102 : Ref sig .tc := ⟨.hbm, 1006, rfl⟩
abbrev main_call5_call0_v103 : Ref sig .tc := ⟨.hbm, 1007, rfl⟩
abbrev main_call5_call0_v104 : Ref sig .tc := ⟨.hbm, 1008, rfl⟩
abbrev main_call5_call0_v105 : Ref sig .tc := ⟨.hbm, 1009, rfl⟩
abbrev main_call5_call0_c_26 : Ref sig .tc := ⟨.hbm, 1010, rfl⟩
abbrev main_call5_call0_v106 : Ref sig .tc := ⟨.hbm, 1011, rfl⟩
abbrev main_call5_call0_v107 : Ref sig .tc := ⟨.hbm, 1012, rfl⟩
abbrev main_call5_call0_v108 : Ref sig .tc := ⟨.hbm, 1013, rfl⟩
abbrev main_call5_call0_c_27 : Ref sig .tc := ⟨.hbm, 1014, rfl⟩
abbrev main_call5_call0_v109 : Ref sig .tc := ⟨.hbm, 1015, rfl⟩
abbrev main_call5_call0_v110 : Ref sig .tc := ⟨.hbm, 1016, rfl⟩
abbrev main_call5_call0_c_28 : Ref sig .tc := ⟨.hbm, 1017, rfl⟩
abbrev main_call5_call0_v111 : Ref sig .tc := ⟨.hbm, 1018, rfl⟩
abbrev main_call5_call0_v112 : Ref sig .tc := ⟨.hbm, 1019, rfl⟩
abbrev main_call5_call0_v113 : Ref sig .tc := ⟨.hbm, 1020, rfl⟩
abbrev main_call5_call0_v114 : Ref sig .tc := ⟨.hbm, 1021, rfl⟩
abbrev main_call5_call0_v115 : Ref sig .tc := ⟨.hbm, 1022, rfl⟩
abbrev main_call5_call0_c_29 : Ref sig .tc := ⟨.hbm, 1023, rfl⟩
abbrev main_call5_call0_v116 : Ref sig .tc := ⟨.hbm, 1024, rfl⟩
abbrev main_call5_call0_v117 : Ref sig .tc := ⟨.hbm, 1025, rfl⟩
abbrev main_call5_call0_c_30 : Ref sig .tc := ⟨.hbm, 1026, rfl⟩
abbrev main_call5_call0_v118 : Ref sig .tc := ⟨.hbm, 1027, rfl⟩
abbrev main_call5_call0_v119 : Ref sig .tc := ⟨.hbm, 1028, rfl⟩
abbrev main_call5_call0_v120 : Ref sig .tc := ⟨.hbm, 1029, rfl⟩
abbrev main_call5_call0_v121 : Ref sig .tc := ⟨.hbm, 1030, rfl⟩
abbrev main_call5_call0_v122 : Ref sig .tc := ⟨.hbm, 1031, rfl⟩
abbrev main_call5_call0_c_31 : Ref sig .tc := ⟨.hbm, 1032, rfl⟩
abbrev main_call5_call0_v123 : Ref sig .tc := ⟨.hbm, 1033, rfl⟩
abbrev main_call5_call0_v124 : Ref sig .tc := ⟨.hbm, 1034, rfl⟩
abbrev main_call5_call0_c_32 : Ref sig .tc := ⟨.hbm, 1035, rfl⟩
abbrev main_call5_call0_v125 : Ref sig .tc := ⟨.hbm, 1036, rfl⟩
abbrev main_call5_call0_v126 : Ref sig .tc := ⟨.hbm, 1037, rfl⟩
abbrev main_call5_call0_v127 : Ref sig .tc := ⟨.hbm, 1038, rfl⟩
abbrev main_call5_call0_v128 : Ref sig .tc := ⟨.hbm, 1039, rfl⟩
abbrev main_call5_call0_v129 : Ref sig .tc := ⟨.hbm, 1040, rfl⟩
abbrev main_call5_call0_c_33 : Ref sig .tc := ⟨.hbm, 1041, rfl⟩
abbrev main_call5_call0_v130 : Ref sig .tc := ⟨.hbm, 1042, rfl⟩
abbrev main_call5_call0_v131 : Ref sig .tc := ⟨.hbm, 1043, rfl⟩
abbrev main_call5_call0_c_34 : Ref sig .tc := ⟨.hbm, 1044, rfl⟩
abbrev main_call5_call0_v132 : Ref sig .tc := ⟨.hbm, 1045, rfl⟩
abbrev main_call5_call0_v133 : Ref sig .tc := ⟨.hbm, 1046, rfl⟩
abbrev main_call5_call0_v134 : Ref sig .tc := ⟨.hbm, 1047, rfl⟩
abbrev main_call5_call0_v135 : Ref sig .tc := ⟨.hbm, 1048, rfl⟩
abbrev main_call5_call0_v136 : Ref sig .tc := ⟨.hbm, 1049, rfl⟩
abbrev main_call5_call0_v137 : Ref sig .tc := ⟨.hbm, 1050, rfl⟩
abbrev main_call5_call0_v138 : Ref sig .tc := ⟨.hbm, 1051, rfl⟩
abbrev main_call5_call0_v139 : Ref sig .tc := ⟨.hbm, 1052, rfl⟩
abbrev main_call5_call0_c_35 : Ref sig .tc := ⟨.hbm, 1053, rfl⟩
abbrev main_call5_call0_v140 : Ref sig .tc := ⟨.hbm, 1054, rfl⟩
abbrev main_call5_call0_v141 : Ref sig .tc := ⟨.hbm, 1055, rfl⟩
abbrev main_call5_call0_v142 : Ref sig .tc := ⟨.hbm, 1056, rfl⟩
abbrev main_call5_call0_c_36 : Ref sig .tc := ⟨.hbm, 1057, rfl⟩
abbrev main_call5_call0_v143 : Ref sig .tc := ⟨.hbm, 1058, rfl⟩
abbrev main_call5_call0_v144 : Ref sig .tc := ⟨.hbm, 1059, rfl⟩
abbrev main_call5_call0_c_37 : Ref sig .tc := ⟨.hbm, 1060, rfl⟩
abbrev main_call5_call0_v145 : Ref sig .tc := ⟨.hbm, 1061, rfl⟩
abbrev main_call5_call0_v146 : Ref sig .tc := ⟨.hbm, 1062, rfl⟩
abbrev main_call5_call0_v147 : Ref sig .tc := ⟨.hbm, 1063, rfl⟩
abbrev main_call5_call0_v148 : Ref sig .tc := ⟨.hbm, 1064, rfl⟩
abbrev main_call5_call0_v149 : Ref sig .tc := ⟨.hbm, 1065, rfl⟩
abbrev main_call5_call0_c_38 : Ref sig .tc := ⟨.hbm, 1066, rfl⟩
abbrev main_call5_call0_v150 : Ref sig .tc := ⟨.hbm, 1067, rfl⟩
abbrev main_call5_call0_v151 : Ref sig .tc := ⟨.hbm, 1068, rfl⟩
abbrev main_call5_call0_c_39 : Ref sig .tc := ⟨.hbm, 1069, rfl⟩
abbrev main_call5_call0_v152 : Ref sig .tc := ⟨.hbm, 1070, rfl⟩
abbrev main_call5_call0_v153 : Ref sig .tc := ⟨.hbm, 1071, rfl⟩
abbrev main_call5_call0_v154 : Ref sig .tc := ⟨.hbm, 1072, rfl⟩
abbrev main_call5_call0_v155 : Ref sig .tc := ⟨.hbm, 1073, rfl⟩
abbrev main_call5_call0_v156 : Ref sig .tc := ⟨.hbm, 1074, rfl⟩
abbrev main_call5_call0_c_40 : Ref sig .tc := ⟨.hbm, 1075, rfl⟩
abbrev main_call5_call0_v157 : Ref sig .tc := ⟨.hbm, 1076, rfl⟩
abbrev main_call5_call0_v158 : Ref sig .tc := ⟨.hbm, 1077, rfl⟩
abbrev main_call5_call0_c_41 : Ref sig .tc := ⟨.hbm, 1078, rfl⟩
abbrev main_call5_call0_v159 : Ref sig .tc := ⟨.hbm, 1079, rfl⟩
abbrev main_call5_call0_v160 : Ref sig .tc := ⟨.hbm, 1080, rfl⟩
abbrev main_call5_call0_v161 : Ref sig .tc := ⟨.hbm, 1081, rfl⟩
abbrev main_call5_call0_v162 : Ref sig .tc := ⟨.hbm, 1082, rfl⟩
abbrev main_call5_call0_v163 : Ref sig .tc := ⟨.hbm, 1083, rfl⟩
abbrev main_call5_call0_c_42 : Ref sig .tc := ⟨.hbm, 1084, rfl⟩
abbrev main_call5_call0_v164 : Ref sig .tc := ⟨.hbm, 1085, rfl⟩
abbrev main_call5_call0_v165 : Ref sig .tc := ⟨.hbm, 1086, rfl⟩
abbrev main_call5_call0_c_43 : Ref sig .tc := ⟨.hbm, 1087, rfl⟩
abbrev main_call5_call0_v166 : Ref sig .tc := ⟨.hbm, 1088, rfl⟩
abbrev main_call5_call0_v167 : Ref sig .tc := ⟨.hbm, 1089, rfl⟩
abbrev main_call5_call0_v168 : Ref sig .tc := ⟨.hbm, 1090, rfl⟩
abbrev main_call5_call0_v169 : Ref sig .tc := ⟨.hbm, 1091, rfl⟩
abbrev main_call5_call0_v170 : Ref sig .tc := ⟨.hbm, 1092, rfl⟩
abbrev main_call5_v19_0 : Ref sig .tc := ⟨.hbm, 1093, rfl⟩
abbrev main_call5_call0_v172 : Ref sig .tc := ⟨.hbm, 1094, rfl⟩
abbrev main_call5_call0_v173 : Ref sig .tc := ⟨.hbm, 1095, rfl⟩
abbrev main_call5_call0_c_44 : Ref sig .tc := ⟨.hbm, 1096, rfl⟩
abbrev main_call5_call0_v174 : Ref sig .tc := ⟨.hbm, 1097, rfl⟩
abbrev main_call5_v19_1 : Ref sig .tc := ⟨.hbm, 1098, rfl⟩
abbrev main_call5_v20 : Ref sig .tc := ⟨.hbm, 1099, rfl⟩
abbrev main_call5_c_2 : Ref sig .tc := ⟨.hbm, 1100, rfl⟩
abbrev main_call5_v21 : Ref sig .tc := ⟨.hbm, 1101, rfl⟩
abbrev main_call5_v22 : Ref sig .tc := ⟨.hbm, 1102, rfl⟩
abbrev main_call5_c_3 : Ref sig .tc := ⟨.hbm, 1103, rfl⟩
abbrev main_call5_v23 : Ref sig .tc := ⟨.hbm, 1104, rfl⟩
abbrev main_call5_v24 : Ref sig .tc := ⟨.hbm, 1105, rfl⟩
abbrev main_call5_v25 : Ref sig .tc := ⟨.hbm, 1106, rfl⟩
abbrev main_call5_cst : Ref sig .tc := ⟨.hbm, 1107, rfl⟩
abbrev main_call5_v26 : Ref sig .tc := ⟨.hbm, 1108, rfl⟩
abbrev main_call5_v27 : Ref sig .tc := ⟨.hbm, 1109, rfl⟩
abbrev main_call5_v28 : Ref sig .tc := ⟨.hbm, 1110, rfl⟩
abbrev main_call5_v29 : Ref sig .tc := ⟨.hbm, 1111, rfl⟩
abbrev main_call5_v30 : Ref sig .tc := ⟨.hbm, 1112, rfl⟩
abbrev main_call5_v31 : Ref sig .tc := ⟨.hbm, 1113, rfl⟩
abbrev main_call5_v32 : Ref sig .tc := ⟨.hbm, 1114, rfl⟩
abbrev main_call5_v33 : Ref sig .tc := ⟨.hbm, 1115, rfl⟩
abbrev main_v53 : Ref sig .tc := ⟨.hbm, 1116, rfl⟩
abbrev main_v54 : Ref sig .tc := ⟨.hbm, 1117, rfl⟩
abbrev main_cst_17 : Ref sig .tc := ⟨.hbm, 1118, rfl⟩
abbrev main_v55 : Ref sig .tc := ⟨.hbm, 1119, rfl⟩
abbrev main_v56 : Ref sig .tc := ⟨.hbm, 1120, rfl⟩
abbrev main_cst_18 : Ref sig .tc := ⟨.hbm, 1121, rfl⟩
abbrev main_v57 : Ref sig .tc := ⟨.hbm, 1122, rfl⟩
abbrev main_v58 : Ref sig .tc := ⟨.hbm, 1123, rfl⟩
abbrev main_v59 : Ref sig .tc := ⟨.hbm, 1124, rfl⟩
abbrev main_v60 : Ref sig .tc := ⟨.hbm, 1125, rfl⟩
abbrev main_v61 : Ref sig .tc := ⟨.hbm, 1126, rfl⟩
abbrev main_v62 : Ref sig .tc := ⟨.hbm, 1127, rfl⟩
abbrev main_v63 : Ref sig .tc := ⟨.hbm, 1128, rfl⟩
abbrev main_v64 : Ref sig .tc := ⟨.hbm, 1129, rfl⟩
abbrev main_v65 : Ref sig .tc := ⟨.hbm, 1130, rfl⟩

abbrev nD : Nat := 1
abbrev τ : Topo := Topo.v7x

variable {F : FTy → Type} [FloatOps F]
-- ==== Proof.Line.lean ====
/-
  A straight line of host operations in which every operation writes a later buffer than all it reads and than all
  written before it: afterwards every operation's equation holds of the buffers' last contents.
-/
module

public import Idealize.ShloMosaic.Lib.StableHlo.RunHlo

@[expose] public section

namespace Cert.Proof.Line

open Idealize.ShloMosaic Idealize.ShloMosaic.StableHlo Idealize.SL.Sem

variable {nD : Nat} {τ : Topo} {sig : RefSig} {Val : EltTy → Type} {Λ : Labels}

/-- A buffer's number among those of its space. -/
def key (r : Ref sig .tc) : ℕ := r.idx.val

/-- A fact on the contents that speaks of the buffers below `hi` only. -/
def Below (hi : ℕ) (E : Valuation τ sig Val → Prop) : Prop :=
  ∀ V W : Valuation τ sig Val, (∀ r : Ref sig .tc, key r < hi → W (Proc.devRef .tc r) = V (Proc.devRef .tc r)) → E V → E W

/-- The operations write buffers from `lo` up to `hi` only, in order, and after them `E` holds. -/
structure Fits (lo hi : ℕ) (ops : List (HloOp τ sig Val)) (E : Valuation τ sig Val → Prop) : Prop where
  le : lo ≤ hi
  below : Below hi E
  after : ∀ V, E (after ops V)
  keep : ∀ (V : Valuation τ sig Val) (r : Ref sig .tc), key r < lo → StableHlo.after ops V (Proc.devRef .tc r) = V (Proc.devRef .tc r)
  sub : ops.Forall fun op => op.bufs ⊆ tcRefs τ sig
  fresh : ∀ op ∈ ops, op.fresh = ∅

theorem after_append (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

theorem Below.and {hi : ℕ} {E E' : Valuation τ sig Val → Prop} (h : Below hi E) (h' : Below hi E') :
    Below hi fun W => E W ∧ E' W :=
  fun V W e p => ⟨h V W e p.1, h' V W e p.2⟩

theorem Below.mono {lo hi : ℕ} {E : Valuation τ sig Val → Prop} (h : Below lo E) (hl : lo ≤ hi) : Below hi E :=
  fun V W e => h V W fun r hr => e r (lt_of_lt_of_le hr hl)

theorem Fits.nil {n : ℕ} : Fits n n ([] : List (HloOp τ sig Val)) fun _ => True :=
  ⟨le_rfl, fun _ _ _ _ => trivial, fun _ => trivial, fun _ _ _ => rfl, trivial, fun _ h => by simp at h⟩

theorem Fits.append {lo mid hi : ℕ} {l₁ l₂ : List (HloOp τ sig Val)} {E₁ E₂ : Valuation τ sig Val → Prop}
    (h₁ : Fits lo mid l₁ E₁) (h₂ : Fits mid hi l₂ E₂) : Fits lo hi (l₁ ++ l₂) fun W => E₁ W ∧ E₂ W where
  le := h₁.le.trans h₂.le
  below := (h₁.below.mono h₂.le).and h₂.below
  after V := by
    rw [after_append]
    exact ⟨h₁.below _ _ (fun r hr => h₂.keep _ r hr) (h₁.after V), h₂.after _⟩
  keep V r hr := by
    rw [after_append, h₂.keep _ r (lt_of_lt_of_le hr h₁.le), h₁.keep V r hr]
  sub := List.forall_append.mpr ⟨h₁.sub, h₂.sub⟩
  fresh op h := (List.mem_append.mp h).elim (h₁.fresh op) (h₂.fresh op)

theorem Fits.cons {lo mid hi : ℕ} {op : HloOp τ sig Val} {ops : List (HloOp τ sig Val)} {e E : Valuation τ sig Val → Prop}
    (h₁ : Fits lo mid [op] e) (h₂ : Fits mid hi ops E) : Fits lo hi (op :: ops) fun W => e W ∧ E W :=
  h₁.append h₂

/-- A line's facts may be replaced by some that follow. -/
theorem Fits.imp {lo hi : ℕ} {ops : List (HloOp τ sig Val)} {E E' : Valuation τ sig Val → Prop}
    (h : Fits lo hi ops E) (h' : ∀ W, E W → E' W) (hb : Below hi E') : Fits lo hi ops E' :=
  ⟨h.le, hb, fun V => h' _ (h.after V), h.keep, h.sub, h.fresh⟩

/-- One operation with one result. -/
theorem step {lo : ℕ} {op : HloOp τ sig Val} {y : Ref sig .tc} {v : Valuation τ sig Val → y.ty.Contents Val}
    (hl : lo ≤ key y) (hw : op.writes = {Proc.devRef .tc y}) (hr : ∀ V, op.result V (Proc.devRef .tc y) = v V)
    (hv : ∀ V W : Valuation τ sig Val, (∀ r : Ref sig .tc, key r < key y → W (Proc.devRef .tc r) = V (Proc.devRef .tc r)) → v W = v V)
    (hs : op.bufs ⊆ tcRefs τ sig) (hf : op.fresh = ∅) :
    Fits lo (key y + 1) [op] fun W => W (Proc.devRef .tc y) = v W := by
  have hk : ∀ (V : Valuation τ sig Val) (r : Ref sig .tc), key r < key y → op.result V (Proc.devRef .tc r) = V (Proc.devRef .tc r) := fun V r h =>
    HloOp.result_of_not_mem _ _ (by
      rw [hw, Finset.mem_singleton]
      exact fun e => absurd (congrArg key (Proc.devRef_injective _ e)) h.ne)
  refine ⟨by omega, ?_, ?_, ?_, hs, ?_⟩
  · intro V W h e
    rw [h y (Nat.lt_succ_self _), e, hv V W fun r hr => h r (Nat.lt_succ_of_lt hr)]
  · intro V
    change op.result V (Proc.devRef .tc y) = v (op.result V)
    rw [hr, hv V _ fun r h => hk V r h]
  · intro V r h
    exact hk V r (lt_of_lt_of_le h hl)
  · intro o h
    rw [List.mem_singleton.mp h]; exact hf

variable {lo : ℕ} {a b x y : Ref sig .tc}

theorem Fits.nullary {v : y.ty.Contents Val} {hy} (hl : lo ≤ key y) :
    Fits lo (key y + 1) [(StableHlo.nullary y v hy : HloOp τ sig Val)] fun W => W (Proc.devRef .tc y) = v :=
  step hl rfl (fun V => nullary_result y v hy V) (fun _ _ _ => rfl) (nullary_bufs_sub ..) rfl

theorem Fits.unary {f : x.ty.Contents Val → y.ty.Contents Val} {hx hy} (hl : lo ≤ key y) (h : key x < key y) :
    Fits lo (key y + 1) [(StableHlo.unary x y f hx hy : HloOp τ sig Val)] fun W => W (Proc.devRef .tc y) = f (W (Proc.devRef .tc x)) :=
  step hl rfl (fun V => unary_result x y f hx hy V) (fun V W e => by rw [e x h]) (unary_bufs_sub ..) rfl

theorem Fits.binary {f : a.ty.Contents Val → b.ty.Contents Val → y.ty.Contents Val} {ha hb hy} (hl : lo ≤ key y)
    (h : key a < key y) (h' : key b < key y) :
    Fits lo (key y + 1) [(StableHlo.binary a b y f ha hb hy : HloOp τ sig Val)] fun W => W (Proc.devRef .tc y) = f (W (Proc.devRef .tc a)) (W (Proc.devRef .tc b)) :=
  step hl rfl (fun V => binary_result a b y f ha hb hy V) (fun V W e => by rw [e a h, e b h'])
    (binary_bufs_sub ..) rfl

theorem Fits.reshape {he : x.ty.elt = y.ty.elt} {hn : x.ty.shape.ShapeCasts y.ty.shape} {hx hy} (hl : lo ≤ key y)
    (h : key x < key y) :
    Fits lo (key y + 1) [(StableHlo.reshape x y he hn hx hy : HloOp τ sig Val)]
      fun W => W (Proc.devRef .tc y) = fun i => he ▸ shapeCast y.ty.shape (W (Proc.devRef .tc x)) hn i :=
  step hl rfl (fun V => reshape_result x y he hn hx hy V) (fun V W e => by rw [e x h]) (reshape_bufs_sub ..) rfl

theorem Fits.nary {n : ℕ} {xs : Fin n → Ref sig .tc} {f : ((k : Fin n) → (xs k).ty.Contents Val) → y.ty.Contents Val}
    {hxs hy} (hl : lo ≤ key y) (h : ∀ k, key (xs k) < key y) :
    Fits lo (key y + 1) [(StableHlo.nary xs y f hxs hy : HloOp τ sig Val)] fun W => W (Proc.devRef .tc y) = f fun k => W (Proc.devRef .tc (xs k)) :=
  step hl rfl (fun V => nary_result xs y f hxs hy V)
    (fun V W e => congrArg f (funext fun k => e (xs k) (h k))) (nary_bufs_sub ..) rfl

/-- A program that is such a line. -/
def Is (p : Prog (TpuEff nD τ sig Val Λ .tc) PUnit) (lo hi : ℕ) (E : Valuation τ sig Val → Prop) : Prop :=
  ∃ ops, IsSeq p ops ∧ Fits lo hi ops E

theorem Is.nil {n : ℕ} : Is (pure ⟨⟩ : Prog (TpuEff nD τ sig Val Λ .tc) PUnit) n n fun _ => True := ⟨[], rfl, .nil⟩

theorem Is.cons {lo mid hi : ℕ} {op : HloOp τ sig Val} {k : Prog (TpuEff nD τ sig Val Λ .tc) PUnit}
    {e E : Valuation τ sig Val → Prop} (h₁ : Fits lo mid [op] e) (h₂ : Is k mid hi E) :
    Is ((hlo rfl op fun _ => .ret (⟨⟩ : PUnit)) >>= fun _ => k) lo hi fun W => e W ∧ E W :=
  let ⟨ops, hk, hf⟩ := h₂
  ⟨op :: ops, IsSeq.cons hk, h₁.cons hf⟩

theorem Is.bind {lo mid hi : ℕ} {p k : Prog (TpuEff nD τ sig Val Λ .tc) PUnit} {e E : Valuation τ sig Val → Prop}
    (h₁ : Is p lo mid e) (h₂ : Is k mid hi E) : Is (p >>= fun _ => k) lo hi fun W => e W ∧ E W := by
  obtain ⟨l₁, hp, hf⟩ := h₁
  obtain ⟨l₂, hk, hg⟩ := h₂
  refine ⟨l₁ ++ l₂, ?_, hf.append hg⟩
  unfold IsSeq at hp hk ⊢
  rw [hp, hk, seq_append]

/-- A call's operations come before the rest. -/
theorem Is.assoc {lo hi : ℕ} {p q k : Prog (TpuEff nD τ sig Val Λ .tc) PUnit} {E : Valuation τ sig Val → Prop}
    (h : Is (p >>= fun _ => (q >>= fun _ => k)) lo hi E) : Is ((p >>= fun _ => q) >>= fun _ => k) lo hi E := by
  rw [bind_assoc]; exact h

/-- A call's return adds nothing. -/
theorem Is.skip {lo hi : ℕ} {k : Prog (TpuEff nD τ sig Val Λ .tc) PUnit} {E : Valuation τ sig Val → Prop}
    (h : Is k lo hi E) : Is ((pure ⟨⟩ : Prog (TpuEff nD τ sig Val Λ .tc) PUnit) >>= fun _ => k) lo hi E := by
  rw [pure_bind]; exact h

theorem Is.imp {lo hi : ℕ} {p : Prog (TpuEff nD τ sig Val Λ .tc) PUnit} {E E' : Valuation τ sig Val → Prop}
    (h : Is p lo hi E) (h' : ∀ W, E W → E' W) (hb : Below hi E') : Is p lo hi E' :=
  let ⟨ops, hk, hf⟩ := h
  ⟨ops, hk, hf.imp h' hb⟩

/-- A value under a name. -/
def naming {α β : Type} (e : α) (body : α → β) : β := body e

/-- Naming a value that a buffer holds: how a chain of named values is read off a line. -/
theorem held {α β : Type} {e w : α} {r : β} {body : α → β} (h : w = e) (k : r = body w) : r = naming e body := by
  subst h; exact k

/-- A pair of values that two buffers hold. -/
theorem held_pair {α α' β : Type} {e : α × α'} {x : α} {y : α'} {r : β} {body : α × α' → β} (h : (x, y) = e)
    (k : r = body (x, y)) : r = naming e body :=
  held h k

end Cert.Proof.Line

end
-- ==== Proof.Draws.lean ====
/-
  The random draws as functions: the cipher both programs spell, the key's split into three, and the uniform draws in
  an interval made from one key.
-/
module

public import Idealize.ShloMosaic.PureOps.Ideal
public import Idealize.ShloMosaic.PureOps.Ideal.Laws
public import proofs.«01_k».proof.Proof.Line

@[expose] public section

namespace Cert.Proof.Draws

open Idealize.ShloMosaic

/-- The shapes of the keys. -/
abbrev S₀ : Shape := ⟨0, ![]⟩
@[inherit_doc S₀] abbrev S₁ : Shape := ⟨1, ![1]⟩
@[inherit_doc S₀] abbrev S₂ : Shape := ⟨1, ![2]⟩
@[inherit_doc S₀] abbrev S₃ : Shape := ⟨1, ![3]⟩
@[inherit_doc S₀] abbrev S₁₁ : Shape := ⟨2, ![1, 1]⟩
@[inherit_doc S₀] abbrev S₁₂ : Shape := ⟨2, ![1, 2]⟩
@[inherit_doc S₀] abbrev S₃₁ : Shape := ⟨2, ![3, 1]⟩
@[inherit_doc S₀] abbrev S₃₂ : Shape := ⟨2, ![3, 2]⟩

variable {F : FTy → Type} [FloatOps F]

/-- The cipher on a vector of counters. -/
def threefry {S : Shape} (h : S₀.BroadcastsInDim S (![] : Fin 0 → Fin S.rank)) (arg0 arg1 : IVec S₀ 32) (arg2 arg3 : IVec S 32) :
    IVec S 32 × IVec S 32 :=
  Line.naming (xori arg0 arg1) fun v0 =>
  Line.naming (constantI S₀ 32 466688986#32) fun c =>
  Line.naming (xori v0 c) fun v1 =>
  Line.naming (broadcastInDim S ![] h arg0) fun v2 =>
  Line.naming (addi arg2 v2) fun v3 =>
  Line.naming (broadcastInDim S ![] h arg1) fun v4 =>
  Line.naming (addi arg3 v4) fun v5 =>
  Line.naming (addi v3 v5) fun v6 =>
  Line.naming (constantI S₀ 32 13#32) fun c_0 =>
  Line.naming (broadcastInDim S ![] h c_0) fun v7 =>
  Line.naming (Host.shli v5 v7) fun v8 =>
  Line.naming (constantI S₀ 32 19#32) fun c_1 =>
  Line.naming (broadcastInDim S ![] h c_1) fun v9 =>
  Line.naming (Host.shrui v5 v9) fun v10 =>
  Line.naming (ori v8 v10) fun v11 =>
  Line.naming (xori v6 v11) fun v12 =>
  Line.naming (addi v6 v12) fun v13 =>
  Line.naming (constantI S₀ 32 15#32) fun c_2 =>
  Line.naming (broadcastInDim S ![] h c_2) fun v14 =>
  Line.naming (Host.shli v12 v14) fun v15 =>
  Line.naming (constantI S₀ 32 17#32) fun c_3 =>
  Line.naming (broadcastInDim S ![] h c_3) fun v16 =>
  Line.naming (Host.shrui v12 v16) fun v17 =>
  Line.naming (ori v15 v17) fun v18 =>
  Line.naming (xori v13 v18) fun v19 =>
  Line.naming (addi v13 v19) fun v20 =>
  Line.naming (constantI S₀ 32 26#32) fun c_4 =>
  Line.naming (broadcastInDim S ![] h c_4) fun v21 =>
  Line.naming (Host.shli v19 v21) fun v22 =>
  Line.naming (constantI S₀ 32 6#32) fun c_5 =>
  Line.naming (broadcastInDim S ![] h c_5) fun v23 =>
  Line.naming (Host.shrui v19 v23) fun v24 =>
  Line.naming (ori v22 v24) fun v25 =>
  Line.naming (xori v20 v25) fun v26 =>
  Line.naming (addi v20 v26) fun v27 =>
  Line.naming (constantI S₀ 32 6#32) fun c_6 =>
  Line.naming (broadcastInDim S ![] h c_6) fun v28 =>
  Line.naming (Host.shli v26 v28) fun v29 =>
  Line.naming (constantI S₀ 32 26#32) fun c_7 =>
  Line.naming (broadcastInDim S ![] h c_7) fun v30 =>
  Line.naming (Host.shrui v26 v30) fun v31 =>
  Line.naming (ori v29 v31) fun v32 =>
  Line.naming (xori v27 v32) fun v33 =>
  Line.naming (broadcastInDim S ![] h arg1) fun v34 =>
  Line.naming (addi v27 v34) fun v35 =>
  Line.naming (broadcastInDim S ![] h v1) fun v36 =>
  Line.naming (addi v33 v36) fun v37 =>
  Line.naming (constantI S₀ 32 1#32) fun c_8 =>
  Line.naming (broadcastInDim S ![] h c_8) fun v38 =>
  Line.naming (addi v37 v38) fun v39 =>
  Line.naming (addi v35 v39) fun v40 =>
  Line.naming (constantI S₀ 32 17#32) fun c_9 =>
  Line.naming (broadcastInDim S ![] h c_9) fun v41 =>
  Line.naming (Host.shli v39 v41) fun v42 =>
  Line.naming (constantI S₀ 32 15#32) fun c_10 =>
  Line.naming (broadcastInDim S ![] h c_10) fun v43 =>
  Line.naming (Host.shrui v39 v43) fun v44 =>
  Line.naming (ori v42 v44) fun v45 =>
  Line.naming (xori v40 v45) fun v46 =>
  Line.naming (addi v40 v46) fun v47 =>
  Line.naming (constantI S₀ 32 29#32) fun c_11 =>
  Line.naming (broadcastInDim S ![] h c_11) fun v48 =>
  Line.naming (Host.shli v46 v48) fun v49 =>
  Line.naming (constantI S₀ 32 3#32) fun c_12 =>
  Line.naming (broadcastInDim S ![] h c_12) fun v50 =>
  Line.naming (Host.shrui v46 v50) fun v51 =>
  Line.naming (ori v49 v51) fun v52 =>
  Line.naming (xori v47 v52) fun v53 =>
  Line.naming (addi v47 v53) fun v54 =>
  Line.naming (constantI S₀ 32 16#32) fun c_13 =>
  Line.naming (broadcastInDim S ![] h c_13) fun v55 =>
  Line.naming (Host.shli v53 v55) fun v56 =>
  Line.naming (constantI S₀ 32 16#32) fun c_14 =>
  Line.naming (broadcastInDim S ![] h c_14) fun v57 =>
  Line.naming (Host.shrui v53 v57) fun v58 =>
  Line.naming (ori v56 v58) fun v59 =>
  Line.naming (xori v54 v59) fun v60 =>
  Line.naming (addi v54 v60) fun v61 =>
  Line.naming (constantI S₀ 32 24#32) fun c_15 =>
  Line.naming (broadcastInDim S ![] h c_15) fun v62 =>
  Line.naming (Host.shli v60 v62) fun v63 =>
  Line.naming (constantI S₀ 32 8#32) fun c_16 =>
  Line.naming (broadcastInDim S ![] h c_16) fun v64 =>
  Line.naming (Host.shrui v60 v64) fun v65 =>
  Line.naming (ori v63 v65) fun v66 =>
  Line.naming (xori v61 v66) fun v67 =>
  Line.naming (broadcastInDim S ![] h v1) fun v68 =>
  Line.naming (addi v61 v68) fun v69 =>
  Line.naming (broadcastInDim S ![] h arg0) fun v70 =>
  Line.naming (addi v67 v70) fun v71 =>
  Line.naming (constantI S₀ 32 2#32) fun c_17 =>
  Line.naming (broadcastInDim S ![] h c_17) fun v72 =>
  Line.naming (addi v71 v72) fun v73 =>
  Line.naming (addi v69 v73) fun v74 =>
  Line.naming (constantI S₀ 32 13#32) fun c_18 =>
  Line.naming (broadcastInDim S ![] h c_18) fun v75 =>
  Line.naming (Host.shli v73 v75) fun v76 =>
  Line.naming (constantI S₀ 32 19#32) fun c_19 =>
  Line.naming (broadcastInDim S ![] h c_19) fun v77 =>
  Line.naming (Host.shrui v73 v77) fun v78 =>
  Line.naming (ori v76 v78) fun v79 =>
  Line.naming (xori v74 v79) fun v80 =>
  Line.naming (addi v74 v80) fun v81 =>
  Line.naming (constantI S₀ 32 15#32) fun c_20 =>
  Line.naming (broadcastInDim S ![] h c_20) fun v82 =>
  Line.naming (Host.shli v80 v82) fun v83 =>
  Line.naming (constantI S₀ 32 17#32) fun c_21 =>
  Line.naming (broadcastInDim S ![] h c_21) fun v84 =>
  Line.naming (Host.shrui v80 v84) fun v85 =>
  Line.naming (ori v83 v85) fun v86 =>
  Line.naming (xori v81 v86) fun v87 =>
  Line.naming (addi v81 v87) fun v88 =>
  Line.naming (constantI S₀ 32 26#32) fun c_22 =>
  Line.naming (broadcastInDim S ![] h c_22) fun v89 =>
  Line.naming (Host.shli v87 v89) fun v90 =>
  Line.naming (constantI S₀ 32 6#32) fun c_23 =>
  Line.naming (broadcastInDim S ![] h c_23) fun v91 =>
  Line.naming (Host.shrui v87 v91) fun v92 =>
  Line.naming (ori v90 v92) fun v93 =>
  Line.naming (xori v88 v93) fun v94 =>
  Line.naming (addi v88 v94) fun v95 =>
  Line.naming (constantI S₀ 32 6#32) fun c_24 =>
  Line.naming (broadcastInDim S ![] h c_24) fun v96 =>
  Line.naming (Host.shli v94 v96) fun v97 =>
  Line.naming (constantI S₀ 32 26#32) fun c_25 =>
  Line.naming (broadcastInDim S ![] h c_25) fun v98 =>
  Line.naming (Host.shrui v94 v98) fun v99 =>
  Line.naming (ori v97 v99) fun v100 =>
  Line.naming (xori v95 v100) fun v101 =>
  Line.naming (broadcastInDim S ![] h arg0) fun v102 =>
  Line.naming (addi v95 v102) fun v103 =>
  Line.naming (broadcastInDim S ![] h arg1) fun v104 =>
  Line.naming (addi v101 v104) fun v105 =>
  Line.naming (constantI S₀ 32 3#32) fun c_26 =>
  Line.naming (broadcastInDim S ![] h c_26) fun v106 =>
  Line.naming (addi v105 v106) fun v107 =>
  Line.naming (addi v103 v107) fun v108 =>
  Line.naming (constantI S₀ 32 17#32) fun c_27 =>
  Line.naming (broadcastInDim S ![] h c_27) fun v109 =>
  Line.naming (Host.shli v107 v109) fun v110 =>
  Line.naming (constantI S₀ 32 15#32) fun c_28 =>
  Line.naming (broadcastInDim S ![] h c_28) fun v111 =>
  Line.naming (Host.shrui v107 v111) fun v112 =>
  Line.naming (ori v110 v112) fun v113 =>
  Line.naming (xori v108 v113) fun v114 =>
  Line.naming (addi v108 v114) fun v115 =>
  Line.naming (constantI S₀ 32 29#32) fun c_29 =>
  Line.naming (broadcastInDim S ![] h c_29) fun v116 =>
  Line.naming (Host.shli v114 v116) fun v117 =>
  Line.naming (constantI S₀ 32 3#32) fun c_30 =>
  Line.naming (broadcastInDim S ![] h c_30) fun v118 =>
  Line.naming (Host.shrui v114 v118) fun v119 =>
  Line.naming (ori v117 v119) fun v120 =>
  Line.naming (xori v115 v120) fun v121 =>
  Line.naming (addi v115 v121) fun v122 =>
  Line.naming (constantI S₀ 32 16#32) fun c_31 =>
  Line.naming (broadcastInDim S ![] h c_31) fun v123 =>
  Line.naming (Host.shli v121 v123) fun v124 =>
  Line.naming (constantI S₀ 32 16#32) fun c_32 =>
  Line.naming (broadcastInDim S ![] h c_32) fun v125 =>
  Line.naming (Host.shrui v121 v125) fun v126 =>
  Line.naming (ori v124 v126) fun v127 =>
  Line.naming (xori v122 v127) fun v128 =>
  Line.naming (addi v122 v128) fun v129 =>
  Line.naming (constantI S₀ 32 24#32) fun c_33 =>
  Line.naming (broadcastInDim S ![] h c_33) fun v130 =>
  Line.naming (Host.shli v128 v130) fun v131 =>
  Line.naming (constantI S₀ 32 8#32) fun c_34 =>
  Line.naming (broadcastInDim S ![] h c_34) fun v132 =>
  Line.naming (Host.shrui v128 v132) fun v133 =>
  Line.naming (ori v131 v133) fun v134 =>
  Line.naming (xori v129 v134) fun v135 =>
  Line.naming (broadcastInDim S ![] h arg1) fun v136 =>
  Line.naming (addi v129 v136) fun v137 =>
  Line.naming (broadcastInDim S ![] h v1) fun v138 =>
  Line.naming (addi v135 v138) fun v139 =>
  Line.naming (constantI S₀ 32 4#32) fun c_35 =>
  Line.naming (broadcastInDim S ![] h c_35) fun v140 =>
  Line.naming (addi v139 v140) fun v141 =>
  Line.naming (addi v137 v141) fun v142 =>
  Line.naming (constantI S₀ 32 13#32) fun c_36 =>
  Line.naming (broadcastInDim S ![] h c_36) fun v143 =>
  Line.naming (Host.shli v141 v143) fun v144 =>
  Line.naming (constantI S₀ 32 19#32) fun c_37 =>
  Line.naming (broadcastInDim S ![] h c_37) fun v145 =>
  Line.naming (Host.shrui v141 v145) fun v146 =>
  Line.naming (ori v144 v146) fun v147 =>
  Line.naming (xori v142 v147) fun v148 =>
  Line.naming (addi v142 v148) fun v149 =>
  Line.naming (constantI S₀ 32 15#32) fun c_38 =>
  Line.naming (broadcastInDim S ![] h c_38) fun v150 =>
  Line.naming (Host.shli v148 v150) fun v151 =>
  Line.naming (constantI S₀ 32 17#32) fun c_39 =>
  Line.naming (broadcastInDim S ![] h c_39) fun v152 =>
  Line.naming (Host.shrui v148 v152) fun v153 =>
  Line.naming (ori v151 v153) fun v154 =>
  Line.naming (xori v149 v154) fun v155 =>
  Line.naming (addi v149 v155) fun v156 =>
  Line.naming (constantI S₀ 32 26#32) fun c_40 =>
  Line.naming (broadcastInDim S ![] h c_40) fun v157 =>
  Line.naming (Host.shli v155 v157) fun v158 =>
  Line.naming (constantI S₀ 32 6#32) fun c_41 =>
  Line.naming (broadcastInDim S ![] h c_41) fun v159 =>
  Line.naming (Host.shrui v155 v159) fun v160 =>
  Line.naming (ori v158 v160) fun v161 =>
  Line.naming (xori v156 v161) fun v162 =>
  Line.naming (addi v156 v162) fun v163 =>
  Line.naming (constantI S₀ 32 6#32) fun c_42 =>
  Line.naming (broadcastInDim S ![] h c_42) fun v164 =>
  Line.naming (Host.shli v162 v164) fun v165 =>
  Line.naming (constantI S₀ 32 26#32) fun c_43 =>
  Line.naming (broadcastInDim S ![] h c_43) fun v166 =>
  Line.naming (Host.shrui v162 v166) fun v167 =>
  Line.naming (ori v165 v167) fun v168 =>
  Line.naming (xori v163 v168) fun v169 =>
  Line.naming (broadcastInDim S ![] h v1) fun v170 =>
  Line.naming (addi v163 v170) fun v171 =>
  Line.naming (broadcastInDim S ![] h arg0) fun v172 =>
  Line.naming (addi v169 v172) fun v173 =>
  Line.naming (constantI S₀ 32 5#32) fun c_44 =>
  Line.naming (broadcastInDim S ![] h c_44) fun v174 =>
  Line.naming (addi v173 v174) fun v175 =>
  (v171, v175)

/-- The key both programs start from. -/
def seed : IVec S₂ 32 :=
  Line.naming (constantI S₀ 32 1#32) fun c =>
  Line.naming (constantI S₀ 32 32#32) fun c_0 =>
  Line.naming (Host.shrui c c_0) fun v2 =>
  Line.naming (id v2) fun v3 =>
  Line.naming (broadcastInDim S₁ ![] (by decide) v3) fun v4 =>
  Line.naming (constantI S₀ 32 4294967295#32) fun c_1 =>
  Line.naming (andi c c_1) fun v5 =>
  Line.naming (id v5) fun v6 =>
  Line.naming (broadcastInDim S₁ ![] (by decide) v6) fun v7 =>
  Line.naming ((fun a b => concatenate S₂ 0 [⟨S₁, a⟩, ⟨S₁, b⟩] (show Shape.Concatenates [S₁, S₁] S₂ 0 by decide)) v4 v7) fun v8 =>
  v8

/-- Three keys from one. -/
def split (arg0 : IVec S₂ 32) : IVec S₃₂ 32 :=
  Line.naming (extractStridedSlice S₁ ![0] arg0 (by decide)) fun v0 =>
  Line.naming (fun i => shapeCast S₀ v0 (by decide) i) fun v1 =>
  Line.naming (extractStridedSlice S₁ ![1] arg0 (by decide)) fun v2 =>
  Line.naming (fun i => shapeCast S₀ v2 (by decide) i) fun v3 =>
  Line.naming (iotaInDim S₃ 64 0) fun v4 =>
  Line.naming (constantI S₀ 64 1#64) fun c =>
  Line.naming (broadcastInDim S₃ ![] (by decide) c) fun v5 =>
  Line.naming (muli v5 v4) fun v6 =>
  Line.naming (constantI S₀ 64 32#64) fun c_0 =>
  Line.naming (broadcastInDim S₃ ![] (by decide) c_0) fun v7 =>
  Line.naming (Host.shrui v6 v7) fun v8 =>
  Line.naming (trunci 32 v6 (by decide)) fun v9 =>
  Line.naming (trunci 32 v8 (by decide)) fun v10 =>
  Line.naming (threefry (S := S₃) (by decide) v1 v3 v10 v9) fun t =>
  Line.naming (broadcastInDim S₃₁ ![0] (by decide) t.1) fun v12 =>
  Line.naming (broadcastInDim S₃₁ ![0] (by decide) t.2) fun v13 =>
  Line.naming ((fun a b => concatenate S₃₂ 1 [⟨S₃₁, a⟩, ⟨S₃₁, b⟩] (show Shape.Concatenates [S₃₁, S₃₁] S₃₂ 1 by decide)) v12 v13) fun v14 =>
  v14

/-- One of the three keys. -/
def pick (i : ℕ) (h : S₃₂.Slices ![i, 0] S₁₂) (x : IVec S₃₂ 32) : IVec S₂ 32 :=
  Line.naming (extractStridedSlice S₁₂ ![i, 0] x h) fun v =>
  Line.naming (fun i => shapeCast S₂ v (by decide) i) fun w =>
  w

/-- An array of uniform draws between two bounds. -/
def uniform (a b : ℕ) (h : S₀.BroadcastsInDim ⟨2, ![a, b]⟩ (![] : Fin 0 → Fin 2)) (h' : S₁₁.BroadcastsInDim ⟨2, ![a, b]⟩ (![0, 1] : Fin 2 → Fin 2))
    (arg0 : IVec S₂ 32) (arg1 arg2 : FVec F S₀ .f32) : FVec F ⟨2, ![a, b]⟩ .f32 :=
  Line.naming (id arg1) fun v0 =>
  Line.naming (id arg2) fun v1 =>
  Line.naming (broadcastInDim S₁₁ ![] (by decide) v0) fun v2 =>
  Line.naming (broadcastInDim S₁₁ ![] (by decide) v1) fun v3 =>
  Line.naming (extractStridedSlice S₁ ![0] arg0 (by decide)) fun v4 =>
  Line.naming (fun i => shapeCast S₀ v4 (by decide) i) fun v5 =>
  Line.naming (extractStridedSlice S₁ ![1] arg0 (by decide)) fun v6 =>
  Line.naming (fun i => shapeCast S₀ v6 (by decide) i) fun v7 =>
  Line.naming (iotaInDim ⟨2, ![a, b]⟩ 64 0) fun v8 =>
  Line.naming (iotaInDim ⟨2, ![a, b]⟩ 64 1) fun v9 =>
  Line.naming (constantI S₀ 64 (BitVec.ofNat 64 b)) fun c =>
  Line.naming (broadcastInDim ⟨2, ![a, b]⟩ ![] h c) fun v10 =>
  Line.naming (muli v10 v8) fun v11 =>
  Line.naming (constantI S₀ 64 1#64) fun c_0 =>
  Line.naming (broadcastInDim ⟨2, ![a, b]⟩ ![] h c_0) fun v12 =>
  Line.naming (muli v12 v9) fun v13 =>
  Line.naming (addi v11 v13) fun v14 =>
  Line.naming (constantI S₀ 64 32#64) fun c_1 =>
  Line.naming (broadcastInDim ⟨2, ![a, b]⟩ ![] h c_1) fun v15 =>
  Line.naming (Host.shrui v14 v15) fun v16 =>
  Line.naming (trunci 32 v14 (by decide)) fun v17 =>
  Line.naming (trunci 32 v16 (by decide)) fun v18 =>
  Line.naming (threefry h v5 v7 v18 v17) fun t =>
  Line.naming (xori t.1 t.2) fun v20 =>
  Line.naming (constantI S₀ 32 9#32) fun c_2 =>
  Line.naming (broadcastInDim ⟨2, ![a, b]⟩ ![] h c_2) fun v21 =>
  Line.naming (Host.shrui v20 v21) fun v22 =>
  Line.naming (constantI S₀ 32 1065353216#32) fun c_3 =>
  Line.naming (broadcastInDim ⟨2, ![a, b]⟩ ![] h c_3) fun v23 =>
  Line.naming (ori v22 v23) fun v24 =>
  Line.naming (bitcastToFloat .f32 v24) fun v25 =>
  Line.naming (constant S₀ .f32 0x3F800000#32) fun cst =>
  Line.naming (broadcastInDim ⟨2, ![a, b]⟩ ![] h cst) fun v26 =>
  Line.naming (subf v25 v26) fun v27 =>
  Line.naming (subf v3 v2) fun v28 =>
  Line.naming (broadcastInDim ⟨2, ![a, b]⟩ ![0, 1] h' v28) fun v29 =>
  Line.naming (mulf v27 v29) fun v30 =>
  Line.naming (broadcastInDim ⟨2, ![a, b]⟩ ![0, 1] h' v2) fun v31 =>
  Line.naming (addf v30 v31) fun v32 =>
  Line.naming (broadcastInDim ⟨2, ![a, b]⟩ ![0, 1] h' v2) fun v33 =>
  Line.naming (maximumf v33 v32) fun v34 =>
  v34

/-- One of the three arrays of draws in the unit interval. -/
def draw (a b : ℕ) (h : S₀.BroadcastsInDim ⟨2, ![a, b]⟩ (![] : Fin 0 → Fin 2))
    (h' : S₁₁.BroadcastsInDim ⟨2, ![a, b]⟩ (![0, 1] : Fin 2 → Fin 2)) (i : ℕ) (hi : S₃₂.Slices ![i, 0] S₁₂) :
    FVec F ⟨2, ![a, b]⟩ .f32 :=
  uniform a b h h' (pick i hi (split seed)) (constant S₀ .f32 0x00000000#32) (constant S₀ .f32 0x3F800000#32)

end Cert.Proof.Draws

end
-- ==== Proof.HostReference.lean ====
/-
  What the reference's operations leave in its result: the ascending sort of the depths, made from the two arguments and
  the same three arrays of draws.
-/
module

public import proofs.«01_k».proof.ReferenceIdeal
public import proofs.«01_k».proof.Proof.Line
public import proofs.«01_k».proof.Proof.Draws

@[expose] public section

namespace Cert.Proof.HostReference

open Idealize.ShloMosaic Idealize.ShloMosaic.TcCoe Cert.ReferenceIdeal Facts₀ Line Draws

variable {F : FTy → Type} [FloatOps F] [Cert.ReferenceIdeal.Facts]

set_option maxRecDepth 100000
set_option maxHeartbeats 40000000

/-- The grid of depths between two ends. -/
def linspace (arg0 arg1 : FVec F S_ .f32) : FVec F S128 .f32 :=
  naming (id arg0) fun v0 =>
  naming (id arg1) fun v1 =>
  naming (subf v1 v0) fun v2 =>
  naming (constant S_ .f32 0x42FE0000#32) fun cst =>
  naming (Host.divf v2 cst) fun v3 =>
  naming (sitofp .f32 (iotaInDim S127 32 0)) fun v4 =>
  naming (constant S_ .f32 0x42FE0000#32) fun cst_0 =>
  naming (broadcastInDim S127 ![] bcast_S_S127 cst_0) fun v5 =>
  naming (Host.divf v4 v5) fun v6 =>
  naming (fun i => shapeCast S1 v0 shapeCasts_S_S1 i) fun v7 =>
  naming (constant S_ .f32 0x3F800000#32) fun cst_1 =>
  naming (broadcastInDim S127 ![] bcast_S_S127 cst_1) fun v8 =>
  naming (subf v8 v6) fun v9 =>
  naming (broadcastInDim S127 ![0] bcast_S1_S127_0 v7) fun v10 =>
  naming (mulf v10 v9) fun v11 =>
  naming (fun i => shapeCast S1 v1 shapeCasts_S_S1 i) fun v12 =>
  naming (broadcastInDim S127 ![0] bcast_S1_S127_0 v12) fun v13 =>
  naming (mulf v13 v6) fun v14 =>
  naming (addf v11 v14) fun v15 =>
  naming (broadcastInDim S1 ![] bcast_S_S1 v1) fun v16 =>
  naming ((fun a b => concatenate S128 0 [⟨S127, a⟩, ⟨S1, b⟩] concatenates_S127_S1_S128_d0) v15 v16) fun v17 =>
  v17

/-- The reference's result from its arguments, the grid of depths and the draws. -/
def sorted (rays : FVec F S65536x8 .f32) (weights : FVec F S65536x128 .f32) (lin : FVec F S128 .f32)
    (rc : FVec F S65536x128 .f32) (u rf : FVec F S65536x64 .f32) : FVec F S65536x192 .f32 :=
  naming (extractStridedSlice S65536x1 ![0, 6] rays slices_S65536x8_S65536x1_0_6) fun v0 =>
  naming (extractStridedSlice S65536x1 ![0, 7] rays slices_S65536x8_S65536x1_0_7) fun v1 =>
  naming (broadcastInDim S1x128 ![1] bcast_S128_S1x128_1 lin) fun v17 =>
  naming (broadcastInDim S65536x128 ![0, 1] bcast_S1x128_S65536x128_0_1 v17) fun v18 =>
  naming (constant S_ .f32 0x3C000000#32) fun cst_5 =>
  naming (broadcastInDim S65536x128 ![] bcast_S_S65536x128 cst_5) fun v20 =>
  naming (mulf rc v20) fun v21 =>
  naming (addf v18 v21) fun v22 =>
  naming (constant S_ .f32 0x3F800000#32) fun cst_6 =>
  naming (broadcastInDim S65536x128 ![] bcast_S_S65536x128 cst_6) fun v23 =>
  naming (subf v23 v22) fun v24 =>
  naming (broadcastInDim S65536x128 ![0, 1] bcast_S65536x1_S65536x128_0_1 v0) fun v25 =>
  naming (mulf v25 v24) fun v26 =>
  naming (broadcastInDim S65536x128 ![0, 1] bcast_S65536x1_S65536x128_0_1 v1) fun v27 =>
  naming (mulf v27 v22) fun v28 =>
  naming (addf v26 v28) fun v29 =>
  naming (constant S_ .f32 0x3727C5AC#32) fun cst_7 =>
  naming (broadcastInDim S65536x128 ![] bcast_S_S65536x128 cst_7) fun v30 =>
  naming (addf weights v30) fun v31 =>
  naming (constant S_ .f32 0x00000000#32) fun cst_8 =>
  naming ((fun x v => Host.reduceAdd x v reducesTo_S65536x128_S65536_d1 h_S_) v31 cst_8) fun v32 =>
  naming (broadcastInDim S65536x1 ![0] bcast_S65536_S65536x1_0 v32) fun v33 =>
  naming (broadcastInDim S65536x128 ![0, 1] bcast_S65536x1_S65536x128_0_1 v33) fun v34 =>
  naming (Host.divf v31 v34) fun v35 =>
  naming (constant S_ .f32 0x00000000#32) fun w =>
  naming (broadcastInDim S_ ![] bcast_S_S_ w) fun w0 =>
  naming ((fun x v => Host.reduceWindowAdd ![1, 128] ![1, 1] ![0, 127] ![0, 0] x v reduceWindows_S65536x128_S65536x128_w1s1p0_0_w128s1p127_0 h_S_) v35 w0) fun v36 =>
  naming (extractStridedSlice S65536x1 ![0, 0] v36 slices_S65536x128_S65536x1_0_0) fun v37 =>
  naming (constant S_ .f32 0x00000000#32) fun cst_9 =>
  naming (broadcastInDim S65536x1 ![] bcast_S_S65536x1 cst_9) fun v38 =>
  naming ((fun a b => concatenate S65536x129 1 [⟨S65536x1, a⟩, ⟨S65536x128, b⟩] concatenates_S65536x1_S65536x128_S65536x129_d1) v38 v36) fun v39 =>
  naming (broadcastInDim S65536x1x129 ![0, 2] bcast_S65536x129_S65536x1x129_0_2 v39) fun v41 =>
  naming (broadcastInDim S65536x64x1 ![0, 1] bcast_S65536x64_S65536x64x1_0_1 u) fun v42 =>
  naming (broadcastInDim S65536x64x129 ![0, 1, 2] bcast_S65536x1x129_S65536x64x129_0_1_2 v41) fun v43 =>
  naming (broadcastInDim S65536x64x129 ![0, 1, 2] bcast_S65536x64x1_S65536x64x129_0_1_2 v42) fun v44 =>
  naming (cmpf .ole v43 v44) fun v45 =>
  naming (extui 32 v45 natLt_1_32) fun v46 =>
  naming (constantI S_ 32 0#32) fun c_12 =>
  naming ((fun x v => Host.reduce IntOp.addi x v reducesTo_S65536x64x129_S65536x64_d2 h_S_) v46 c_12) fun v47 =>
  naming (sitofp .f32 v47) fun v48 =>
  naming (constant S_ .f32 0x3F800000#32) fun cst_13 =>
  naming (broadcastInDim S65536x64 ![] bcast_S_S65536x64 cst_13) fun v49 =>
  naming (subf v48 v49) fun v50 =>
  naming (constant S_ .f32 0x00000000#32) fun cst_14 =>
  naming (broadcastInDim S65536x64 ![] bcast_S_S65536x64 cst_14) fun v51 =>
  naming (maximumf v50 v51) fun v52 =>
  naming (addf v52 rf) fun v54 =>
  naming (constant S_ .f32 0x43000000#32) fun cst_17 =>
  naming (broadcastInDim S65536x64 ![] bcast_S_S65536x64 cst_17) fun v55 =>
  naming (Host.divf v54 v55) fun v56 =>
  naming (constant S_ .f32 0x3F800000#32) fun cst_18 =>
  naming (broadcastInDim S65536x64 ![] bcast_S_S65536x64 cst_18) fun v57 =>
  naming (subf v57 v56) fun v58 =>
  naming (broadcastInDim S65536x64 ![0, 1] bcast_S65536x1_S65536x64_0_1 v0) fun v59 =>
  naming (mulf v59 v58) fun v60 =>
  naming (broadcastInDim S65536x64 ![0, 1] bcast_S65536x1_S65536x64_0_1 v1) fun v61 =>
  naming (mulf v61 v56) fun v62 =>
  naming (addf v60 v62) fun v63 =>
  naming ((fun a b => concatenate S65536x192 1 [⟨S65536x128, a⟩, ⟨S65536x64, b⟩] concatenates_S65536x128_S65536x64_S65536x192_d1) v29 v63) fun v64 =>
  naming ((fun x => Host.sort S65536x192 1 comparator_f32_d1 x) v64) fun v65 =>
  v65

theorem is_split : Is (fn_threefry_split.body (F := F) (.of main_v8) main_call0) 14 252
    fun W => W main_v9 = split (W main_v8) := by
  apply Is.imp
  · unfold fn_threefry_split.body
    repeat first
      | (apply Is.cons; first
        | (refine Fits.binary ?_ ?_ ?_ <;> decide)
        | (refine Fits.nullary ?_; decide)
        | (refine Fits.unary ?_ ?_ <;> decide)
        | (refine Fits.reshape ?_ ?_ <;> decide))
      | exact Is.nil
      | apply Is.skip
      | apply Is.assoc
      | unfold fn_threefry2x32.body
      | unfold fn_threefry2x32.body_part0
      | unfold fn_threefry2x32.body_part1
      | unfold fn_threefry2x32.body_part2
      | unfold fn_threefry2x32.body_part3
  · intro W h
    unfold split
    iterate 13
      refine held h.1 ?_
      replace h := h.2
    apply held_pair
    · unfold threefry
      iterate 222
        refine held h.1 ?_
        replace h := h.2
      exact rfl
    · iterate 222 replace h := h.2
      iterate 3
        refine held h.1 ?_
        replace h := h.2
      rfl
  · intro V W e p
    beta_reduce at p ⊢
    rw [e, e]
    · exact p
    all_goals decide

theorem is_linspace : Is (fn_linspace.body (F := F) (.of main_cst) (.of main_cst_2) main_call1) 260 281
    fun W => W main_v16 = linspace (W main_cst) (W main_cst_2) := by
  apply Is.imp
  · unfold fn_linspace.body
    repeat first
      | (apply Is.cons; first
        | (refine Fits.binary ?_ ?_ ?_ <;> decide)
        | (refine Fits.nullary ?_; decide)
        | (refine Fits.unary ?_ ?_ <;> decide)
        | (refine Fits.reshape ?_ ?_ <;> decide))
      | exact Is.nil
      | apply Is.skip
      | apply Is.assoc

  · intro W h
    unfold linspace
    iterate 21
      refine held h.1 ?_
      replace h := h.2
    rfl
  · intro V W e p
    beta_reduce at p ⊢
    rw [e, e, e]
    · exact p
    all_goals decide

theorem is_draws :
    Is (fn_uniform.body (F := F) (.of main_v11) (.of main_cst_3) (.of main_cst_4) main_call2) 285 547 (fun W =>
      W main_v19 = uniform 65536 128 bcast_S_S65536x128 bcast_S1x1_S65536x128_0_1 (W main_v11) (W main_cst_3) (W main_cst_4))
    ∧ Is (fn_uniform_2.body (F := F) (.of main_v13) (.of main_cst_10) (.of main_cst_11) main_call4) 576 838 (fun W =>
      W main_v40 = uniform 65536 64 bcast_S_S65536x64 bcast_S1x1_S65536x64_0_1 (W main_v13) (W main_cst_10) (W main_cst_11))
    ∧ Is (fn_uniform_2.body (F := F) (.of main_v15) (.of main_cst_15) (.of main_cst_16) main_call5) 855 1117 (fun W =>
      W main_v53 = uniform 65536 64 bcast_S_S65536x64 bcast_S1x1_S65536x64_0_1 (W main_v15) (W main_cst_15) (W main_cst_16)) := by
  refine ⟨?_, ?_, ?_⟩ <;>
  · apply Is.imp
    · first
      | unfold fn_uniform.body
      | unfold fn_uniform_2.body
      repeat first
        | (apply Is.cons; first
          | (refine Fits.binary ?_ ?_ ?_ <;> decide)
          | (refine Fits.nullary ?_; decide)
          | (refine Fits.unary ?_ ?_ <;> decide)
          | (refine Fits.reshape ?_ ?_ <;> decide))
        | exact Is.nil
        | apply Is.skip
        | apply Is.assoc
        | unfold fn_threefry2x32_0.body
        | unfold fn_threefry2x32_0.body_part0
        | unfold fn_threefry2x32_0.body_part1
        | unfold fn_threefry2x32_0.body_part2
        | unfold fn_threefry2x32_0.body_part3
        | unfold fn_threefry2x32_3.body
        | unfold fn_threefry2x32_3.body_part0
        | unfold fn_threefry2x32_3.body_part1
        | unfold fn_threefry2x32_3.body_part2
        | unfold fn_threefry2x32_3.body_part3
    · intro W h
      unfold uniform
      iterate 22
        refine held h.1 ?_
        replace h := h.2
      apply held_pair
      · unfold threefry
        iterate 222
          refine held h.1 ?_
          replace h := h.2
        exact rfl
      · iterate 222 replace h := h.2
        iterate 18
          refine held h.1 ?_
          replace h := h.2
        rfl
    · intro V W e p
      beta_reduce at p ⊢
      rw [e, e, e, e]
      · exact p
      all_goals decide

theorem is_main (d : Dev nD) : Is (main (F := F) d) 2 1131 fun W =>
    W main_v65 = sorted (W main_arg0) (W main_arg1)
      (linspace (constant S_ .f32 0x00000000#32) (constant S_ .f32 0x3F7E0000#32))
      (draw 65536 128 bcast_S_S65536x128 bcast_S1x1_S65536x128_0_1 0 slices_S3x2_S1x2_0_0)
      (draw 65536 64 bcast_S_S65536x64 bcast_S1x1_S65536x64_0_1 1 slices_S3x2_S1x2_1_0)
      (draw 65536 64 bcast_S_S65536x64 bcast_S1x1_S65536x64_0_1 2 slices_S3x2_S1x2_2_0) := by
  apply Is.imp
  · unfold main
    unfold main_part0
    iterate 12
      apply Is.assoc
      apply Is.cons
      · first
        | (refine Fits.binary ?_ ?_ ?_ <;> decide)
        | (refine Fits.nullary ?_; decide)
        | (refine Fits.unary ?_ ?_ <;> decide)
        | (refine Fits.reshape ?_ ?_ <;> decide)
    apply Is.assoc
    apply Is.bind is_split
    iterate 8
      apply Is.assoc
      apply Is.cons
      · first
        | (refine Fits.binary ?_ ?_ ?_ <;> decide)
        | (refine Fits.nullary ?_; decide)
        | (refine Fits.unary ?_ ?_ <;> decide)
        | (refine Fits.reshape ?_ ?_ <;> decide)
    apply Is.assoc
    apply Is.bind is_linspace
    iterate 4
      apply Is.assoc
      apply Is.cons
      · first
        | (refine Fits.binary ?_ ?_ ?_ <;> decide)
        | (refine Fits.nullary ?_; decide)
        | (refine Fits.unary ?_ ?_ <;> decide)
        | (refine Fits.reshape ?_ ?_ <;> decide)
    apply Is.assoc
    apply Is.bind is_draws.1
    iterate 20
      apply Is.assoc
      apply Is.cons
      · first
        | (refine Fits.binary ?_ ?_ ?_ <;> decide)
        | (refine Fits.nullary ?_; decide)
        | (refine Fits.unary ?_ ?_ <;> decide)
        | (refine Fits.reshape ?_ ?_ <;> decide)
    apply Is.assoc
    unfold fn_cumsum.body
    apply Is.assoc
    unfold fn_cumsum_1.body
    iterate 3
      apply Is.assoc
      apply Is.cons
      · first
        | (refine Fits.binary ?_ ?_ ?_ <;> decide)
        | (refine Fits.nullary ?_; decide)
        | (refine Fits.unary ?_ ?_ <;> decide)
        | (refine Fits.reshape ?_ ?_ <;> decide)
    apply Is.skip
    apply Is.skip
    iterate 6
      apply Is.assoc
      apply Is.cons
      · first
        | (refine Fits.binary ?_ ?_ ?_ <;> decide)
        | (refine Fits.nullary ?_; decide)
        | (refine Fits.unary ?_ ?_ <;> decide)
        | (refine Fits.reshape ?_ ?_ <;> decide)
    apply Is.assoc
    apply Is.bind is_draws.2.1
    iterate 4
      apply Is.assoc
      apply Is.cons
      · first
        | (refine Fits.binary ?_ ?_ ?_ <;> decide)
        | (refine Fits.nullary ?_; decide)
        | (refine Fits.unary ?_ ?_ <;> decide)
        | (refine Fits.reshape ?_ ?_ <;> decide)
    iterate 1
      apply Is.cons
      · first
        | (refine Fits.binary ?_ ?_ ?_ <;> decide)
        | (refine Fits.nullary ?_; decide)
        | (refine Fits.unary ?_ ?_ <;> decide)
        | (refine Fits.reshape ?_ ?_ <;> decide)
    unfold main_part1
    iterate 12
      apply Is.cons
      · first
        | (refine Fits.binary ?_ ?_ ?_ <;> decide)
        | (refine Fits.nullary ?_; decide)
        | (refine Fits.unary ?_ ?_ <;> decide)
        | (refine Fits.reshape ?_ ?_ <;> decide)
    apply Is.bind is_draws.2.2
    iterate 13
      apply Is.cons
      · first
        | (refine Fits.binary ?_ ?_ ?_ <;> decide)
        | (refine Fits.nullary ?_; decide)
        | (refine Fits.unary ?_ ?_ <;> decide)
        | (refine Fits.reshape ?_ ?_ <;> decide)
    unfold fn_sort.body
    iterate 1
      apply Is.assoc
      apply Is.cons
      · first
        | (refine Fits.binary ?_ ?_ ?_ <;> decide)
        | (refine Fits.nullary ?_; decide)
        | (refine Fits.unary ?_ ?_ <;> decide)
        | (refine Fits.reshape ?_ ?_ <;> decide)
    apply Is.skip
    exact Is.nil
  · intro W h
    have k := h.2.2
    have hseed : W main_v8 = seed := by
      unfold seed
      iterate 10
        refine held k.1 ?_
        replace k := k.2
      rfl
    iterate 10 replace k := k.2
    obtain ⟨hs, a0, a1, b0, b1, c0, c1, z0, z1, hl, -, -, z2, z3, hr, k⟩ := k
    iterate 27 replace k := k.2
    obtain ⟨z4, z5, hu, k⟩ := k
    iterate 15 replace k := k.2
    obtain ⟨z6, z7, hf, -⟩ := k
    have hkeys : W main_v9 = split seed := hs.trans (congrArg split hseed)
    have p0 : W main_v11 = pick 0 slices_S3x2_S1x2_0_0 (W main_v9) := held a0 (held a1 rfl)
    have p1 : W main_v13 = pick 1 slices_S3x2_S1x2_1_0 (W main_v9) := held b0 (held b1 rfl)
    have p2 : W main_v15 = pick 2 slices_S3x2_S1x2_2_0 (W main_v9) := held c0 (held c1 rfl)
    rw [hkeys] at p0 p1 p2
    rw [← hl.trans (congr (congrArg linspace z0) z1),
      ← (hr.trans (congr (congr (congrArg (uniform 65536 128 _ _) p0) z2) z3) : W main_v19 = draw 65536 128 _ _ 0 _),
      ← (hu.trans (congr (congr (congrArg (uniform 65536 64 _ _) p1) z4) z5) : W main_v40 = draw 65536 64 _ _ 1 _),
      ← (hf.trans (congr (congr (congrArg (uniform 65536 64 _ _) p2) z6) z7) : W main_v53 = draw 65536 64 _ _ 2 _)]
    unfold sorted
    iterate 2
      refine held h.1 ?_
      replace h := h.2
    iterate 20 replace h := h.2
    iterate 2
      refine held h.1 ?_
      replace h := h.2
    iterate 3 replace h := h.2
    iterate 27
      refine held h.1 ?_
      replace h := h.2
    iterate 3 replace h := h.2
    iterate 15
      refine held h.1 ?_
      replace h := h.2
    iterate 3 replace h := h.2
    iterate 14
      refine held h.1 ?_
      replace h := h.2
    rfl
  · intro V W e p
    beta_reduce at p ⊢
    rw [e, e, e]
    · exact p
    all_goals decide

end Cert.Proof.HostReference

end
-- ==== Proof.RunReference.lean ====
/-
  The reference's run: it ends with every counter at zero, its arguments as they were, and its result as the depths'
  sort of them.
-/
module

public import proofs.«01_k».proof.Proof.HostReference
public import Idealize.ShloMosaic.Lib.Quiescent
public import Idealize.ShloMosaic.Lib.Decide

@[expose] public section

namespace Cert.Proof.RunReference

open Idealize.ShloMosaic Idealize.ShloMosaic.TcCoe Idealize.SL.Sem Cert.ReferenceIdeal Facts₀ Line Draws HostReference

variable {F : FTy → Type} [FloatOps F]

instance facts : Cert.ReferenceIdeal.Facts := @Facts.mk (by constructor <;> decide)

/-- The result from the two arguments. -/
noncomputable def result (rays : FVec F S65536x8 .f32) (weights : FVec F S65536x128 .f32) : FVec F S65536x192 .f32 :=
  sorted rays weights
    (linspace (constant S_ .f32 0x00000000#32) (constant S_ .f32 0x3F7E0000#32))
    (draw 65536 128 bcast_S_S65536x128 bcast_S1x1_S65536x128_0_1 0 slices_S3x2_S1x2_0_0)
    (draw 65536 64 bcast_S_S65536x64 bcast_S1x1_S65536x64_0_1 1 slices_S3x2_S1x2_1_0)
    (draw 65536 64 bcast_S_S65536x64 bcast_S1x1_S65536x64_0_1 2 slices_S3x2_S1x2_2_0)

theorem run (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_v65)
          = result (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 := by
  choose ops hs hf using is_main (F := F)
  have hrun := StableHlo.run_seq (by decide) (by decide) (defs (F := F)) (main (F := F)) ops hs (fun d => (hf d).sub) m ρ
    (fun d => (hf d).fresh)
  refine (θ_run _ _ _).mono (fun r h => ⟨fun c => ?_, sem_eq_zero_of_no_sems (by decide) _⟩) hrun
  have h0 := (hf c).keep (StableHlo.launchContents m c) main_arg0 (by decide)
  have h1 := (hf c).keep (StableHlo.launchContents m c) main_arg1 (by decide)
  refine ⟨?_, (h c main_arg0).trans h0, (h c main_arg1).trans h1⟩
  rw [h c main_v65, (hf c).after, h0, h1]
  rfl

end Cert.Proof.RunReference

end
-- ==== Proof.HostKernel.lean ====
/-
  What the host code before the kernel leaves in the buffers the kernel reads: the bounds of every ray, and the three
  arrays of draws.
-/
module

public import proofs.«01_k».proof.Proof.Gen.KernelIdeal.Launch
public import proofs.«01_k».proof.Proof.Line
public import proofs.«01_k».proof.Proof.Draws

@[expose] public section

namespace Cert.Proof.HostKernel

open Idealize.ShloMosaic Idealize.ShloMosaic.TcCoe Cert.KernelIdeal Cert.KernelIdeal.Gen Line Draws

variable {F : FTy → Type} [FloatOps F]

set_option maxRecDepth 100000
set_option maxHeartbeats 4000000

/-- Each ray's near bound, and the distance from it to the far bound, in rows of the array that the kernel reads. -/
def bounds (rays : FVec F S65536x8 .f32) : FVec F S8x65536 .f32 :=
  naming (extractStridedSlice S65536x1 ![0, 6] rays slices_S65536x8_S65536x1_0_6) fun v0 =>
  naming (fun i => shapeCast S65536 v0 shapeCasts_S65536x1_S65536 i) fun v1 =>
  naming (fun i => shapeCast S1x65536 v1 shapeCasts_S65536_S1x65536 i) fun v2 =>
  naming (extractStridedSlice S65536x1 ![0, 7] rays slices_S65536x8_S65536x1_0_7) fun v3 =>
  naming (fun i => shapeCast S65536 v3 shapeCasts_S65536x1_S65536 i) fun v4 =>
  naming (fun i => shapeCast S1x65536 v4 shapeCasts_S65536_S1x65536 i) fun v5 =>
  naming (subf v5 v2) fun v6 =>
  naming (constant S_ .f32 0x00000000#32) fun cst =>
  naming (broadcastInDim S6x65536 ![] bcast_S_S6x65536 cst) fun v7 =>
  naming (concatenate S8x65536 0 [⟨S1x65536, v2⟩, ⟨S1x65536, v6⟩, ⟨S6x65536, v7⟩]
    concatenates_S1x65536_S1x65536_S6x65536_S8x65536_d0) fun v8 => v8

theorem fits_start : Fits 2 22 (hostOps0 (F := F)) fun W => W main_v8 = bounds (W main_arg0) ∧ W main_v15 = seed := by
  apply Fits.imp
  · unfold hostOps0
    repeat
      apply Fits.cons
      · first
        | (refine Fits.binary ?_ ?_ ?_ <;> decide)
        | (refine Fits.nullary ?_; decide)
        | (refine Fits.unary ?_ ?_ <;> decide)
        | (refine Fits.reshape ?_ ?_ <;> decide)
        | (refine Fits.nary ?_ ?_ <;> decide)
    exact Fits.nil
  · intro W h
    constructor
    · unfold bounds
      iterate 10
        refine held h.1 ?_
        replace h := h.2
      rfl
    · iterate 10 replace h := h.2
      unfold seed
      iterate 10
        refine held h.1 ?_
        replace h := h.2
      rfl
  · intro V W e p
    beta_reduce at p ⊢
    rw [e, e, e]
    · exact p
    all_goals decide

theorem fits_split : Fits 22 260 (hostOps0_1 (F := F)) fun W => W main_v16 = split (W main_v15) := by
  apply Fits.imp
  · unfold hostOps0_1
    repeat
      apply Fits.cons
      · first
        | (refine Fits.binary ?_ ?_ ?_ <;> decide)
        | (refine Fits.nullary ?_; decide)
        | (refine Fits.unary ?_ ?_ <;> decide)
        | (refine Fits.reshape ?_ ?_ <;> decide)
        | (refine Fits.nary ?_ ?_ <;> decide)
    exact Fits.nil
  · intro W h
    unfold split
    iterate 13
      refine held h.1 ?_
      replace h := h.2
    apply held_pair
    · unfold threefry
      iterate 222
        refine held h.1 ?_
        replace h := h.2
      exact rfl
    · iterate 222 replace h := h.2
      iterate 3
        refine held h.1 ?_
        replace h := h.2
      rfl
  · intro V W e p
    beta_reduce at p ⊢
    rw [e, e]
    · exact p
    all_goals decide

theorem fits_keys : Fits 260 268 (hostOps0_2 (F := F)) fun W =>
    W main_v18 = pick 0 slices_S3x2_S1x2_0_0 (W main_v16) ∧ W main_v20 = pick 1 slices_S3x2_S1x2_1_0 (W main_v16)
      ∧ W main_v22 = pick 2 slices_S3x2_S1x2_2_0 (W main_v16)
      ∧ W main_cst_2 = constant S_ .f32 0x00000000#32 ∧ W main_cst_3 = constant S_ .f32 0x3F800000#32 := by
  apply Fits.imp
  · unfold hostOps0_2
    repeat
      apply Fits.cons
      · first
        | (refine Fits.binary ?_ ?_ ?_ <;> decide)
        | (refine Fits.nullary ?_; decide)
        | (refine Fits.unary ?_ ?_ <;> decide)
        | (refine Fits.reshape ?_ ?_ <;> decide)
        | (refine Fits.nary ?_ ?_ <;> decide)
    exact Fits.nil
  · intro W h
    refine ⟨?_, ?_, ?_, h.2.2.2.2.2.2.1, h.2.2.2.2.2.2.2.1⟩
    · exact held h.1 (held h.2.1 rfl)
    · exact held h.2.2.1 (held h.2.2.2.1 rfl)
    · exact held h.2.2.2.2.1 (held h.2.2.2.2.2.1 rfl)
  · intro V W e p
    beta_reduce at p ⊢
    rw [e, e, e, e, e, e]
    · exact p
    all_goals decide

theorem fits_draws :
    Fits 268 530 (hostOps0_3 (F := F)) (fun W => W main_v23 =
      uniform 65536 128 bcast_S_S65536x128 bcast_S1x1_S65536x128_0_1 (W main_v18) (W main_cst_2) (W main_cst_3))
    ∧ Fits 533 795 (hostOps0_5 (F := F)) (fun W => W main_v25 =
      uniform 65536 64 bcast_S_S65536x64 bcast_S1x1_S65536x64_0_1 (W main_v20) (W main_cst_4) (W main_cst_5))
    ∧ Fits 798 1060 (hostOps0_7 (F := F)) (fun W => W main_v27 =
      uniform 65536 64 bcast_S_S65536x64 bcast_S1x1_S65536x64_0_1 (W main_v22) (W main_cst_6) (W main_cst_7)) := by
  refine ⟨?_, ?_, ?_⟩ <;>
  · apply Fits.imp
    · repeat
        apply Fits.cons
        · first
          | (refine Fits.binary ?_ ?_ ?_ <;> decide)
          | (refine Fits.nullary ?_; decide)
          | (refine Fits.unary ?_ ?_ <;> decide)
          | (refine Fits.reshape ?_ ?_ <;> decide)
          | (refine Fits.nary ?_ ?_ <;> decide)
      exact Fits.nil
    · intro W h
      unfold uniform
      iterate 22
        refine held h.1 ?_
        replace h := h.2
      apply held_pair
      · unfold threefry
        iterate 222
          refine held h.1 ?_
          replace h := h.2
        exact rfl
      · iterate 222 replace h := h.2
        iterate 18
          refine held h.1 ?_
          replace h := h.2
        rfl
    · intro V W e p
      beta_reduce at p ⊢
      rw [e, e, e, e]
      · exact p
      all_goals decide

end Cert.Proof.HostKernel

end
-- ==== Proof.EntryKernel.lean ====
/-
  The kernel's operands as it finds them: the bounds, the weights and the draws, one ray to a column.
-/
module

public import proofs.«01_k».proof.Proof.HostKernel
public import proofs.«01_k».proof.Proof.Gen.KernelIdeal.Frame

@[expose] public section

namespace Cert.Proof.EntryKernel

open Idealize.ShloMosaic Idealize.ShloMosaic.TcCoe Cert.KernelIdeal Cert.KernelIdeal.Gen Line Draws HostKernel

variable {F : FTy → Type} [FloatOps F]

set_option maxRecDepth 100000

/-- The lines between the draws: each draw is turned so that a ray is a column, and two of them change format. -/
theorem fits_between :
    Fits 530 533 (hostOps0_4 (F := F)) (fun W => W main_v24 = transpose S128x65536 [1, 0] (W main_v23) transposes_S65536x128_S128x65536_1_0
      ∧ W main_cst_4 = constant S_ .f32 0x00000000#32 ∧ W main_cst_5 = constant S_ .f32 0x3F800000#32)
    ∧ Fits 795 798 (hostOps0_6 (F := F)) (fun W => W main_v26 = transpose S64x65536 [1, 0] (W main_v25) transposes_S65536x64_S64x65536_1_0
      ∧ W main_cst_6 = constant S_ .f32 0x00000000#32 ∧ W main_cst_7 = constant S_ .f32 0x3F800000#32)
    ∧ Fits 1060 1063 (hostOps0_8 (F := F)) (fun W => W main_v28 = transpose S64x65536 [1, 0] (W main_v27) transposes_S65536x64_S64x65536_1_0
      ∧ W main_v29 = truncf .bf16 (W main_v24) (by decide) ∧ W main_v30 = truncf .bf16 (W main_v28) (by decide)) := by
  refine ⟨?_, ?_, ?_⟩ <;>
  · apply Fits.imp
    · repeat
        apply Fits.cons
        · first
          | (refine Fits.nullary ?_; decide)
          | (refine Fits.unary ?_ ?_ <;> decide)
      exact Fits.nil
    · exact fun W h => ⟨h.1, h.2.1, h.2.2.1⟩
    · intro V W e p
      beta_reduce at p ⊢
      first
        | (rw [e, e, e, e, e]
           · exact p
           all_goals decide)
        | (rw [e, e, e, e]
           · exact p
           all_goals decide)

/-- The operands as the kernel finds them. -/
structure Entry (W : Valuation τ sig (Elt F)) (rays : FVec F S65536x8 .f32) (weights : FVec F S65536x128 .f32) : Prop where
  bounds : W main_v8 = bounds rays
  weights : W main_arg1 = weights
  coarse : W main_v29 = truncf .bf16 (transpose S128x65536 [1, 0]
    (draw 65536 128 bcast_S_S65536x128 bcast_S1x1_S65536x128_0_1 0 slices_S3x2_S1x2_0_0) transposes_S65536x128_S128x65536_1_0) (by decide)
  draws : W main_v26 = transpose S64x65536 [1, 0]
    (draw 65536 64 bcast_S_S65536x64 bcast_S1x1_S65536x64_0_1 1 slices_S3x2_S1x2_1_0) transposes_S65536x64_S64x65536_1_0
  fine : W main_v30 = truncf .bf16 (transpose S64x65536 [1, 0]
    (draw 65536 64 bcast_S_S65536x64 bcast_S1x1_S65536x64_0_1 2 slices_S3x2_S1x2_2_0) transposes_S65536x64_S64x65536_1_0) (by decide)

/-- After a line, its facts hold, and buffers numbered below it are as before. -/
theorem use {lo hi : ℕ} {ops : List (HloOp τ sig (Elt F))} {E : Valuation τ sig (Elt F) → Prop} (h : Fits lo hi ops E)
    (V : Valuation τ sig (Elt F)) (P : Valuation τ sig (Elt F) → Prop)
    (hP : ∀ W, E W → (∀ r : Ref sig .tc, key r < lo → W (Proc.devRef .tc r) = V (Proc.devRef .tc r)) → P W) :
    P (StableHlo.after ops V) :=
  hP _ (h.after V) (h.keep V)

/-- The lines before the kernel leave its operands as `Entry` says. -/
theorem entry (m : (ℓ : Loc nD τ sig) → Buf (Elt F) ℓ) (c : Dev nD) :
    Entry (V0 m c) (m ((c.tc : Thread nD τ).loc main_arg0)) (m ((c.tc : Thread nD τ).loc main_arg1)) := by
  have fits := fits_start.append (fits_split.append (fits_keys.append (fits_draws.1.append (fits_between.1.append
    (fits_draws.2.1.append (fits_between.2.1.append (fits_draws.2.2.append (fits_between.2.2.append (Fits.nil (Val := Elt F))))))))))
  refine use fits (fun b => m (c, b)) (fun W => Entry W (m ((c.tc : Thread nD τ).loc main_arg0)) (m ((c.tc : Thread nD τ).loc main_arg1)))
    fun W all keep => ?_
  have k0 : W main_arg0 = m ((c.tc : Thread nD τ).loc main_arg0) := keep main_arg0 (by decide)
  have k1 : W main_arg1 = m ((c.tc : Thread nD τ).loc main_arg1) := keep main_arg1 (by decide)
  obtain ⟨⟨hb, hs⟩, hp, ⟨h18, h20, h22, h2, h3⟩, h23, ⟨h24, h4, h5⟩, h25, ⟨h26, h6, h7⟩, h27, ⟨h28, h29, h30⟩, -⟩ := all
  constructor
  · exact hb.trans (congrArg HostKernel.bounds k0)
  · exact k1
  · refine h29.trans ?_
    rw [h24, h23, h18, h2, h3, hp, hs]
    rfl
  · refine h26.trans ?_
    rw [h25, h20, h4, h5, hp, hs]
    rfl
  · refine h30.trans ?_
    rw [h28, h27, h22, h6, h7, hp, hs]
    rfl

end Cert.Proof.EntryKernel

end
-- ==== Proof.Network.lean ====
/-
  Compare-exchange stages on sequences indexed by natural numbers, over any linear order: a merge of stages sorts
  every block that is bitonic, a stage moves values around without changing which occur how often, and two sorted
  sequences holding the same values are equal.
-/
module

public import Mathlib.Algebra.BigOperators.Ring.Finset
public import Mathlib.Algebra.BigOperators.Group.Finset.Basic
public import Mathlib.Algebra.BigOperators.Intervals
public import Mathlib.Order.Lattice
public import Mathlib.Data.Int.Basic
public import Mathlib.Tactic.Ring
public import Mathlib.Tactic.Linarith

@[expose] public section

namespace Cert.Proof.Network

variable {α : Type} [LinearOrder α]

/-- The position that position `i` is exchanged with at distance `n`. -/
def mate (n i : ℕ) : ℕ := if i / n % 2 = 0 then i + n else i - n

/-- One compare-exchange stage at distance `n`: the lesser value goes to the lower position where `asc` holds. -/
def stage (n : ℕ) (asc : ℕ → Prop) [DecidablePred asc] (f : ℕ → α) (i : ℕ) : α :=
  if (i / n % 2 = 0 ↔ asc i) then min (f i) (f (mate n i)) else max (f i) (f (mate n i))

/-- The stages at distances `2 ^ (p - 1)`, …, 2, 1. -/
def merge (asc : ℕ → Prop) [DecidablePred asc] : ℕ → (ℕ → α) → ℕ → α
  | 0, f => f
  | p + 1, f => merge asc p (stage (2 ^ p) asc f)

theorem low_iff {n k j : ℕ} (hj : j < 2 * n) : (2 * n * k + j) / n % 2 = 0 ↔ j < n := by
  have hn : 0 < n := by omega
  have e : 2 * n * k + j = j + n * (2 * k) := by ring
  rw [e, Nat.add_mul_div_left _ _ hn]
  rcases Nat.lt_or_ge j n with h | h
  · rw [Nat.div_eq_of_lt h]; constructor
    · intro; exact h
    · intro; omega
  · have : j / n = 1 := by
      rw [Nat.div_eq_iff hn]; omega
    rw [this]; constructor
    · intro; omega
    · intro; omega

/-- A stage within one block of twice its distance, lower half. -/
theorem stage_low {n k j : ℕ} {asc : ℕ → Prop} [DecidablePred asc] (f : ℕ → α) (hj : j < n)
    (h : asc (2 * n * k + j)) :
    stage n asc f (2 * n * k + j) = min (f (2 * n * k + j)) (f (2 * n * k + (j + n))) := by
  have l := (low_iff (n := n) (k := k) (j := j) (by omega)).mpr hj
  unfold stage mate
  rw [if_pos (by simp [l, h]), if_pos l, Nat.add_assoc]

/-- A stage within one block of twice its distance, upper half. -/
theorem stage_high {n k j : ℕ} {asc : ℕ → Prop} [DecidablePred asc] (f : ℕ → α) (hj : j < n)
    (h : asc (2 * n * k + (j + n))) :
    stage n asc f (2 * n * k + (j + n)) = max (f (2 * n * k + j)) (f (2 * n * k + (j + n))) := by
  have l : ¬ (2 * n * k + (j + n)) / n % 2 = 0 := by
    rw [low_iff (by omega)]; omega
  unfold stage mate
  rw [if_neg (by simp [l, h]), if_neg l, max_comm]
  congr 2; omega

/-! ## Bitonic blocks -/

/-- The first `m` truth values hold exactly on an interval, or exactly outside one. -/
def Run (m : ℕ) (P : ℕ → Prop) : Prop :=
  ∃ lo hi, lo ≤ hi ∧ hi ≤ m ∧ ((∀ j < m, (P j ↔ lo ≤ j ∧ j < hi)) ∨ (∀ j < m, (P j ↔ ¬ (lo ≤ j ∧ j < hi))))

/-- A set of values containing with each value all greater ones. -/
def Up (U : α → Prop) : Prop := ∀ a b, a ≤ b → U a → U b

theorem Up.min {U : α → Prop} (h : Up U) (a b : α) : U (min a b) ↔ U a ∧ U b := by
  constructor
  · intro u; exact ⟨h _ _ (min_le_left a b) u, h _ _ (min_le_right a b) u⟩
  · rintro ⟨ua, ub⟩; rcases min_choice a b with e | e <;> rw [e] <;> assumption

theorem Up.max {U : α → Prop} (h : Up U) (a b : α) : U (max a b) ↔ U a ∨ U b := by
  constructor
  · intro u; rcases max_choice a b with e | e <;> rw [e] at u <;> simp [u]
  · rintro (u | u)
    · exact h _ _ (le_max_left a b) u
    · exact h _ _ (le_max_right a b) u

/-- Every upper set of values is met on a run. -/
def Bitonic (m : ℕ) (g : ℕ → α) : Prop := ∀ U : α → Prop, Up U → Run m (fun j => U (g j))

theorem run_congr {m : ℕ} {P Q : ℕ → Prop} (h : ∀ j < m, (P j ↔ Q j)) (r : Run m P) : Run m Q := by
  obtain ⟨lo, hi, a, b, c⟩ := r
  refine ⟨lo, hi, a, b, c.imp (fun c j hj => ?_) (fun c j hj => ?_)⟩ <;> rw [← h j hj, c j hj]

theorem Run.not {m : ℕ} {P : ℕ → Prop} (r : Run m P) : Run m (fun j => ¬ P j) := by
  obtain ⟨lo, hi, a, b, c | c⟩ := r
  · exact ⟨lo, hi, a, b, .inr fun j hj => by beta_reduce; rw [c j hj]⟩
  · exact ⟨lo, hi, a, b, .inl fun j hj => by beta_reduce; rw [c j hj, not_not]⟩

theorem halfClean {n : ℕ} {P : ℕ → Prop} (r : Run (2 * n) P) :
    ((∀ j < n, ¬ (P j ∧ P (j + n))) ∨ (∀ j < n, P j ∨ P (j + n)))
      ∧ Run n (fun j => P j ∧ P (j + n)) ∧ Run n (fun j => P j ∨ P (j + n)) := by
  have key : ∀ Q : ℕ → Prop, (∃ lo hi, lo ≤ hi ∧ hi ≤ 2 * n ∧ ∀ j < 2 * n, (Q j ↔ lo ≤ j ∧ j < hi)) →
      ((∀ j < n, ¬ (Q j ∧ Q (j + n))) ∨ (∀ j < n, Q j ∨ Q (j + n)))
        ∧ Run n (fun j => Q j ∧ Q (j + n)) ∧ Run n (fun j => Q j ∨ Q (j + n)) := by
    rintro Q ⟨lo, hi, a, b, c⟩
    have c1 : ∀ j < n, (Q j ↔ lo ≤ j ∧ j < hi) := fun j hj => c j (by omega)
    have c2 : ∀ j < n, (Q (j + n) ↔ lo ≤ j + n ∧ j + n < hi) := fun j hj => c (j + n) (by omega)
    by_cases h1 : hi ≤ n
    · refine ⟨.inl fun j hj => by rw [c1 j hj, c2 j hj]; omega, ⟨0, 0, le_rfl, by omega, .inl fun j hj => ?_⟩,
        ⟨lo, hi, a, h1, .inl fun j hj => ?_⟩⟩ <;> beta_reduce <;> rw [c1 j hj, c2 j hj] <;> omega
    · by_cases h2 : n ≤ lo
      · refine ⟨.inl fun j hj => by rw [c1 j hj, c2 j hj]; omega, ⟨0, 0, le_rfl, by omega, .inl fun j hj => ?_⟩,
          ⟨lo - n, hi - n, by omega, by omega, .inl fun j hj => ?_⟩⟩ <;> beta_reduce <;> rw [c1 j hj, c2 j hj] <;> omega
      · by_cases h3 : hi - n ≤ lo
        · refine ⟨.inl fun j hj => by rw [c1 j hj, c2 j hj]; omega, ⟨0, 0, le_rfl, by omega, .inl fun j hj => ?_⟩,
            ⟨hi - n, lo, h3, by omega, .inr fun j hj => ?_⟩⟩ <;> beta_reduce <;> rw [c1 j hj, c2 j hj] <;> omega
        · refine ⟨.inr fun j hj => by rw [c1 j hj, c2 j hj]; omega, ⟨lo, hi - n, by omega, by omega, .inl fun j hj => ?_⟩,
            ⟨0, n, by omega, le_rfl, .inl fun j hj => ?_⟩⟩ <;> beta_reduce <;> rw [c1 j hj, c2 j hj] <;> omega
  obtain ⟨lo, hi, a, b, c | c⟩ := r
  · exact key P ⟨lo, hi, a, b, c⟩
  · have k := key (fun j => ¬ P j) ⟨lo, hi, a, b, fun j hj => by rw [c j hj, not_not]⟩
    refine ⟨k.1.symm.imp (fun h j hj => ?_) (fun h j hj => ?_),
      run_congr (fun j hj => ?_) k.2.2.not, run_congr (fun j hj => ?_) k.2.1.not⟩
    · have := h j hj; tauto
    · have := h j hj; tauto
    · tauto
    · tauto

/-! ## The merge sorts bitonic blocks -/

theorem merge_all {asc : ℕ → Prop} [DecidablePred asc] (Q : α → Prop) (p : ℕ) : ∀ (f : ℕ → α) (k : ℕ),
    (∀ j < 2 ^ p, Q (f (2 ^ p * k + j))) → ∀ j < 2 ^ p, Q (merge asc p f (2 ^ p * k + j)) := by
  induction p with
  | zero => intro f k h j hj; exact h j hj
  | succ p ih =>
    intro f k h j hj
    have e2 : 2 ^ (p + 1) = 2 * 2 ^ p := by rw [pow_succ]; ring
    have hs : ∀ i < 2 ^ (p + 1), Q (stage (2 ^ p) asc f (2 ^ (p + 1) * k + i)) := by
      intro i hi
      have hm : ∃ i' < 2 ^ (p + 1), mate (2 ^ p) (2 ^ (p + 1) * k + i) = 2 ^ (p + 1) * k + i' := by
        unfold mate
        rw [e2] at hi ⊢
        rcases Nat.lt_or_ge i (2 ^ p) with l | l
        · rw [if_pos ((low_iff hi).mpr l)]; exact ⟨i + 2 ^ p, by omega, by omega⟩
        · rw [if_neg (by rw [low_iff hi]; omega)]; exact ⟨i - 2 ^ p, by omega, by omega⟩
      obtain ⟨i', hi', e⟩ := hm
      have q1 := h i hi
      have q2 := h i' hi'
      unfold stage
      rw [e]
      split
      · rcases min_choice (f (2 ^ (p + 1) * k + i)) (f (2 ^ (p + 1) * k + i')) with c | c <;> rw [c] <;> assumption
      · rcases max_choice (f (2 ^ (p + 1) * k + i)) (f (2 ^ (p + 1) * k + i')) with c | c <;> rw [c] <;> assumption
    show Q (merge asc p (stage (2 ^ p) asc f) _)
    rcases Nat.lt_or_ge j (2 ^ p) with l | l
    · have := ih (stage (2 ^ p) asc f) (2 * k) (fun i hi => by
        have := hs i (by omega); rw [e2] at this
        rwa [show 2 ^ p * (2 * k) + i = 2 * 2 ^ p * k + i by ring]) j l
      rwa [show 2 ^ p * (2 * k) + j = 2 ^ (p + 1) * k + j by rw [e2]; ring] at this
    · have := ih (stage (2 ^ p) asc f) (2 * k + 1) (fun i hi => by
        have := hs (i + 2 ^ p) (by omega); rw [e2] at this
        rwa [show 2 ^ p * (2 * k + 1) + i = 2 * 2 ^ p * k + (i + 2 ^ p) by ring]) (j - 2 ^ p) (by omega)
      rwa [show 2 ^ p * (2 * k + 1) + (j - 2 ^ p) = 2 ^ (p + 1) * k + j by
        rw [show 2 ^ p * (2 * k + 1) + (j - 2 ^ p) = 2 * 2 ^ p * k + (2 ^ p + (j - 2 ^ p)) by ring, e2]; omega] at this

/-- A merge whose direction is ascending on a bitonic block leaves the block ascending. -/
theorem merge_up {asc : ℕ → Prop} [DecidablePred asc] (p : ℕ) : ∀ (f : ℕ → α) (k : ℕ),
    (∀ j < 2 ^ p, asc (2 ^ p * k + j)) → Bitonic (2 ^ p) (fun j => f (2 ^ p * k + j)) →
    ∀ i j, i ≤ j → j < 2 ^ p → merge asc p f (2 ^ p * k + i) ≤ merge asc p f (2 ^ p * k + j) := by
  induction p with
  | zero =>
    intro f k _ _ i j hij hj
    obtain rfl : i = j := by rw [pow_zero] at hj; omega
    exact le_rfl
  | succ p ih =>
    intro f k ha hb i j hij hj
    have e2 : 2 ^ (p + 1) = 2 * 2 ^ p := by rw [pow_succ]; ring
    rw [e2] at ha hb
    have hlo : ∀ j < 2 ^ p, stage (2 ^ p) asc f (2 ^ p * (2 * k) + j)
        = min (f (2 * 2 ^ p * k + j)) (f (2 * 2 ^ p * k + (j + 2 ^ p))) := fun j hj => by
      rw [show 2 ^ p * (2 * k) + j = 2 * 2 ^ p * k + j by ring]; exact stage_low f hj (ha _ (by omega))
    have hhi : ∀ j < 2 ^ p, stage (2 ^ p) asc f (2 ^ p * (2 * k + 1) + j)
        = max (f (2 * 2 ^ p * k + j)) (f (2 * 2 ^ p * k + (j + 2 ^ p))) := fun j hj => by
      rw [show 2 ^ p * (2 * k + 1) + j = 2 * 2 ^ p * k + (j + 2 ^ p) by ring]; exact stage_high f hj (ha _ (by omega))
    have bl : Bitonic (2 ^ p) (fun j => stage (2 ^ p) asc f (2 ^ p * (2 * k) + j)) := fun U hU =>
      run_congr (fun j hj => by beta_reduce; rw [hlo j hj, hU.min]) (halfClean (hb U hU)).2.1
    have bh : Bitonic (2 ^ p) (fun j => stage (2 ^ p) asc f (2 ^ p * (2 * k + 1) + j)) := fun U hU =>
      run_congr (fun j hj => by beta_reduce; rw [hhi j hj, hU.max]) (halfClean (hb U hU)).2.2
    have sl := ih (stage (2 ^ p) asc f) (2 * k)
      (fun j hj => by rw [show 2 ^ p * (2 * k) + j = 2 * 2 ^ p * k + j by ring]; exact ha _ (by omega)) bl
    have sh := ih (stage (2 ^ p) asc f) (2 * k + 1)
      (fun j hj => by rw [show 2 ^ p * (2 * k + 1) + j = 2 * 2 ^ p * k + (j + 2 ^ p) by ring]; exact ha _ (by omega)) bh
    show merge asc p (stage (2 ^ p) asc f) _ ≤ merge asc p (stage (2 ^ p) asc f) _
    have el : ∀ j, 2 ^ (p + 1) * k + j = 2 ^ p * (2 * k) + j := fun j => by rw [e2]; ring
    have eh : ∀ j, 2 ^ p ≤ j → 2 ^ (p + 1) * k + j = 2 ^ p * (2 * k + 1) + (j - 2 ^ p) := fun j hj => by
      rw [show 2 ^ p * (2 * k + 1) + (j - 2 ^ p) = 2 * 2 ^ p * k + (2 ^ p + (j - 2 ^ p)) by ring, e2]; omega
    rcases Nat.lt_or_ge j (2 ^ p) with lj | lj
    · rw [el i, el j]; exact sl i j hij lj
    · rw [eh j lj]
      rcases Nat.lt_or_ge i (2 ^ p) with li | li
      · rw [el i]
        refine le_of_forall_lt fun t ht => ?_
        have up : Up (fun a : α => t < a) := fun a b hab h => lt_of_lt_of_le h hab
        rcases (halfClean (hb _ up)).1 with h | h
        · exfalso
          refine merge_all (asc := asc) (fun a => ¬ t < a) p (stage (2 ^ p) asc f) (2 * k) (fun j hj => ?_) i li ht
          rw [hlo j hj, lt_min_iff]; exact h j hj
        · refine merge_all (asc := asc) (fun a => t < a) p (stage (2 ^ p) asc f) (2 * k + 1) (fun j hj => ?_) (j - 2 ^ p) (by omega)
          rw [hhi j hj, lt_max_iff]; exact h j hj
      · rw [eh i li]; exact sh _ _ (by omega) (by omega)

theorem stage_dual (n : ℕ) (asc : ℕ → Prop) [DecidablePred asc] (f : ℕ → α) :
    stage (α := αᵒᵈ) n (fun i => ¬ asc i) f = stage (α := α) n asc f := by
  funext i
  unfold stage
  by_cases h1 : i / n % 2 = 0 <;> by_cases h2 : asc i <;> simp only [h1, h2, if_true, if_false, iff_true, iff_false, not_true, not_false_iff] <;> rfl

theorem merge_dual (asc : ℕ → Prop) [DecidablePred asc] (p : ℕ) : ∀ f : ℕ → α,
    merge (α := αᵒᵈ) (fun i => ¬ asc i) p f = merge (α := α) asc p f := by
  induction p with
  | zero => intro f; rfl
  | succ p ih => intro f; show merge (α := αᵒᵈ) _ p _ = merge (α := α) asc p _; rw [stage_dual, ih]

theorem bitonic_dual {m : ℕ} {g : ℕ → α} (h : Bitonic m g) : Bitonic (α := αᵒᵈ) m g := fun U hU => by
  have := (h (fun a => ¬ U a) (fun a b hab ha hb => ha (hU b a hab hb))).not
  exact run_congr (fun j _ => not_not) this

/-- A merge whose direction is descending on a bitonic block leaves the block descending. -/
theorem merge_down {asc : ℕ → Prop} [DecidablePred asc] (p : ℕ) (f : ℕ → α) (k : ℕ)
    (ha : ∀ j < 2 ^ p, ¬ asc (2 ^ p * k + j)) (hb : Bitonic (2 ^ p) (fun j => f (2 ^ p * k + j)))
    (i j : ℕ) (hij : i ≤ j) (hj : j < 2 ^ p) : merge asc p f (2 ^ p * k + j) ≤ merge asc p f (2 ^ p * k + i) := by
  rw [← merge_dual]
  exact merge_up (α := αᵒᵈ) (asc := fun i => ¬ asc i) p f k ha (bitonic_dual hb) i j hij hj

/-! ## What is bitonic -/

theorem cut_up {m : ℕ} {P : ℕ → Prop} (h : ∀ i j, i ≤ j → j < m → P i → P j) : ∃ lo ≤ m, ∀ j < m, (P j ↔ lo ≤ j) := by
  classical
  by_cases e : ∃ i, i < m ∧ P i
  · refine ⟨Nat.find e, (Nat.find_spec e).1.le, fun j hj => ⟨fun p => Nat.find_min' e ⟨hj, p⟩, fun l => ?_⟩⟩
    exact h _ _ l hj (Nat.find_spec e).2
  · exact ⟨m, le_rfl, fun j hj => ⟨fun p => (e ⟨j, hj, p⟩).elim, fun l => by omega⟩⟩

theorem cut_down {m : ℕ} {P : ℕ → Prop} (h : ∀ i j, i ≤ j → j < m → P j → P i) : ∃ hi ≤ m, ∀ j < m, (P j ↔ j < hi) := by
  obtain ⟨lo, a, b⟩ := cut_up (P := fun j => ¬ P j) (m := m) (fun i j hij hj p q => p (h i j hij hj q))
  refine ⟨lo, a, fun j hj => ?_⟩
  have := b j hj
  constructor
  · intro p; by_contra c; exact (this.mpr (by omega)) p
  · intro l; by_contra c; have := this.mp c; omega

/-- An ascending half followed by a descending one. -/
theorem bitonic_of_halves {n : ℕ} {g : ℕ → α} (h1 : ∀ i j, i ≤ j → j < n → g i ≤ g j)
    (h2 : ∀ i j, i ≤ j → j < n → g (n + j) ≤ g (n + i)) : Bitonic (2 * n) g := fun U hU => by
  obtain ⟨lo, a, b⟩ := cut_up (P := fun j => U (g j)) (m := n) (fun i j hij hj => hU _ _ (h1 i j hij hj))
  obtain ⟨hi, c, d⟩ := cut_down (P := fun j => U (g (n + j))) (m := n) (fun i j hij hj => hU _ _ (h2 i j hij hj))
  refine ⟨lo, n + hi, by omega, by omega, .inl fun j hj => ?_⟩
  beta_reduce
  rcases Nat.lt_or_ge j n with l | l
  · rw [b j l]; omega
  · have := d (j - n) (by omega)
    rw [show n + (j - n) = j by omega] at this
    rw [this]; omega

section three
variable {m : ℕ} {lo hi fs : ℕ → α} (hlo : ∀ i j, i ≤ j → j < m → lo i ≤ lo j) (hhi : ∀ i j, i ≤ j → j < m → hi i ≤ hi j)
  (hfs : ∀ i j, i ≤ j → j < m → fs j ≤ fs i) (hlh : ∀ i j, i < m → j < m → lo i ≤ hi j)
include hlo hhi hfs hlh

/-- The least of the three at each position, where the first ascends below the second, which ascends, and the third descends. -/
theorem bitonic_least : Bitonic m (fun j => min (lo j) (min (hi j) (fs j))) := fun U hU => by
  obtain ⟨a, ha, ha'⟩ := cut_up (P := fun j => U (lo j)) (m := m) (fun i j hij hj => hU _ _ (hlo i j hij hj))
  obtain ⟨c, hc, hc'⟩ := cut_down (P := fun j => U (fs j)) (m := m) (fun i j hij hj => hU _ _ (hfs i j hij hj))
  have key : ∀ j < m, (U (min (lo j) (min (hi j) (fs j))) ↔ a ≤ j ∧ j < c) := fun j hj => by
    rw [hU.min, hU.min, ← ha' j hj, ← hc' j hj]
    have := hU _ _ (hlh j j hj hj)
    tauto
  rcases Nat.lt_or_ge a c with l | l
  · exact ⟨a, c, l.le, hc, .inl key⟩
  · exact ⟨0, 0, le_rfl, by omega, .inl fun j hj => (key j hj).trans (by omega)⟩

/-- The middle of the three. -/
theorem bitonic_middle : Bitonic m (fun j => max (lo j) (min (hi j) (fs j))) := fun U hU => by
  obtain ⟨a, ha, ha'⟩ := cut_up (P := fun j => U (lo j)) (m := m) (fun i j hij hj => hU _ _ (hlo i j hij hj))
  obtain ⟨b, hb, hb'⟩ := cut_up (P := fun j => U (hi j)) (m := m) (fun i j hij hj => hU _ _ (hhi i j hij hj))
  obtain ⟨c, hc, hc'⟩ := cut_down (P := fun j => U (fs j)) (m := m) (fun i j hij hj => hU _ _ (hfs i j hij hj))
  have key : ∀ j < m, (U (max (lo j) (min (hi j) (fs j))) ↔ a ≤ j ∨ (b ≤ j ∧ j < c)) := fun j hj => by
    rw [hU.max, hU.min, ← ha' j hj, ← hb' j hj, ← hc' j hj]
  rcases Nat.lt_or_ge a m with l | l
  · have hb0 : b = 0 := by
      have u := (ha' a l).mpr le_rfl
      have := (hb' 0 (by omega)).mp (hU _ _ (hlh a 0 l (by omega)) u)
      omega
    rcases Nat.lt_or_ge c a with h | h
    · exact ⟨c, a, h.le, ha, .inr fun j hj => (key j hj).trans (by omega)⟩
    · exact ⟨0, m, by omega, le_rfl, .inl fun j hj => (key j hj).trans (by omega)⟩
  · rcases Nat.lt_or_ge b c with h | h
    · exact ⟨b, c, h.le, hc, .inl fun j hj => (key j hj).trans (by omega)⟩
    · exact ⟨0, 0, le_rfl, by omega, .inl fun j hj => (key j hj).trans (by omega)⟩

omit hlo hlh in
/-- The greatest of the three. -/
theorem bitonic_greatest : Bitonic m (fun j => max (hi j) (fs j)) := fun U hU => by
  obtain ⟨b, hb, hb'⟩ := cut_up (P := fun j => U (hi j)) (m := m) (fun i j hij hj => hU _ _ (hhi i j hij hj))
  obtain ⟨c, hc, hc'⟩ := cut_down (P := fun j => U (fs j)) (m := m) (fun i j hij hj => hU _ _ (hfs i j hij hj))
  have key : ∀ j < m, (U (max (hi j) (fs j)) ↔ b ≤ j ∨ j < c) := fun j hj => by
    rw [hU.max, ← hb' j hj, ← hc' j hj]
  rcases Nat.lt_or_ge c b with h | h
  · exact ⟨c, b, h.le, hb, .inr fun j hj => (key j hj).trans (by omega)⟩
  · exact ⟨0, m, by omega, le_rfl, .inl fun j hj => (key j hj).trans (by omega)⟩

theorem least_le_middle {i j : ℕ} (hi' : i < m) (hj : j < m) :
    min (lo i) (min (hi i) (fs i)) ≤ max (lo j) (min (hi j) (fs j)) := by
  rcases Nat.le_total i j with h | h
  · exact (min_le_left _ _).trans ((hlo i j h hj).trans (le_max_left _ _))
  · exact (le_min ((min_le_left _ _).trans (hlh i j hi' hj))
      ((min_le_right _ _).trans ((min_le_right _ _).trans (hfs j i h hi')))).trans (le_max_right _ _)

theorem middle_le_greatest {i j : ℕ} (hi' : i < m) (hj : j < m) :
    max (lo i) (min (hi i) (fs i)) ≤ max (hi j) (fs j) := by
  refine max_le ((hlh i j hi' hj).trans (le_max_left _ _)) ?_
  rcases Nat.le_total i j with h | h
  · exact (min_le_left _ _).trans ((hhi i j h hj).trans (le_max_left _ _))
  · exact (min_le_right _ _).trans ((hfs j i h hi').trans (le_max_right _ _))

end three

/-! ## The sort -/

/-- Every block of `2 ^ p` positions is ascending where `asc` holds at its start and descending elsewhere. -/
def Blocks (p : ℕ) (asc : ℕ → Prop) (f : ℕ → α) : Prop :=
  ∀ k, (asc (2 ^ p * k) → ∀ i j, i ≤ j → j < 2 ^ p → f (2 ^ p * k + i) ≤ f (2 ^ p * k + j))
    ∧ (¬ asc (2 ^ p * k) → ∀ i j, i ≤ j → j < 2 ^ p → f (2 ^ p * k + j) ≤ f (2 ^ p * k + i))

/-- One level of the sort: from alternating blocks to blocks of twice the size. -/
theorem level {p : ℕ} {asc : ℕ → Prop} [DecidablePred asc] {f : ℕ → α} (h : Blocks p (fun i => i / 2 ^ p % 2 = 0) f)
    (hc : ∀ k, ∀ j < 2 ^ (p + 1), (asc (2 ^ (p + 1) * k + j) ↔ asc (2 ^ (p + 1) * k))) :
    Blocks (p + 1) asc (merge asc (p + 1) f) := by
  have e2 : 2 ^ (p + 1) = 2 * 2 ^ p := by rw [pow_succ]; ring
  have hp : 0 < 2 ^ p := Nat.two_pow_pos p
  intro k
  have b : Bitonic (2 ^ (p + 1)) (fun j => f (2 ^ (p + 1) * k + j)) := by
    rw [e2]
    refine bitonic_of_halves (fun i j hij hj => ?_) (fun i j hij hj => ?_)
    · have l := (low_iff (n := 2 ^ p) (k := k) (j := 0) (by omega)).mpr hp
      have := (h (2 * k)).1 (by rw [show 2 ^ p * (2 * k) = 2 * 2 ^ p * k + 0 by ring]; exact l) i j hij hj
      rwa [show 2 ^ p * (2 * k) = 2 * 2 ^ p * k by ring] at this
    · have l : ¬ (2 * 2 ^ p * k + 2 ^ p) / 2 ^ p % 2 = 0 := by rw [low_iff (by omega)]; omega
      have := (h (2 * k + 1)).2 (by rw [show 2 ^ p * (2 * k + 1) = 2 * 2 ^ p * k + 2 ^ p by ring]; exact l) i j hij hj
      rwa [show 2 ^ p * (2 * k + 1) = 2 * 2 ^ p * k + 2 ^ p by ring, Nat.add_assoc, Nat.add_assoc] at this
  exact ⟨fun a => merge_up (p + 1) f k (fun j hj => (hc k j hj).mpr a) b,
    fun a => merge_down (p + 1) f k (fun j hj => fun c => a ((hc k j hj).mp c)) b⟩

theorem blocks_zero (asc : ℕ → Prop) (f : ℕ → α) : Blocks 0 asc f := by
  intro k
  constructor <;> intro _ i j hij hj <;> obtain rfl : i = j := by rw [pow_zero] at hj; omega
  all_goals exact le_rfl

/-- Alternating directions are constant on blocks. -/
theorem alternate_const (p : ℕ) (k : ℕ) (j : ℕ) (hj : j < 2 ^ p) :
    ((2 ^ p * k + j) / 2 ^ p % 2 = 0 ↔ (2 ^ p * k) / 2 ^ p % 2 = 0) := by
  have hp : 0 < 2 ^ p := Nat.two_pow_pos p
  rw [Nat.mul_add_div hp, Nat.div_eq_of_lt hj, Nat.mul_div_cancel_left _ hp, Nat.add_zero]

/-- The bitonic sort of blocks of `2 ^ p` positions, alternately ascending and descending. -/
def sortAlt : ℕ → (ℕ → α) → ℕ → α
  | 0, f => f
  | p + 1, f => merge (fun i => i / 2 ^ (p + 1) % 2 = 0) (p + 1) (sortAlt p f)

theorem sortAlt_blocks (p : ℕ) (f : ℕ → α) : Blocks p (fun i => i / 2 ^ p % 2 = 0) (sortAlt p f) := by
  induction p with
  | zero => exact blocks_zero _ _
  | succ p ih => exact level ih (fun k j hj => alternate_const (p + 1) k j hj)

/-- The bitonic sort with a descending last level: 2 ^ (p + 1) positions end descending. -/
theorem sort_down (p : ℕ) (f : ℕ → α) (i j : ℕ) (hij : i ≤ j) (hj : j < 2 ^ (p + 1)) :
    merge (fun _ => False) (p + 1) (sortAlt p f) j ≤ merge (fun _ => False) (p + 1) (sortAlt p f) i := by
  have := ((level (asc := fun _ => False) (sortAlt_blocks p f) (fun _ _ _ => Iff.rfl)) 0).2 (by simp) i j hij hj
  simpa using this

/-! ## The same values -/

/-- The first `N` values of the two sequences are the same, each as often. -/
def Bag (N : ℕ) (f g : ℕ → α) : Prop := ∀ F : α → ℤ, ∑ i ∈ Finset.range N, F (f i) = ∑ i ∈ Finset.range N, F (g i)

omit [LinearOrder α] in
theorem Bag.trans {N : ℕ} {f g h : ℕ → α} (a : Bag N f g) (b : Bag N g h) : Bag N f h := fun F => (a F).trans (b F)

omit [LinearOrder α] in
theorem Bag.symm {N : ℕ} {f g : ℕ → α} (a : Bag N f g) : Bag N g f := fun F => (a F).symm

theorem stage_bag {n K : ℕ} (hn : 0 < n) (asc : ℕ → Prop) [DecidablePred asc]
    (hc : ∀ i, asc (mate n i) ↔ asc i) (f : ℕ → α) : Bag (2 * n * K) (stage n asc f) f := by
  intro F
  rw [← sub_eq_zero, ← Finset.sum_sub_distrib]
  have split : ∀ i < 2 * n * K, ∃ k < K, ∃ j < 2 * n, i = 2 * n * k + j := fun i hi =>
    ⟨i / (2 * n), Nat.div_lt_of_lt_mul hi, i % (2 * n), Nat.mod_lt _ (by omega), (Nat.div_add_mod i (2 * n)).symm⟩
  have bound : ∀ k < K, 2 * n * k + 2 * n ≤ 2 * n * K := fun k hk => by
    calc 2 * n * k + 2 * n = 2 * n * (k + 1) := by ring
      _ ≤ 2 * n * K := Nat.mul_le_mul_left _ hk
  have mm : ∀ i < 2 * n * K, mate n i < 2 * n * K ∧ mate n i ≠ i ∧ mate n (mate n i) = i
      ∧ (mate n i / n % 2 = 0 ↔ ¬ i / n % 2 = 0) := by
    intro i hi
    obtain ⟨k, hk, j, hj, rfl⟩ := split i hi
    have hb := bound k hk
    rcases Nat.lt_or_ge j n with l | l
    · have e : mate n (2 * n * k + j) = 2 * n * k + (j + n) := by
        unfold mate; rw [if_pos ((low_iff hj).mpr l), Nat.add_assoc]
      have c : ¬ (2 * n * k + (j + n)) / n % 2 = 0 := by rw [low_iff (by omega)]; omega
      have c' : (2 * n * k + j) / n % 2 = 0 := (low_iff hj).mpr l
      rw [e]
      refine ⟨by omega, by omega, ?_, by simp [c, c']⟩
      unfold mate; rw [if_neg c]; omega
    · have c' : ¬ (2 * n * k + j) / n % 2 = 0 := by rw [low_iff hj]; omega
      have e : mate n (2 * n * k + j) = 2 * n * k + (j - n) := by
        unfold mate; rw [if_neg c']; omega
      have c : (2 * n * k + (j - n)) / n % 2 = 0 := (low_iff (by omega)).mpr (by omega)
      rw [e]
      refine ⟨by omega, by omega, ?_, by simp [c, c']⟩
      unfold mate; rw [if_pos c]; omega
  refine Finset.sum_involution (fun i _ => mate n i) (fun i hi => ?_) (fun i hi _ => ?_) (fun i hi => ?_) (fun i hi => ?_)
  · obtain ⟨-, -, h3, h4⟩ := mm i (Finset.mem_range.mp hi)
    have a := hc i
    unfold stage
    rw [h3]
    by_cases c1 : i / n % 2 = 0 <;> by_cases c2 : asc i <;>
      simp only [h4, c1, c2, a, iff_true, iff_false, not_true, not_false_iff, if_true, if_false] <;>
      rcases le_total (f i) (f (mate n i)) with h | h <;> simp only [min_eq_left, min_eq_right, max_eq_left, max_eq_right, h] <;> ring
  · exact (mm i (Finset.mem_range.mp hi)).2.1
  · exact Finset.mem_range.mpr (mm i (Finset.mem_range.mp hi)).1
  · exact (mm i (Finset.mem_range.mp hi)).2.2.1

/-- Directions that are constant on blocks of twice the distance agree at the two positions of a pair. -/
theorem alternate_mate {n d : ℕ} (hn : 0 < n) (i : ℕ) : (mate n i / (2 * n * d) % 2 = 0 ↔ i / (2 * n * d) % 2 = 0) := by
  have h : mate n i / (2 * n) = i / (2 * n) := by
    obtain ⟨k, j, hj, rfl⟩ : ∃ k j, j < 2 * n ∧ i = 2 * n * k + j := ⟨i / (2 * n), i % (2 * n), Nat.mod_lt _ (by omega), (Nat.div_add_mod i (2 * n)).symm⟩
    have h2 : 0 < 2 * n := by omega
    unfold mate
    rcases Nat.lt_or_ge j n with l | l
    · rw [if_pos ((low_iff hj).mpr l), Nat.add_assoc, Nat.mul_add_div h2, Nat.mul_add_div h2, Nat.div_eq_of_lt hj,
        Nat.div_eq_of_lt (by omega)]
    · rw [if_neg (by rw [low_iff hj]; omega), show 2 * n * k + j - n = 2 * n * k + (j - n) by omega, Nat.mul_add_div h2,
        Nat.mul_add_div h2, Nat.div_eq_of_lt hj, Nat.div_eq_of_lt (by omega)]
  rw [← Nat.div_div_eq_div_mul, h, Nat.div_div_eq_div_mul]

theorem merge_bag (asc : ℕ → Prop) [DecidablePred asc] (p K : ℕ)
    (hc : ∀ q < p, ∀ i, asc (mate (2 ^ q) i) ↔ asc i) : ∀ f : ℕ → α, Bag (2 ^ p * K) (merge asc p f) f := by
  suffices ∀ q ≤ p, ∀ f : ℕ → α, Bag (2 ^ p * K) (merge asc q f) f from this p le_rfl
  intro q
  induction q with
  | zero => intro _ f F; rfl
  | succ q ih =>
    intro hq f
    refine (ih (by omega) _).trans ?_
    have := stage_bag (K := 2 ^ (p - (q + 1)) * K) (Nat.two_pow_pos q) asc (hc q (by omega)) f
    rwa [show 2 * 2 ^ q * (2 ^ (p - (q + 1)) * K) = 2 ^ p * K by
      rw [← Nat.mul_assoc, ← pow_succ', ← pow_add]; congr 2; omega] at this

theorem sortAlt_bag (p : ℕ) : ∀ (K : ℕ) (f : ℕ → α), Bag (2 ^ p * K) (sortAlt p f) f := by
  induction p with
  | zero => intro K f F; rfl
  | succ p ih =>
    intro K f
    refine (merge_bag _ (p + 1) K (fun q hq i => ?_) _).trans ?_
    · have := alternate_mate (n := 2 ^ q) (d := 2 ^ (p - q)) (Nat.two_pow_pos q) i
      rwa [show 2 * 2 ^ q * 2 ^ (p - q) = 2 ^ (p + 1) by rw [← pow_succ', ← pow_add]; congr 1; omega] at this
    · have := ih (2 * K) f
      rwa [← Nat.mul_assoc, ← pow_succ] at this

/-- Two ascending sequences with the same values are equal. -/
theorem eq_of_bag {N : ℕ} {f g : ℕ → α} (hf : ∀ i j, i ≤ j → j < N → f i ≤ f j) (hg : ∀ i j, i ≤ j → j < N → g i ≤ g j)
    (h : Bag N f g) (i : ℕ) (hi : i < N) : f i = g i := by
  have key : ∀ {f g : ℕ → α}, (∀ i j, i ≤ j → j < N → f i ≤ f j) → (∀ i j, i ≤ j → j < N → g i ≤ g j) → Bag N f g →
      ¬ f i < g i := by
    intro f g hf hg h lt
    have e := h (fun a => if a ≤ f i then 1 else 0)
    simp only [Finset.sum_boole] at e
    have c1 : Finset.range (i + 1) ⊆ (Finset.range N).filter (fun j => f j ≤ f i) := fun j hj => by
      rw [Finset.mem_range] at hj
      exact Finset.mem_filter.mpr ⟨Finset.mem_range.mpr (by omega), hf j i (by omega) hi⟩
    have c2 : (Finset.range N).filter (fun j => g j ≤ f i) ⊆ Finset.range i := fun j hj => by
      obtain ⟨h1, h2⟩ := Finset.mem_filter.mp hj
      rw [Finset.mem_range] at h1 ⊢
      by_contra c
      exact absurd (lt.trans_le (hg i j (by omega) h1)) (not_lt.mpr h2)
    have n1 := Finset.card_le_card c1
    have n2 := Finset.card_le_card c2
    rw [Finset.card_range] at n1 n2
    have : (Finset.card ((Finset.range N).filter (fun j => f j ≤ f i))) = Finset.card ((Finset.range N).filter (fun j => g j ≤ f i)) := by
      exact_mod_cast e
    omega
  exact le_antisymm (not_lt.mp (key hg hf h.symm)) (not_lt.mp (key hf hg h))

/-! ## Two ascending halves and one descending sequence, merged -/

/-- The least, middle and greatest of the three sequences, one after another. -/
def three (m : ℕ) (lo hi fs : ℕ → α) (i : ℕ) : α :=
  if i < m then min (lo i) (min (hi i) (fs i))
  else if i < 2 * m then max (lo (i - m)) (min (hi (i - m)) (fs (i - m)))
  else max (hi (i - 2 * m)) (fs (i - 2 * m))

theorem three_least {m : ℕ} (lo hi fs : ℕ → α) {j : ℕ} (hj : j < m) :
    three m lo hi fs (m * 0 + j) = min (lo j) (min (hi j) (fs j)) := by
  unfold three
  rw [Nat.mul_zero, Nat.zero_add, if_pos hj]

theorem three_middle {m : ℕ} (lo hi fs : ℕ → α) {j : ℕ} (hj : j < m) :
    three m lo hi fs (m * 1 + j) = max (lo j) (min (hi j) (fs j)) := by
  unfold three
  rw [if_neg (by omega), if_pos (by omega), show m * 1 + j - m = j by omega]

theorem three_greatest {m : ℕ} (lo hi fs : ℕ → α) {j : ℕ} : three m lo hi fs (m * 2 + j) = max (hi j) (fs j) := by
  unfold three
  rw [if_neg (by omega), if_neg (by omega), show m * 2 + j - 2 * m = j by omega]

theorem Bitonic.congr {m : ℕ} {f g : ℕ → α} (h : Bitonic m f) (e : ∀ j < m, f j = g j) : Bitonic m g :=
  fun U hU => run_congr (fun j hj => by rw [e j hj]) (h U hU)

theorem three_sorted {p : ℕ} {lo hi fs : ℕ → α} (hlo : ∀ i j, i ≤ j → j < 2 ^ p → lo i ≤ lo j)
    (hhi : ∀ i j, i ≤ j → j < 2 ^ p → hi i ≤ hi j) (hfs : ∀ i j, i ≤ j → j < 2 ^ p → fs j ≤ fs i)
    (hlh : ∀ i j, i < 2 ^ p → j < 2 ^ p → lo i ≤ hi j) (i j : ℕ) (hij : i ≤ j) (hj : j < 2 ^ p * 3) :
    merge (fun _ => True) p (three (2 ^ p) lo hi fs) i ≤ merge (fun _ => True) p (three (2 ^ p) lo hi fs) j := by
  have hp : 0 < 2 ^ p := Nat.two_pow_pos p
  have within : ∀ k < 3, ∀ i j, i ≤ j → j < 2 ^ p →
      merge (fun _ => True) p (three (2 ^ p) lo hi fs) (2 ^ p * k + i)
        ≤ merge (fun _ => True) p (three (2 ^ p) lo hi fs) (2 ^ p * k + j) := by
    intro k hk
    refine merge_up p _ k (fun _ _ => trivial) ?_
    obtain rfl | rfl | rfl : k = 0 ∨ k = 1 ∨ k = 2 := by omega
    · exact (bitonic_least hlo hhi hfs hlh).congr fun j hj => (three_least lo hi fs hj).symm
    · exact (bitonic_middle hlo hhi hfs hlh).congr fun j hj => (three_middle lo hi fs hj).symm
    · exact (bitonic_greatest hhi hfs).congr fun j hj => (three_greatest lo hi fs).symm
  have low : ∀ (i' j' : ℕ), i' < 2 ^ p → j' < 2 ^ p →
      merge (fun _ => True) p (three (2 ^ p) lo hi fs) (2 ^ p * 0 + i')
        ≤ merge (fun _ => True) p (three (2 ^ p) lo hi fs) (2 ^ p * 1 + j') := by
    intro i' j' hi' hj'
    refine merge_all (fun x => x ≤ _) p _ 0 ?_ i' hi'
    intro a ha
    refine merge_all (fun x => _ ≤ x) p _ 1 ?_ j' hj'
    intro b hb
    rw [three_least _ _ _ ha, three_middle _ _ _ hb]
    exact least_le_middle hlo hhi hfs hlh ha hb
  have high : ∀ (i' j' : ℕ), i' < 2 ^ p → j' < 2 ^ p →
      merge (fun _ => True) p (three (2 ^ p) lo hi fs) (2 ^ p * 1 + i')
        ≤ merge (fun _ => True) p (three (2 ^ p) lo hi fs) (2 ^ p * 2 + j') := by
    intro i' j' hi' hj'
    refine merge_all (fun x => x ≤ _) p _ 1 ?_ i' hi'
    intro a ha
    refine merge_all (fun x => _ ≤ x) p _ 2 ?_ j' hj'
    intro b hb
    rw [three_middle _ _ _ ha, three_greatest]
    exact middle_le_greatest hlo hhi hfs hlh ha hb
  obtain ⟨k, a, ha, rfl⟩ : ∃ k a, a < 2 ^ p ∧ i = 2 ^ p * k + a :=
    ⟨i / 2 ^ p, i % 2 ^ p, Nat.mod_lt _ hp, (Nat.div_add_mod i (2 ^ p)).symm⟩
  obtain ⟨l, b, hb, rfl⟩ : ∃ k a, a < 2 ^ p ∧ j = 2 ^ p * k + a :=
    ⟨j / 2 ^ p, j % 2 ^ p, Nat.mod_lt _ hp, (Nat.div_add_mod j (2 ^ p)).symm⟩
  have hl : l < 3 := by
    by_contra hc
    have := Nat.mul_le_mul_left (2 ^ p) (Nat.le_of_not_lt hc)
    omega
  have hkl : k ≤ l := by
    by_contra hc
    have := Nat.mul_le_mul_left (2 ^ p) (Nat.lt_of_not_le hc)
    rw [Nat.succ_eq_add_one, Nat.mul_add] at this
    omega
  rcases Nat.eq_or_lt_of_le hkl with rfl | hlt
  · exact within k hl a b (by omega) hb
  · obtain ⟨rfl, rfl⟩ | ⟨rfl, rfl⟩ | ⟨rfl, rfl⟩ : (k = 0 ∧ l = 1) ∨ (k = 1 ∧ l = 2) ∨ (k = 0 ∧ l = 2) := by omega
    · exact low a b ha hb
    · exact high a b ha hb
    · exact (low a 0 ha hp).trans (high 0 b hp hb)

theorem three_sum (m : ℕ) (lo hi fs : ℕ → α) (F : α → ℤ) :
    ∑ i ∈ Finset.range (m * 3), F (three m lo hi fs i)
      = ∑ i ∈ Finset.range m, F (lo i) + ∑ i ∈ Finset.range m, F (hi i) + ∑ i ∈ Finset.range m, F (fs i) := by
  have pair : ∀ a b : α, F (min a b) + F (max a b) = F a + F b := by
    intro a b
    rcases le_total a b with h | h
    · rw [min_eq_left h, max_eq_right h]
    · rw [min_eq_right h, max_eq_left h, add_comm]
  rw [show m * 3 = m + m + m by ring, Finset.sum_range_add, Finset.sum_range_add, ← Finset.sum_add_distrib,
    ← Finset.sum_add_distrib, ← Finset.sum_add_distrib, ← Finset.sum_add_distrib]
  refine Finset.sum_congr rfl fun j hj => ?_
  have hj := Finset.mem_range.mp hj
  have e0 := three_least lo hi fs hj
  have e1 := three_middle lo hi fs hj
  have e2 := three_greatest (m := m) lo hi fs (j := j)
  rw [show m * 0 + j = j by ring] at e0
  rw [show m * 1 + j = m + j by ring] at e1
  rw [show m * 2 + j = m + m + j by ring] at e2
  rw [e0, e1, e2]
  have := pair (lo j) (min (hi j) (fs j))
  have := pair (hi j) (fs j)
  linarith

end Cert.Proof.Network

end
-- ==== Proof.Column.lean ====
/-
  A vector of rows and columns read column by column, and the kernel's compare-exchange stage on it: the printed
  expression (two rolls, a select between them by the row's bit, the minimum and the maximum with that partner, and a
  select by the direction) is one `Network.stage` of every column.
-/
module

public import proofs.«01_k».proof.Proof.Network
public import Mathlib.Data.Nat.Bitwise
public import Idealize.ShloMosaic.PureOps.Ideal.Laws
public import Idealize.ShloMosaic.Lib.Pipeline.Value
public import Idealize.ShloMosaic.Lib.Pointwise

@[expose] public section

namespace Cert.Proof.Column

open Idealize.ShloMosaic Idealize.SL.Sem

/-- Vectors of `N` rows and `W` columns. -/
abbrev Grid (N W : ℕ) : Shape := ⟨2, ![N, W]⟩

variable {N W : ℕ}

/-- Column `c` of a vector as a sequence, zero below the last row. -/
noncomputable def col (v : (Grid N W).Idx → EReal) (c : Fin W) : ℕ → EReal :=
  fun i => if h : i < N then v (ix2 ⟨i, h⟩ c) else 0

theorem col_of_lt (v : (Grid N W).Idx → EReal) (c : Fin W) {i : ℕ} (h : i < N) : col v c i = v (ix2 ⟨i, h⟩ c) := by
  simp [col, h]

theorem slices_rows {a o : ℕ} (h : o + a ≤ N) : (Grid N W).Slices ![o, 0] (Grid a W) :=
  ⟨rfl, fun k => by
    match k with
    | ⟨0, _⟩ => exact h
    | ⟨1, _⟩ => exact Nat.le_of_eq (Nat.zero_add W)⟩

theorem concatenates_rows {a b : ℕ} (h : a + b = N) : Shape.Concatenates [Grid a W, Grid b W] (Grid N W) 0 := by
  refine ⟨le_refl _, ?_, ?_⟩
  · intro s hs
    simp only [List.mem_cons, List.not_mem_nil, or_false] at hs
    rcases hs with rfl | rfl
    all_goals
      refine ⟨rfl, fun k hk => ?_⟩
      match k, hk with
      | ⟨1, _⟩, _ => rfl
  · simp [h]

/-- Rows `a …` followed by rows `0 … a - 1`. -/
def roll (a b : ℕ) (h : a + b = N) (v : (Grid N W).Idx → EReal) : (Grid N W).Idx → EReal :=
  concatenate (Grid N W) 0
    [⟨Grid b W, extractStridedSlice (Grid b W) ![a, 0] v (slices_rows (by omega))⟩,
     ⟨Grid a W, extractStridedSlice (Grid a W) ![0, 0] v (slices_rows (by omega))⟩]
    (concatenates_rows (by omega))

theorem roll_low (a b : ℕ) (h : a + b = N) (v : (Grid N W).Idx → EReal) (c : Fin W) {i : ℕ} (hi : i < b) :
    roll a b h v (ix2 ⟨i, by omega⟩ c) = col v c (i + a) := by
  rw [col_of_lt _ _ (by omega : i + a < N)]
  unfold roll
  rw [concatenate_pair_apply_left (t := Grid N W) (s₁ := Grid b W) (s₂ := Grid a W) _ _ _ _ _ rfl (ix2 ⟨i, hi⟩ c)]
  · apply extractStridedSlice_apply
    intro k
    match k with
    | ⟨0, _⟩ => exact Nat.add_comm _ _
    | ⟨1, _⟩ => exact (Nat.zero_add _).symm
  · intro k
    match k with
    | ⟨0, _⟩ => rfl
    | ⟨1, _⟩ => rfl

theorem roll_high (a b : ℕ) (h : a + b = N) (v : (Grid N W).Idx → EReal) (c : Fin W) {i : ℕ} (hb : b ≤ i) (hi : i < N) :
    roll a b h v (ix2 ⟨i, hi⟩ c) = col v c (i - b) := by
  rw [col_of_lt _ _ (by omega : i - b < N)]
  unfold roll
  rw [concatenate_pair_apply_right (t := Grid N W) (s₁ := Grid b W) (s₂ := Grid a W) _ _ _ _ _ rfl rfl (ix2 ⟨i - b, by omega⟩ c)]
  · apply extractStridedSlice_apply
    intro k
    match k with
    | ⟨0, _⟩ => exact (Nat.zero_add _).symm
    | ⟨1, _⟩ => exact (Nat.zero_add _).symm
  · intro k hk
    match k, hk with
    | ⟨0, _⟩, hk => exact absurd rfl hk
    | ⟨1, _⟩, _ => rfl
  · exact Nat.sub_add_cancel hb

/-- The rows whose number has the bit `n` clear. -/
def clear (n : ℕ) (h : (Grid N W).Iotas .tc 32 [0]) : IVec (Grid N W) 1 :=
  cmpi .eq (andi (iota .tc (Grid N W) 32 [0] h) (broadcast (Grid N W) (BitVec.ofNat 32 n)))
    (broadcast (Grid N W) 0#32)

theorem and_bit (p i : ℕ) (hp : p < 32) (hi : i < 2 ^ 32) :
    BitVec.ofNat 32 i &&& BitVec.ofNat 32 (2 ^ p) = 0#32 ↔ i / 2 ^ p % 2 = 0 := by
  have h2 : 2 ^ p < 2 ^ 32 := Nat.pow_lt_pow_right (by omega) hp
  rw [← BitVec.toNat_inj]
  simp only [BitVec.toNat_and, BitVec.toNat_ofNat, Nat.mod_eq_of_lt hi, Nat.mod_eq_of_lt h2, Nat.and_two_pow,
    Nat.testBit_eq_decide_div_mod_eq, Nat.zero_mod]
  have := Nat.mod_two_eq_zero_or_one (i / 2 ^ p)
  have hpos : 2 ^ p ≠ 0 := by positivity
  rcases this with h | h <;> simp [h]

theorem clear_iff (p : ℕ) (h : (Grid N W).Iotas .tc 32 [0]) (hp : p < 32) (hN : N ≤ 2 ^ 32) (i : Fin N) (c : Fin W) :
    clear (2 ^ p) h (ix2 i c) = 1#1 ↔ (i : ℕ) / 2 ^ p % 2 = 0 := by
  rw [← and_bit p i hp (lt_of_lt_of_le i.isLt hN)]
  have e : clear (2 ^ p) h (ix2 i c)
      = if BitVec.ofNat 32 (0 * N + i) &&& BitVec.ofNat 32 (2 ^ p) = 0#32 then 1#1 else 0#1 := by
    unfold clear
    rw [cmpi_apply]
    change Scalar.cmpi .eq (BitVec.ofNat 32 (0 * N + i) &&& BitVec.ofNat 32 (2 ^ p)) (0#32) = _
    simp only [Scalar.cmpi, IntOp.cmpi]
    split <;> rename_i hz
    · rw [hz]; rfl
    · rw [beq_eq_false_iff_ne.mpr hz]; rfl
  rw [e, Nat.zero_mul, Nat.zero_add]
  split <;> simp_all

theorem room {n M i : ℕ} (hn : 0 < n) (hM : 2 * n ∣ M) (hi : i < M) (h : i / n % 2 = 0) : i + n < M := by
  obtain ⟨K, rfl⟩ := hM
  obtain ⟨r, hr⟩ : ∃ r, i / n = 2 * r := ⟨i / n / 2, by omega⟩
  have hdiv := Nat.div_add_mod i n
  have hlt := Nat.mod_lt i hn
  rw [hr] at hdiv
  have hrK : r < K := by
    by_contra hc
    have : 2 * n * K ≤ 2 * n * r := Nat.mul_le_mul_left _ (by omega)
    have e : n * (2 * r) = 2 * n * r := by ring
    rw [e] at hdiv
    exact absurd (lt_of_lt_of_le hi this) (by rw [not_lt, ← hdiv]; exact Nat.le_add_right _ _)
  have : 2 * n * (r + 1) ≤ 2 * n * K := Nat.mul_le_mul_left _ hrK
  nlinarith

/-- The printed compare-exchange at distance `a`, with the rows' bit mask and the direction mask. -/
noncomputable def exchange (a b : ℕ) (h : a + b = N) (h' : b + a = N) (low dir : IVec (Grid N W) 1) (v : FVec Ideal (Grid N W) .bf16) :
    FVec Ideal (Grid N W) .bf16 :=
  select (xori (xori low dir) (constantI (Grid N W) 1 1#1))
    (minimumf v (select low (roll a b h v) (roll b a h' v))) (maximumf v (select low (roll a b h v) (roll b a h' v)))

theorem exchange_apply (p b : ℕ) (h : 2 ^ p + b = N) (h' : b + 2 ^ p = N) (hN : 2 * 2 ^ p ∣ N) (low dir : IVec (Grid N W) 1)
    (v : FVec Ideal (Grid N W) .bf16) (asc : ℕ → Prop) [DecidablePred asc]
    (hlow : ∀ (i : Fin N) (c : Fin W), low (ix2 i c) = 1#1 ↔ (i : ℕ) / 2 ^ p % 2 = 0)
    (hdir : ∀ (i : Fin N) (c : Fin W), dir (ix2 i c) = 1#1 ↔ asc i) (i : Fin N) (c : Fin W) :
    exchange (2 ^ p) b h h' low dir v (ix2 i c) = Network.stage (2 ^ p) asc (col v c) i := by
  have hl := hlow i c
  have hd := hdir i c
  have e : exchange (2 ^ p) b h h' low dir v (ix2 i c)
      = if (low (ix2 i c) ^^^ dir (ix2 i c)) ^^^ 1#1 = 1#1
        then min (v (ix2 i c)) (if low (ix2 i c) = 1#1 then roll (2 ^ p) b h v (ix2 i c) else roll b (2 ^ p) h' v (ix2 i c))
        else max (v (ix2 i c)) (if low (ix2 i c) = 1#1 then roll (2 ^ p) b h v (ix2 i c) else roll b (2 ^ p) h' v (ix2 i c)) := by
    unfold exchange
    rfl
  have hm : (if low (ix2 i c) = 1#1 then roll (2 ^ p) b h v (ix2 i c) else roll b (2 ^ p) h' v (ix2 i c))
      = col v c (Network.mate (2 ^ p) i) := by
    unfold Network.mate
    have hpos : 0 < 2 ^ p := by positivity
    by_cases hi : (i : ℕ) / 2 ^ p % 2 = 0
    · rw [if_pos (hl.mpr hi), if_pos hi]
      have := room hpos hN i.isLt hi
      have : (i : ℕ) < b := by omega
      exact roll_low (2 ^ p) b h v c this
    · rw [if_neg (fun h => hi (hl.mp h)), if_neg hi]
      have : 2 ^ p ≤ (i : ℕ) := by
        by_contra hc
        exact hi (by rw [Nat.div_eq_of_lt (by omega)])
      exact roll_high b (2 ^ p) h' v c this i.isLt
  rw [e, hm]
  unfold Network.stage
  rw [col_of_lt v c i.isLt]
  have key : ((low (ix2 i c) ^^^ dir (ix2 i c)) ^^^ 1#1 = 1#1) ↔ ((i : ℕ) / 2 ^ p % 2 = 0 ↔ asc i) := by
    rw [← hl, ← hd]
    generalize low (ix2 i c) = x
    generalize dir (ix2 i c) = y
    revert x y
    decide
  by_cases hk : ((i : ℕ) / 2 ^ p % 2 = 0 ↔ asc i)
  · rw [if_pos (key.mpr hk), if_pos hk]
  · rw [if_neg (fun h => hk (key.mp h)), if_neg hk]

theorem stage_congr {n : ℕ} (asc : ℕ → Prop) [DecidablePred asc] {M : ℕ} (hn : 0 < n) (hM : 2 * n ∣ M) {f g : ℕ → EReal}
    (hfg : ∀ i < M, f i = g i) : ∀ i < M, Network.stage n asc f i = Network.stage n asc g i := by
  intro i hi
  have hm : Network.mate n i < M := by
    unfold Network.mate
    split
    · rename_i h; exact room hn hM hi h
    · omega
  unfold Network.stage
  rw [hfg i hi, hfg _ hm]

/-- What a column holds after a stage, on the rows there are. -/
theorem col_exchange (p b : ℕ) (h : 2 ^ p + b = N) (h' : b + 2 ^ p = N) (hN : 2 * 2 ^ p ∣ N) (low dir : IVec (Grid N W) 1)
    (v : FVec Ideal (Grid N W) .bf16) (asc : ℕ → Prop) [DecidablePred asc] (f : ℕ → EReal) (c : Fin W)
    (hlow : ∀ (i : Fin N) (c : Fin W), low (ix2 i c) = 1#1 ↔ (i : ℕ) / 2 ^ p % 2 = 0)
    (hdir : ∀ (i : Fin N) (c : Fin W), dir (ix2 i c) = 1#1 ↔ asc i)
    (hf : ∀ i < N, col v c i = f i) :
    ∀ i < N, col (exchange (2 ^ p) b h h' low dir v) c i = Network.stage (2 ^ p) asc f i := by
  intro i hi
  rw [col_of_lt _ _ hi, exchange_apply p b h h' hN low dir v asc hlow hdir ⟨i, hi⟩ c]
  exact stage_congr asc (by positivity) hN hf i hi

/-- The stages at distances `2 ^ (p - 1)`, …, 2, 1 of a vector. -/
noncomputable def mergeRows (h : (Grid N W).Iotas .tc 32 [0]) (dir : IVec (Grid N W) 1) :
    ℕ → FVec Ideal (Grid N W) .bf16 → FVec Ideal (Grid N W) .bf16
  | 0, v => v
  | p + 1, v => mergeRows h dir p
      (if hp : 2 ^ p ≤ N then
        exchange (2 ^ p) (N - 2 ^ p) (by omega) (by omega) (clear (2 ^ p) h) dir v
      else v)

theorem col_mergeRows (h : (Grid N W).Iotas .tc 32 [0]) (hN : N ≤ 2 ^ 32) (hpos : 0 < N) (dir : IVec (Grid N W) 1)
    (asc : ℕ → Prop) [DecidablePred asc] (hdir : ∀ (i : Fin N) (c : Fin W), dir (ix2 i c) = 1#1 ↔ asc i) (c : Fin W)
    (p : ℕ) (hp : 2 ^ p ∣ N) (hp32 : p ≤ 32) (v : FVec Ideal (Grid N W) .bf16) (f : ℕ → EReal) (hf : ∀ i < N, col v c i = f i) :
    ∀ i < N, col (mergeRows h dir p v) c i = Network.merge asc p f i := by
  induction p generalizing v f with
  | zero => exact hf
  | succ p ih =>
    have hd : 2 * 2 ^ p ∣ N := by rw [← pow_succ']; exact hp
    have hle : 2 ^ p ≤ N := by have := Nat.le_of_dvd hpos hd; omega
    unfold mergeRows Network.merge
    rw [dif_pos hle]
    exact ih (dvd_trans (dvd_mul_left _ _) hd) (by omega) _ _
      (col_exchange p _ _ _ hd _ _ v asc f c (clear_iff p h (by omega) hN) hdir hf)

/-- Levels of merges whose directions alternate by blocks of `2 ^ p` rows. -/
noncomputable def sortRows (h : (Grid N W).Iotas .tc 32 [0]) : ℕ → FVec Ideal (Grid N W) .bf16 → FVec Ideal (Grid N W) .bf16
  | 0, v => v
  | p + 1, v => mergeRows h (clear (2 ^ (p + 1)) h) (p + 1) (sortRows h p v)

theorem col_sortRows (h : (Grid N W).Iotas .tc 32 [0]) (hN : N ≤ 2 ^ 32) (hpos : 0 < N) (c : Fin W)
    (v : FVec Ideal (Grid N W) .bf16) (p : ℕ) (hp : 2 ^ p ∣ N) (hp32 : p < 32) :
    ∀ i < N, col (sortRows h p v) c i = Network.sortAlt p (col v c) i := by
  induction p with
  | zero => intro i _; rfl
  | succ p ih =>
    unfold sortRows Network.sortAlt
    exact col_mergeRows h hN hpos _ (fun i => i / 2 ^ (p + 1) % 2 = 0) (clear_iff (p + 1) h hp32 hN) c (p + 1) hp (by omega) _ _
      (ih (dvd_trans (pow_dvd_pow 2 (by omega)) hp) (by omega))

end Cert.Proof.Column
-- ==== Proof.Body.lean ====
/-
  The kernel body as a few readable vectors: the prefix sums, the counts, the drawn depths, their sort, and the merge
  with the coarse depths.
-/
module

public import proofs.«01_k».proof.Proof.Column
public import proofs.«01_k».proof.Proof.Gen.KernelIdeal.Frame

@[expose] public section

namespace Cert.Proof.Body

open Idealize.ShloMosaic Idealize.SL.Sem Cert.KernelIdeal Cert.KernelIdeal.Gen Column

/-- One more row of prefix sums compared with the scaled draws. -/
noncomputable def step (k : ℕ) (hk : k < 128) (cs : FVec Ideal S128x512 .f32) (ut x : FVec Ideal S64x512 .f32) : FVec Ideal S64x512 .f32 :=
  addf x (sitofp .f32 (extui 32 (cmpf .ole (broadcastTo S64x512
    (extractStridedSlice S1x512 ![k, 0] cs (slices_rows (by omega))) broadcasts_S1x512_S64x512) ut) natLt_1_32))

/-- The first `n` comparisons added up. -/
noncomputable def count (cs : FVec Ideal S128x512 .f32) (ut : FVec Ideal S64x512 .f32) : (n : ℕ) → n ≤ 128 → FVec Ideal S64x512 .f32
  | 0, _ => broadcast S64x512 (Scalar.ofBits .f32 0x00000000#32 : Ideal .f32)
  | n + 1, h => step n h cs ut (count cs ut n (Nat.le_of_succ_le h))

/-- The drawn depths before they are sorted. -/
noncomputable def fine (x1 : Vec Ideal S512x128 .f32) (x3 : Vec Ideal S64x512 .f32) (x4 : Vec Ideal S64x512 .bf16) : FVec Ideal S64x512 .bf16 :=
  mulf (addf (truncf .bf16 (count (k0_pay1 x1) (k0_pay2 x1 x3) 128 (Nat.le_refl _)) bitsLt_bf16_f32)
    (shapeCast S64x512 x4 shapeCasts_S64x512_S64x512)) (broadcast S64x512 (Scalar.ofBits .bf16 0x3C00#16 : Ideal .bf16))

/-- The direction mask of the last level, which holds nowhere. -/
def nowhere : IVec S64x512 1 :=
  cmpi .ne (andi (iota .tc S64x512 32 [0] iota_S64x512_d0_w32) (broadcast S64x512 64#32)) (broadcast S64x512 0#32)

noncomputable def fineSorted (x1 : Vec Ideal S512x128 .f32) (x3 : Vec Ideal S64x512 .f32) (x4 : Vec Ideal S64x512 .bf16) : FVec Ideal S64x512 .bf16 :=
  mergeRows iota_S64x512_d0_w32 nowhere 6 (sortRows iota_S64x512_d0_w32 5 (fine x1 x3 x4))

def everywhere : IVec S192x512 1 := broadcastTo S192x512 (broadcast S192x512 1#1) broadcasts_S192x512_S192x512

/-- The three runs set under one another. -/
noncomputable def runs (lo hi fs : FVec Ideal S64x512 .bf16) : FVec Ideal S192x512 .bf16 :=
  concatenate S192x512 0 [⟨S64x512, minimumf lo (minimumf hi fs)⟩, ⟨S64x512, maximumf lo (minimumf hi fs)⟩,
    ⟨S64x512, maximumf hi fs⟩] concatenates_S64x512_S64x512_S64x512_S192x512_d0

noncomputable def depths (x1 : Vec Ideal S512x128 .f32) (x2 : Vec Ideal S128x512 .bf16) (x3 : Vec Ideal S64x512 .f32)
    (x4 : Vec Ideal S64x512 .bf16) : FVec Ideal S192x512 .bf16 :=
  mergeRows iota_S192x512_d0_w32 everywhere 6 (runs (k0_pay65 x2) (k0_pay66 x2) (fineSorted x1 x3 x4))

/-- What one grid point stores, of the blocks it read. -/
noncomputable def stored (x1 : Vec Ideal S512x128 .f32) (x2 : Vec Ideal S128x512 .bf16) (x3 : Vec Ideal S64x512 .f32)
    (x4 : Vec Ideal S64x512 .bf16) (near span : Vec Ideal S1x512 .f32) : FVec Ideal S192x512 .f32 :=
  addf (broadcastTo S192x512 (shapeCast S1x512 near shapeCasts_S1x512_S1x512) broadcasts_S1x512_S192x512)
    (mulf (extf .f32 (depths x1 x2 x3 x4) bitsLt_bf16_f32)
      (broadcastTo S192x512 (shapeCast S1x512 span shapeCasts_S1x512_S1x512) broadcasts_S1x512_S192x512))

theorem out_eq (x0 : Vec Ideal S8x512 .f32) (x1 : Vec Ideal S512x128 .f32) (x2 : Vec Ideal S128x512 .bf16) (x3 : Vec Ideal S64x512 .f32)
    (x4 : Vec Ideal S64x512 .bf16) :
    out0_5 x0 x1 x2 x3 x4 = View.canon [⟨r0_5, stored (View.ld x1 r0_0) (View.ld x2 r0_2) (View.ld x3 r0_1) (View.ld x4 r0_1)
      (View.ld x0 r0_3) (View.ld x0 r0_4)⟩] := by
  rfl

end Cert.Proof.Body
-- ==== Proof.Depths.lean ====
/-
  The kernel body's vectors read column by column: the prefix sums are sums, the counts are counts, and the merged
  depths of a column ascend and are the coarse and the drawn depths, each as often as it occurs there.
-/
module

public import proofs.«01_k».proof.Proof.Body
public import Idealize.ShloMosaic.Lib.IdealHost

@[expose] public section

namespace Cert.Proof.Body

open Idealize.ShloMosaic Idealize.SL.Sem Cert.KernelIdeal Cert.KernelIdeal.Gen Column

theorem ofBits_128th : Ideal.ofBits .bf16 0x3C00#16 = (((1 : ℝ) / 128 : ℝ) : EReal) := by
  simp [Ideal.ofBits, Ideal.ieee, -EReal.coe_mul]; norm_num

theorem toInt_ofNat {i : ℕ} (h : i < 2 ^ 31) : (BitVec.ofNat 32 i).toInt = i := by
  rw [BitVec.toInt_eq_toNat_of_lt (by rw [BitVec.toNat_ofNat]; omega), BitVec.toNat_ofNat, Nat.mod_eq_of_lt (by omega)]

theorem sitofp_ofNat (φ : FTy) {i : ℕ} (h : i < 2 ^ 31) :
    (FloatOps.sitofp φ (BitVec.ofNat 32 i) : Ideal φ) = (((i : ℝ)) : EReal) := by
  change (((BitVec.ofNat 32 i).toInt : ℝ) : EReal) = _
  rw [toInt_ofNat h]
  simp

theorem sitofp_bit (φ : FTy) (b : Bool) :
    (FloatOps.sitofp φ (BitVec.setWidth 32 (BitVec.ofBool b)) : Ideal φ) = if b = true then (1 : EReal) else 0 := by
  change ((((BitVec.setWidth 32 (BitVec.ofBool b)).toInt : ℝ)) : EReal) = _
  cases b <;> simp

/-- The coarse depth of a row. -/
theorem coarse_apply (x2 : Vec Ideal S128x512 .bf16) (i : Fin 128) (c : Fin 512) :
    k0_pay64 x2 (ix2 i c) = ((((i : ℕ) : ℝ) : EReal) + x2 (ix2 i c)) * (((1 : ℝ) / 128 : ℝ) : EReal) := by
  unfold k0_pay64
  dsimp only
  pointwise
  rw [sitofp_ofNat _ (by omega), ofBits_128th]

theorem prefix_apply (x1 : Vec Ideal S512x128 .f32) (i : Fin 128) (c : Fin 512) :
    k0_pay1 x1 (ix2 i c) = ∑ k : Fin 128, if (k : ℕ) ≤ i then x1 (ix2 c k) + Ideal.ofBits .f32 0x3727C5AC#32 else 0 := by
  unfold k0_pay1
  dsimp only
  pointwise
  refine Finset.sum_congr rfl fun k _ => ?_
  have e : IntOp.cmpi CmpIPredicate.sle (BitVec.ofNat 32 (k : ℕ)) (BitVec.ofNat 32 (i : ℕ)) = BitVec.ofBool (decide ((k : ℕ) ≤ i)) := by
    simp only [IntOp.cmpi, BitVec.sle, toInt_ofNat (show (k : ℕ) < 2 ^ 31 by omega), toInt_ofNat (show (i : ℕ) < 2 ^ 31 by omega),
      Int.ofNat_le]
  rw [e, sitofp_bit]
  by_cases h : (k : ℕ) ≤ i <;> simp [h]

theorem step_apply (k : ℕ) (hk : k < 128) (cs : FVec Ideal S128x512 .f32) (ut x : FVec Ideal S64x512 .f32) (i : Fin 64) (c : Fin 512) :
    step k hk cs ut x (ix2 i c) = x (ix2 i c) + if cs (ix2 ⟨k, hk⟩ c) ≤ ut (ix2 i c) then 1 else 0 := by
  unfold step
  pointwise
  rw [sitofp_bit]
  simp

/-- How many of the first `n` prefix sums lie at or below a scaled draw. -/
theorem count_apply (cs : FVec Ideal S128x512 .f32) (ut : FVec Ideal S64x512 .f32) (n : ℕ) (hn : n ≤ 128) (i : Fin 64) (c : Fin 512) :
    count cs ut n hn (ix2 i c)
      = ((((Finset.range n).filter (fun k => col cs c k ≤ ut (ix2 i c))).card : ℝ) : EReal) := by
  induction n with
  | zero =>
    change Ideal.ofBits .f32 0x00000000#32 = _
    simp
  | succ n ih =>
    change step n hn cs ut (count cs ut n (Nat.le_of_succ_le hn)) (ix2 i c) = _
    rw [step_apply, ih, Finset.range_add_one, Finset.filter_insert, col_of_lt cs c (by omega : n < 128)]
    split
    · rw [Finset.card_insert_of_notMem (by simp)]
      push_cast
      rfl
    · simp

theorem pay2_apply (x1 : Vec Ideal S512x128 .f32) (x3 : Vec Ideal S64x512 .f32) (i : Fin 64) (c : Fin 512) :
    k0_pay2 x1 x3 (ix2 i c) = x3 (ix2 i c) * k0_pay1 x1 (ix2 127 c) := by
  unfold k0_pay2
  pointwise

theorem fine_apply (x1 : Vec Ideal S512x128 .f32) (x3 : Vec Ideal S64x512 .f32) (x4 : Vec Ideal S64x512 .bf16) (i : Fin 64) (c : Fin 512) :
    fine x1 x3 x4 (ix2 i c) = (((((Finset.range 128).filter
      (fun k => col (k0_pay1 x1) c k ≤ x3 (ix2 i c) * k0_pay1 x1 (ix2 127 c))).card : ℝ) : EReal) + x4 (ix2 i c)) * (((1 : ℝ) / 128 : ℝ) : EReal) := by
  unfold fine
  pointwise
  rw [count_apply, pay2_apply, ofBits_128th]

theorem runs_apply (lo hi fs : FVec Ideal S64x512 .bf16) (c : Fin 512) (i : ℕ) (h : i < 192) :
    col (runs lo hi fs) c i = Network.three 64 (col lo c) (col hi c) (col fs c) i := by
  rw [col_of_lt _ _ h]
  unfold runs
  pointwise
  unfold Network.three
  by_cases h1 : i < 64
  · rw [dif_pos h1, if_pos h1, col_of_lt _ _ h1, col_of_lt _ _ h1, col_of_lt _ _ h1]
  · rw [dif_neg h1, if_neg h1]
    by_cases h2 : i - 64 < 64
    · rw [dif_pos h2, if_pos (by omega : i < 2 * 64), col_of_lt _ _ h2, col_of_lt _ _ h2, col_of_lt _ _ h2]
    · have h3 : i - 2 * 64 < 64 := by omega
      rw [dif_neg h2, if_neg (by omega : ¬ i < 2 * 64), col_of_lt _ _ h3, col_of_lt _ _ h3]
      rfl

theorem pay65_apply (x2 : Vec Ideal S128x512 .bf16) (i : Fin 64) (c : Fin 512) :
    k0_pay65 x2 (ix2 i c) = k0_pay64 x2 (ix2 ⟨i, by omega⟩ c) := by
  unfold k0_pay65
  pointwise

theorem pay66_apply (x2 : Vec Ideal S128x512 .bf16) (i : Fin 64) (c : Fin 512) :
    k0_pay66 x2 (ix2 i c) = k0_pay64 x2 (ix2 ⟨64 + i, by omega⟩ c) := by
  unfold k0_pay66
  pointwise

theorem stored_apply (x1 : Vec Ideal S512x128 .f32) (x2 : Vec Ideal S128x512 .bf16) (x3 : Vec Ideal S64x512 .f32)
    (x4 : Vec Ideal S64x512 .bf16) (near span : Vec Ideal S1x512 .f32) (i : Fin 192) (c : Fin 512) :
    stored x1 x2 x3 x4 near span (ix2 i c) = near (ix2 0 c) + depths x1 x2 x3 x4 (ix2 i c) * span (ix2 0 c) := by
  unfold stored
  pointwise

theorem nowhere_iff (i : Fin 64) (c : Fin 512) : nowhere (ix2 i c) = 1#1 ↔ False := by
  revert i
  unfold nowhere
  pointwise
  decide

theorem everywhere_iff (i : Fin 192) (c : Fin 512) : everywhere (ix2 i c) = 1#1 ↔ True := by
  unfold everywhere
  pointwise

/-- The drawn depths of a column descend once sorted. -/
theorem col_fineSorted (x1 : Vec Ideal S512x128 .f32) (x3 : Vec Ideal S64x512 .f32) (x4 : Vec Ideal S64x512 .bf16) (c : Fin 512) :
    ∀ i < 64, col (fineSorted x1 x3 x4) c i
      = Network.merge (fun _ => False) 6 (Network.sortAlt 5 (col (fine x1 x3 x4) c)) i :=
  col_mergeRows _ (by norm_num) (by norm_num) nowhere (fun _ => False) nowhere_iff c 6 (by norm_num) (by norm_num) _ _
    (col_sortRows _ (by norm_num) (by norm_num) c _ 5 (by norm_num) (by norm_num))

theorem fineSorted_down (x1 : Vec Ideal S512x128 .f32) (x3 : Vec Ideal S64x512 .f32) (x4 : Vec Ideal S64x512 .bf16) (c : Fin 512)
    (i j : ℕ) (hij : i ≤ j) (hj : j < 64) : col (fineSorted x1 x3 x4) c j ≤ col (fineSorted x1 x3 x4) c i := by
  rw [col_fineSorted _ _ _ _ _ hj, col_fineSorted _ _ _ _ _ (by omega)]
  exact Network.sort_down 5 _ i j hij hj

theorem fineSorted_bag (x1 : Vec Ideal S512x128 .f32) (x3 : Vec Ideal S64x512 .f32) (x4 : Vec Ideal S64x512 .bf16) (c : Fin 512) :
    Network.Bag 64 (col (fineSorted x1 x3 x4) c) (col (fine x1 x3 x4) c) := by
  have h := (Network.merge_bag (fun _ => False) 6 1 (fun _ _ _ => Iff.rfl) _).trans
    (Network.sortAlt_bag (α := EReal) 5 2 (col (fine x1 x3 x4) c))
  intro F
  refine Eq.trans ?_ (h F)
  exact Finset.sum_congr rfl fun i hi => by rw [col_fineSorted _ _ _ _ _ (Finset.mem_range.mp hi)]

/-- The depths of a column ascend, when the coarse ones do. -/
theorem depths_up (x1 : Vec Ideal S512x128 .f32) (x2 : Vec Ideal S128x512 .bf16) (x3 : Vec Ideal S64x512 .f32) (x4 : Vec Ideal S64x512 .bf16)
    (c : Fin 512) (hc : ∀ i j, i ≤ j → j < 128 → col (k0_pay64 x2) c i ≤ col (k0_pay64 x2) c j) :
    (∀ i j, i ≤ j → j < 192 → col (depths x1 x2 x3 x4) c i ≤ col (depths x1 x2 x3 x4) c j) ∧
    ∀ F : EReal → ℤ, ∑ i ∈ Finset.range 192, F (col (depths x1 x2 x3 x4) c i)
      = ∑ i ∈ Finset.range 128, F (col (k0_pay64 x2) c i) + ∑ i ∈ Finset.range 64, F (col (fine x1 x3 x4) c i) := by
  have elo : ∀ i < 64, col (k0_pay65 x2) c i = col (k0_pay64 x2) c i := fun i hi => by
    rw [col_of_lt _ _ hi, col_of_lt _ _ (by omega : i < 128), pay65_apply]
  have ehi : ∀ i < 64, col (k0_pay66 x2) c i = col (k0_pay64 x2) c (64 + i) := fun i hi => by
    rw [col_of_lt _ _ hi, col_of_lt _ _ (by omega : 64 + i < 128), pay66_apply]
  have e := col_mergeRows (N := 192) iota_S192x512_d0_w32 (by norm_num) (by norm_num) everywhere (fun _ => True) everywhere_iff c 6
    (by norm_num) (by norm_num) _ _ (runs_apply (k0_pay65 x2) (k0_pay66 x2) (fineSorted x1 x3 x4) c)
  constructor
  · intro i j hij hj
    unfold depths
    rw [e i (by omega), e j hj]
    refine Network.three_sorted (p := 6) ?_ ?_ (fineSorted_down x1 x3 x4 c) ?_ i j hij hj
    · intro i j hij hj
      rw [elo i (by omega), elo j hj]
      exact hc i j hij (by omega)
    · intro i j hij hj
      rw [ehi i (by omega), ehi j hj]
      exact hc _ _ (by omega) (by omega)
    · intro i j hi hj
      rw [elo i hi, ehi j hj]
      exact hc _ _ (by omega) (by omega)
  · intro F
    have h := Network.merge_bag (fun _ => True) 6 3 (fun _ _ _ => Iff.rfl)
      (Network.three 64 (col (k0_pay65 x2) c) (col (k0_pay66 x2) c) (col (fineSorted x1 x3 x4) c)) F
    rw [show 2 ^ 6 * 3 = 64 * 3 by norm_num, Network.three_sum, fineSorted_bag x1 x3 x4 c F, show 64 * 3 = 192 by norm_num] at h
    have h2 := Finset.sum_range_add (fun i => F (col (k0_pay64 x2) c i)) 64 64
    rw [show 64 + 64 = 128 by norm_num] at h2
    have h0 : ∑ i ∈ Finset.range 64, F (col (k0_pay65 x2) c i) = ∑ i ∈ Finset.range 64, F (col (k0_pay64 x2) c i) :=
      Finset.sum_congr rfl fun i hi => congrArg F (elo i (Finset.mem_range.mp hi))
    have h1 : ∑ i ∈ Finset.range 64, F (col (k0_pay66 x2) c i) = ∑ i ∈ Finset.range 64, F (col (k0_pay64 x2) c (64 + i)) :=
      Finset.sum_congr rfl fun i hi => congrArg F (ehi i (Finset.mem_range.mp hi))
    rw [h0, h1, ← h2] at h
    exact (Finset.sum_congr rfl fun i hi => congrArg F (e i (Finset.mem_range.mp hi))).trans h

end Cert.Proof.Body
-- ==== Proof.BlockKernel.lean ====
/-
  The grid's blocks: point `t` reads and writes the 512 columns from `512 * t` on, so the result array is one function
  wherever every point stores that function's columns.
-/
module

public import proofs.«01_k».proof.Proof.Depths
public import proofs.«01_k».proof.Proof.Gen.KernelIdeal.Frame
public import Idealize.ShloMosaic.Lib.Pipeline.ValueKit.Geometry
public import Idealize.ShloMosaic.Lib.Pointwise

@[expose] public section

namespace Cert.Proof.BlockKernel

open Idealize.ShloMosaic Idealize.ShloMosaic.TcCoe Idealize.SL.Sem Cert.KernelIdeal Cert.KernelIdeal.Gen Body

variable (m : (ℓ : Loc nD τ sig) → Buf (Elt Ideal) ℓ)

/-- Each window's block index at a point: the point's number along the rays, zero along the other axis. -/
theorem index_eq : ∀ t : Fin cfg0.N, win0_0.index t = ![0, t.val] ∧ win0_1.index t = ![t.val, 0] ∧ win0_2.index t = ![0, t.val]
    ∧ win0_3.index t = ![0, t.val] ∧ win0_4.index t = ![0, t.val] ∧ win0_5.index t = ![0, t.val] :=
  (by decide +kernel : ∀ t : Fin grid0.N, _)

/-- The grid has 128 points. -/
theorem points_eq : cfg0.N = 128 := by decide +kernel

/-- Column `c` of point `t`'s block, in the whole array. -/
def ray (t : Fin cfg0.N) (c : Fin 512) : Fin 65536 :=
  ⟨512 * t.val + c.val, by have := t.isLt; have := points_eq; have := c.isLt; omega⟩

/-- A window's block read out of an array: the array's columns (window 1: rows) of the point's rays. -/
theorem reads (t : Fin cfg0.N) (j : Fin 512) :
    (∀ (X : FVec Ideal S8x65536 .f32) (i : Fin 8), ((cfg0.win 0).blk t).view.read (Elt Ideal) X (Idealize.ShloMosaic.ix2 i j) = X (Idealize.ShloMosaic.ix2 i (ray t j)))
    ∧ (∀ (X : FVec Ideal S65536x128 .f32) (i : Fin 128), ((cfg0.win 1).blk t).view.read (Elt Ideal) X (Idealize.ShloMosaic.ix2 j i) = X (Idealize.ShloMosaic.ix2 (ray t j) i))
    ∧ (∀ (X : FVec Ideal S128x65536 .bf16) (i : Fin 128), ((cfg0.win 2).blk t).view.read (Elt Ideal) X (Idealize.ShloMosaic.ix2 i j) = X (Idealize.ShloMosaic.ix2 i (ray t j)))
    ∧ (∀ (X : FVec Ideal S64x65536 .f32) (i : Fin 64), ((cfg0.win 3).blk t).view.read (Elt Ideal) X (Idealize.ShloMosaic.ix2 i j) = X (Idealize.ShloMosaic.ix2 i (ray t j)))
    ∧ (∀ (X : FVec Ideal S64x65536 .bf16) (i : Fin 64), ((cfg0.win 4).blk t).view.read (Elt Ideal) X (Idealize.ShloMosaic.ix2 i j) = X (Idealize.ShloMosaic.ix2 i (ray t j))) := by
  obtain ⟨e0, e1, e2, e3, e4, -⟩ := index_eq t
  refine ⟨fun X i => congrArg X ?_, fun X i => congrArg X ?_, fun X i => congrArg X ?_, fun X i => congrArg X ?_, fun X i => congrArg X ?_⟩ <;>
  · funext a
    apply Fin.ext
    match a with
    | ⟨0, _⟩ =>
      blk_simp [e0, e1, e2, e3, e4]
      all_goals (change t.val * 512 + j.val = 512 * t.val + j.val; omega)
    | ⟨1, _⟩ =>
      blk_simp [e0, e1, e2, e3, e4]
      all_goals (change t.val * 512 + j.val = 512 * t.val + j.val; omega)

/-- The point's input blocks, as the columns (weights: rows) of the arrays that the kernel finds. -/
theorem blocks (c : Dev nD) (t : Fin cfg0.N) (j : Fin 512) :
    (∀ i : Fin 8, iblk m c 0 t (Idealize.ShloMosaic.ix2 i j) = V m c main_v8 (Idealize.ShloMosaic.ix2 i (ray t j)))
    ∧ (∀ i : Fin 128, iblk m c 1 t (Idealize.ShloMosaic.ix2 j i) = V m c main_arg1 (Idealize.ShloMosaic.ix2 (ray t j) i))
    ∧ (∀ i : Fin 128, iblk m c 2 t (Idealize.ShloMosaic.ix2 i j) = V m c main_v29 (Idealize.ShloMosaic.ix2 i (ray t j)))
    ∧ (∀ i : Fin 64, iblk m c 3 t (Idealize.ShloMosaic.ix2 i j) = V m c main_v26 (Idealize.ShloMosaic.ix2 i (ray t j)))
    ∧ (∀ i : Fin 64, iblk m c 4 t (Idealize.ShloMosaic.ix2 i j) = V m c main_v30 (Idealize.ShloMosaic.ix2 i (ray t j))) := by
  obtain ⟨r0, r1, r2, r3, r4⟩ := reads t j
  exact ⟨r0 _, r1 _, r2 _, r3 _, r4 _⟩

/-- The offsets of a whole block are zero. -/
theorem hz : (![0, 0] : Fin 2 → Nat) = fun _ => 0 := funext fun a => by fin_cases a <;> rfl

/-- What point `t` stores, of its blocks. -/
noncomputable def stores (c : Dev nD) (t : Fin cfg0.N) : FVec Ideal S192x512 .f32 :=
  stored (iblk m c 1 t) (iblk m c 2 t) (iblk m c 3 t) (iblk m c 4 t) (View.ld (iblk m c 0 t) r0_3) (View.ld (iblk m c 0 t) r0_4)

/-- What a point leaves in the result's buffer. -/
theorem out_stores (c : Dev nD) (t : Fin cfg0.N) :
    out0_5 (iblk m c 0 t) (iblk m c 1 t) (iblk m c 2 t) (iblk m c 3 t) (iblk m c 4 t) = stores m c t := by
  rw [out_eq, View.canon_unit_zero hz]
  unfold stores
  rw [View.ld_unit_zero hz, View.ld_unit_zero hz, View.ld_unit_zero hz, View.ld_unit_zero hz]
  rfl

/-- The two rows of bounds that a point reads. -/
theorem bounds_rows (c : Dev nD) (t : Fin cfg0.N) (j : Fin 512) :
    View.ld (iblk m c 0 t) r0_3 (Idealize.ShloMosaic.ix2 (0 : Fin 1) j) = V m c main_v8 (Idealize.ShloMosaic.ix2 (0 : Fin 8) (ray t j))
    ∧ View.ld (iblk m c 0 t) r0_4 (Idealize.ShloMosaic.ix2 (0 : Fin 1) j) = V m c main_v8 (Idealize.ShloMosaic.ix2 (1 : Fin 8) (ray t j)) := by
  refine ⟨.trans (congrArg (iblk m c 0 t) (funext fun a => Fin.ext ?_)) ((blocks m c t j).1 0),
    .trans (congrArg (iblk m c 0 t) (funext fun a => Fin.ext ?_)) ((blocks m c t j).1 1)⟩
  · match a with
    | ⟨0, _⟩ => rfl
    | ⟨1, _⟩ => show 0 + 1 * j.val = j.val; omega
  · match a with
    | ⟨0, _⟩ => rfl
    | ⟨1, _⟩ => show 0 + 1 * j.val = j.val; omega

/-- If every point stores `G`'s columns, the array ends as `G`: the blocks cover it. -/
theorem array_eq (c : Dev nD) (G : FVec Ideal S192x65536 .f32)
    (h : ∀ t (i : Fin 192) (j : Fin 512), stores m c t (Idealize.ShloMosaic.ix2 i j) = G (Idealize.ShloMosaic.ix2 i (ray t j))) :
    (dats m 0 c).arrAt 5 cfg0.N = G := by
  refine (dats m 0 c).arrAt_eq_of_cover 5 G (fun t _ => ?_)
    (Pipeline.Window.Covers.cover win0_5 (by decide +kernel) (Memref.isWhole_whole _))
  obtain ⟨-, -, -, -, -, e5⟩ := index_eq t
  show (cfg0.win 5).cut (grid0.coords t) ((dats m 0 c).after 5 t) = _
  rw [after0_5, out_stores]
  refine funext fun y => ?_
  show stores m c t y = G (((cfg0.win 5).blk t).view.emb y)
  obtain ⟨i, j, rfl⟩ : ∃ (i : Fin 192) (j : Fin 512), y = Idealize.ShloMosaic.ix2 i j :=
    ⟨y 0, y 1, funext fun a => by match a with | ⟨0, _⟩ => rfl | ⟨1, _⟩ => rfl⟩
  rw [h]
  refine congrArg G (funext fun a => Fin.ext ?_)
  match a with
  | ⟨0, _⟩ => show i.val = win0_5.index t (0 : Fin 2) * 192 + 1 * i.val; rw [e5]; simp
  | ⟨1, _⟩ => show 512 * t.val + j.val = win0_5.index t (1 : Fin 2) * 512 + 1 * j.val; rw [e5]; simp; omega

/-- The result is the array with its axes exchanged. -/
theorem result_eq (c : Dev nD) :
    Pipeline.afterTail₀ cfgs (dats m) 0 (V0 m) [hostOps1] c main_v32
      = transpose S65536x192 [1, 0] ((dats m 0 c).arrAt 5 cfg0.N) transposes_S192x65536_S65536x192_1_0 := by
  unfold Pipeline.afterTail₀
  have e := Pipeline.withArrays_arr spec0 (by decide) c (V0 m c) (fun w => (dats m 0 c).arrAt w cfg0.N) 5
  rw [← e]
  rfl

end Cert.Proof.BlockKernel
-- ==== Proof.Reading.lean ====
/-
  What three of the reference's operations are over the extended reals: the draws lie in the unit interval, the sort
  of a row ascends and holds the row's values, the window sum is the prefix sum.
-/
module

public import proofs.«01_k».proof.Proof.RunReference
public import Idealize.ShloMosaic.Lib.IdealHost
public import Idealize.ShloMosaic.Lib.SortFacts
public import Idealize.ShloMosaic.Lib.IndicatorCount
public import Idealize.ShloMosaic.Lib.Pointwise

@[expose] public section

namespace Cert.Proof.Reading

open Idealize.ShloMosaic Draws Cert.ReferenceIdeal
open scoped BigOperators

/-! ### The draws -/

/-- The number in the unit interval made from a drawn word. -/
noncomputable def unit (w : BitVec 32) : EReal :=
  max (Ideal.ofBits .f32 0x00000000#32)
    ((Ideal.ofBits .f32 ((w >>> 9) ||| 1065353216#32) - Ideal.ofBits .f32 0x3F800000#32)
      * (Ideal.ofBits .f32 0x3F800000#32 - Ideal.ofBits .f32 0x00000000#32) + Ideal.ofBits .f32 0x00000000#32)

theorem ofBits_zero : Ideal.ofBits .f32 0x00000000#32 = 0 := by simp [Ideal.ofBits, Ideal.ieee]

theorem ofBits_one : Ideal.ofBits .f32 0x3F800000#32 = ((1 : ℝ) : EReal) := by
  simp [Ideal.ofBits, Ideal.ieee, -EReal.coe_mul]; norm_num

theorem ofBits_mantissa (f : ℕ) (hf : f < 2 ^ 23) (b : BitVec 32) (hb : b.toNat = 127 * 2 ^ 23 + f) :
    Ideal.ofBits .f32 b = ((1 + f / 2 ^ 23 : ℝ) : EReal) := by
  have h1 : (b.extractLsb' (8 + 23) 1 == 1#1) = false := by
    rw [beq_eq_false_iff_ne]
    intro h
    have := congrArg BitVec.toNat h
    rw [BitVec.extractLsb'_toNat, hb, Nat.shiftRight_eq_div_pow] at this
    simp at this
    omega
  have h2 : (b.extractLsb' 23 8).toNat = 127 := by
    rw [BitVec.extractLsb'_toNat, hb, Nat.shiftRight_eq_div_pow]; omega
  have h3 : (b.extractLsb' 0 23).toNat = f := by
    rw [BitVec.extractLsb'_toNat, hb, Nat.shiftRight_eq_div_pow]; omega
  simp only [Ideal.ofBits, Ideal.ieee, h1, h2, h3]
  norm_num [-EReal.coe_mul, -EReal.coe_add]
  congr 1
  ring

theorem unit_range (w : BitVec 32) : ∃ r : ℝ, 0 ≤ r ∧ r ≤ 1 ∧ unit w = (r : EReal) := by
  have hf : w.toNat / 2 ^ 9 < 2 ^ 23 := by have := w.isLt; omega
  refine ⟨(w.toNat / 2 ^ 9 : ℕ) / 2 ^ 23, by positivity, ?_, ?_⟩
  · rw [div_le_one (by positivity)]
    exact_mod_cast hf.le
  unfold unit
  rw [ofBits_zero, ofBits_one, ofBits_mantissa _ hf]
  · rw [sub_zero, add_zero, ← EReal.coe_sub, ← EReal.coe_mul, max_eq_right]
    · congr 1; ring
    · rw [← EReal.coe_zero, EReal.coe_le_coe_iff]
      have : (0 : ℝ) ≤ ((w.toNat / 2 ^ 9 : ℕ) : ℝ) / 2 ^ 23 := by positivity
      linarith
  · rw [BitVec.toNat_or, BitVec.toNat_ushiftRight, Nat.shiftRight_eq_div_pow, Nat.or_comm]
    exact (Nat.two_pow_add_eq_or_of_lt hf 127).symm

theorem uniform_range {a b : ℕ} (h h') (key : IVec S₂ 32) (j) :
    ∃ r : ℝ, 0 ≤ r ∧ r ≤ 1 ∧ uniform (F := Ideal) a b h h' key (constant S₀ .f32 0x00000000#32)
      (constant S₀ .f32 0x3F800000#32) j = (r : EReal) := by
  have : ∃ w, uniform (F := Ideal) a b h h' key (constant S₀ .f32 0x00000000#32)
      (constant S₀ .f32 0x3F800000#32) j = unit w := by
    unfold uniform Line.naming
    exact ⟨_, rfl⟩
  obtain ⟨w, e⟩ := this
  rw [e]
  exact unit_range w

/-! ### The sort -/

/-- The two selects before the comparison change nothing over the extended reals. -/
theorem canonical (x z q : EReal) :
    Scalar.select (Ideal.cmp .une x x) q (Scalar.select (Ideal.cmp .oeq x z) z x) = x := by
  unfold Scalar.select Ideal.cmp
  by_cases h : x = z <;> simp [h]

theorem comparator_iff (a b : EReal) : comparator_f32_d1 (F := Ideal) a b = 1#1 ↔ a < b := by
  change Ideal.cmp .olt (Scalar.select (Ideal.cmp .une a a) _ (Scalar.select (Ideal.cmp .oeq a _) _ a))
    (Scalar.select (Ideal.cmp .une b b) _ (Scalar.select (Ideal.cmp .oeq b _) _ b)) = 1#1 ↔ a < b
  rw [canonical, canonical]
  unfold Ideal.cmp
  by_cases h : a < b <;> simp [h]

theorem along_row {N W : ℕ} (b : Fin N) (i k : Fin W) : (ix2 b i).along (1 : Fin 2) k = ix2 b k := by
  funext a
  fin_cases a <;> rfl

theorem sort_row (x : S65536x192.Idx → EReal) (b : Fin 65536) :
    ∃ σ : Fin 192 → Fin 192, Function.Bijective σ
      ∧ (∀ i, Host.sort S65536x192 1 (comparator_f32_d1 (F := Ideal)) x (ix2 b i) = x (ix2 b (σ i)))
      ∧ ∀ i j, i ≤ j → x (ix2 b (σ i)) ≤ x (ix2 b (σ j)) := by
  let R : Fin 192 → Fin 192 → Bool := fun k k' => comparator_f32_d1 (F := Ideal) (x (ix2 b k)) (x (ix2 b k')) == 1#1
  have hR (k k' : Fin 192) : R k k' = decide (x (ix2 b k) < x (ix2 b k')) := by
    rw [Bool.eq_iff_iff]
    simp only [R, beq_iff_eq, decide_eq_true_eq, comparator_iff]
  refine ⟨sortedFrom R, ⟨sortedFrom_injective R, sortedFrom_surjective R⟩, fun i => ?_, fun i j hij => ?_⟩
  · have e (k : Fin 192) : (ix2 b i).along (1 : Fin 2) k = ix2 b k := along_row b i k
    change x ((ix2 b i).along (1 : Fin 2) (sortedFrom (fun k k' : Fin 192 =>
      comparator_f32_d1 (F := Ideal) (x ((ix2 b i).along (1 : Fin 2) k)) (x ((ix2 b i).along (1 : Fin 2) k')) == 1#1) i)) = _
    simp only [e]
    exact congrArg x (e _)
  · rcases hij.eq_or_lt with rfl | h
    · exact le_rfl
    · have := sortedFrom_noInversion R R (fun k k' h => by rw [hR] at h ⊢; simpa using (of_decide_eq_true h).le)
        (fun _ _ h => h) (fun k k' k'' h h' => by rw [hR] at h h' ⊢; simp only [decide_eq_false_iff_not, not_lt] at h h' ⊢; exact h'.trans h)
        i j h
      rw [hR] at this
      simpa using this

/-! ### The window sum -/

theorem foldl_add {n : ℕ} (f : Fin n → EReal) : (List.finRange n).foldl (fun r k => r + f k) 0 = ∑ k, f k := by
  rw [Fin.sum_univ_def, List.sum_eq_foldl, List.foldl_map]

theorem shifted_sum (g : ℕ → EReal) (i : ℕ) (hi : i < 128) :
    ∑ k ∈ Finset.range 128, (if 127 ≤ i + k then g (i + k - 127) else 0) = ∑ k ∈ Finset.range 128, if k ≤ i then g k else 0 := by
  rw [← Finset.sum_filter, ← Finset.sum_filter]
  refine Finset.sum_bij' (fun k _ => i + k - 127) (fun k _ => k + 127 - i) ?_ ?_ ?_ ?_ ?_ <;>
    intro k hk <;> simp only [Finset.mem_filter, Finset.mem_range] at hk ⊢ <;> omega

theorem window_apply (x : FVec Ideal S65536x128 .f32) (h) (v : FVec Ideal S_ .f32) (hv : v (fun a => a.elim0) = 0) (h0) (b : Fin 65536) (i : Fin 128) :
    Host.reduceWindowAdd (F := Ideal) ![1, 128] ![1, 1] ![0, 127] ![0, 0] x v h h0 (ix2 b i)
      = ∑ k : Fin 128, if (k : ℕ) ≤ i then x (ix2 b k) else 0 := by
  let g : ℕ → EReal := fun k => if hk : k < 128 then x (ix2 b ⟨k, hk⟩) else 0
  have hg (k : Fin 128) : g k = x (ix2 b k) := dif_pos k.isLt
  let W : Shape := ⟨2, ![1, 128]⟩
  let G : W.Idx → EReal := fun w => if 127 ≤ (i : ℕ) + (w 1).val then g (i + (w 1).val - 127) else 0
  have e : Host.reduceWindowAdd (F := Ideal) ![1, 128] ![1, 1] ![0, 127] ![0, 0] x v h h0 (ix2 b i)
      = ∑ n : Fin W.numel, G (W.rowMajor.symm n) := by
    rw [← foldl_add]
    have hv' : v (Shape.Idx.first h0) = 0 := (congrArg v (funext fun a => a.elim0)).trans hv
    change Ideal.hostReduceWindowAdd _ _ _ _ h x (v (Shape.Idx.first h0)) _ = _
    unfold Ideal.hostReduceWindowAdd Host.reduceWindow
    rw [hv']
    dsimp only
    refine congrArg (fun f => List.foldl f 0 (List.finRange W.numel)) (funext fun r => funext fun n => congrArg (r + ·) ?_)
    let w : W.Idx := W.rowMajor.symm n
    have w0 : (w 0).val = 0 := Nat.lt_one_iff.mp (w 0).isLt
    have w1 : (w 1).val < 128 := (w 1).isLt
    by_cases hc : 127 ≤ (i : ℕ) + (w 1).val
    · have hk : (i : ℕ) + (w 1).val - 127 < 128 := by omega
      refine (dif_pos ?_).trans (Eq.trans ?_ ((if_pos hc).trans (dif_pos hk)).symm)
      · intro a
        match a with
        | 0 => exact show 0 ≤ (b : ℕ) * 1 + (w 0).val ∧ (b : ℕ) * 1 + (w 0).val - 0 < 65536 by omega
        | 1 => exact show 127 ≤ (i : ℕ) * 1 + (w 1).val ∧ (i : ℕ) * 1 + (w 1).val - 127 < 128 by omega
      · refine congrArg x (funext fun a => Fin.ext ?_)
        match a with
        | 0 => exact show (b : ℕ) * 1 + (w 0).val - 0 = b by omega
        | 1 => exact show (i : ℕ) * 1 + (w 1).val - 127 = i + (w 1).val - 127 by omega
    · refine (dif_neg fun hin => hc ?_).trans (if_neg hc).symm
      have : 127 ≤ (i : ℕ) * 1 + (w 1).val := (hin 1).1
      omega
  rw [e, Equiv.sum_comp W.rowMajor.symm G, sum_idx2]
  simp only [Finset.univ_unique, Finset.sum_singleton]
  calc _ = ∑ k ∈ Finset.range 128, (if 127 ≤ (i : ℕ) + k then g (i + k - 127) else 0) :=
        Finset.sum_range (f := fun k => if 127 ≤ (i : ℕ) + k then g (i + k - 127) else 0) |>.symm
    _ = _ := shifted_sum g i i.isLt
    _ = _ := Finset.sum_range (f := fun k => if k ≤ (i : ℕ) then g k else 0)
    _ = _ := by simp only [hg]

end Cert.Proof.Reading

end
-- ==== Proof.Rows.lean ====
/-
  The reference's rows over the extended reals: the grid of depths, the coarse depths, the distribution, the drawn
  depths, and the row before it is sorted.
-/
module

public import proofs.«01_k».proof.Proof.Reading
public import Idealize.ShloMosaic.Lib.Pointwise

@[expose] public section

namespace Cert.Proof.Rows

open Idealize.ShloMosaic Draws HostReference Reading RunReference Cert.ReferenceIdeal Facts₀
open scoped BigOperators

/-- The coarse positions between the planes. -/
noncomputable def coarse (lin : FVec Ideal S128 .f32) (rc : FVec Ideal S65536x128 .f32) : FVec Ideal S65536x128 .f32 :=
  addf (broadcastInDim S65536x128 ![0, 1] bcast_S1x128_S65536x128_0_1 (broadcastInDim S1x128 ![1] bcast_S128_S1x128_1 lin))
    (mulf rc (broadcastInDim S65536x128 ![] bcast_S_S65536x128 (constant S_ .f32 0x3C000000#32)))

/-- The weights, kept off zero. -/
noncomputable def lifted (weights : FVec Ideal S65536x128 .f32) : FVec Ideal S65536x128 .f32 :=
  addf weights (broadcastInDim S65536x128 ![] bcast_S_S65536x128 (constant S_ .f32 0x3727C5AC#32))

/-- The distribution, from zero. -/
noncomputable def cdf (w : FVec Ideal S65536x128 .f32) : FVec Ideal S65536x129 .f32 :=
  concatenate S65536x129 1 [⟨S65536x1, broadcastInDim S65536x1 ![] bcast_S_S65536x1 (constant S_ .f32 0x00000000#32)⟩,
    ⟨S65536x128, Host.reduceWindowAdd ![1, 128] ![1, 1] ![0, 127] ![0, 0]
      (Host.divf w (broadcastInDim S65536x128 ![0, 1] bcast_S65536x1_S65536x128_0_1 (broadcastInDim S65536x1 ![0] bcast_S65536_S65536x1_0
        (Host.reduceAdd w (constant S_ .f32 0x00000000#32) reducesTo_S65536x128_S65536_d1 h_S_))))
      (broadcastInDim S_ ![] bcast_S_S_ (constant S_ .f32 0x00000000#32))
      reduceWindows_S65536x128_S65536x128_w1s1p0_0_w128s1p127_0 h_S_⟩] concatenates_S65536x1_S65536x128_S65536x129_d1

/-- How many entries of the distribution a draw reaches. -/
noncomputable def reached (d : FVec Ideal S65536x129 .f32) (u : FVec Ideal S65536x64 .f32) : IVec S65536x64 32 :=
  Host.reduce IntOp.addi (extui 32 (cmpf .ole
      (broadcastInDim S65536x64x129 ![0, 1, 2] bcast_S65536x1x129_S65536x64x129_0_1_2 (broadcastInDim S65536x1x129 ![0, 2] bcast_S65536x129_S65536x1x129_0_2 d))
      (broadcastInDim S65536x64x129 ![0, 1, 2] bcast_S65536x64x1_S65536x64x129_0_1_2 (broadcastInDim S65536x64x1 ![0, 1] bcast_S65536x64_S65536x64x1_0_1 u))) natLt_1_32)
    (constantI S_ 32 0#32) reducesTo_S65536x64x129_S65536x64_d2 h_S_

/-- The drawn positions between the planes. -/
noncomputable def fine (n : IVec S65536x64 32) (rf : FVec Ideal S65536x64 .f32) : FVec Ideal S65536x64 .f32 :=
  Host.divf (addf (maximumf (subf (sitofp .f32 n) (broadcastInDim S65536x64 ![] bcast_S_S65536x64 (constant S_ .f32 0x3F800000#32)))
      (broadcastInDim S65536x64 ![] bcast_S_S65536x64 (constant S_ .f32 0x00000000#32))) rf)
    (broadcastInDim S65536x64 ![] bcast_S_S65536x64 (constant S_ .f32 0x43000000#32))

/-- The row before it is sorted. -/
noncomputable def row (rays : FVec Ideal S65536x8 .f32) (z : FVec Ideal S65536x128 .f32) (y : FVec Ideal S65536x64 .f32) :
    FVec Ideal S65536x192 .f32 :=
  let near := extractStridedSlice S65536x1 ![0, 6] rays slices_S65536x8_S65536x1_0_6
  let far := extractStridedSlice S65536x1 ![0, 7] rays slices_S65536x8_S65536x1_0_7
  concatenate S65536x192 1 [
    ⟨S65536x128, addf (mulf (broadcastInDim S65536x128 ![0, 1] bcast_S65536x1_S65536x128_0_1 near)
        (subf (broadcastInDim S65536x128 ![] bcast_S_S65536x128 (constant S_ .f32 0x3F800000#32)) z))
      (mulf (broadcastInDim S65536x128 ![0, 1] bcast_S65536x1_S65536x128_0_1 far) z)⟩,
    ⟨S65536x64, addf (mulf (broadcastInDim S65536x64 ![0, 1] bcast_S65536x1_S65536x64_0_1 near)
        (subf (broadcastInDim S65536x64 ![] bcast_S_S65536x64 (constant S_ .f32 0x3F800000#32)) y))
      (mulf (broadcastInDim S65536x64 ![0, 1] bcast_S65536x1_S65536x64_0_1 far) y)⟩]
    concatenates_S65536x128_S65536x64_S65536x192_d1

theorem sorted_eq (rays : FVec Ideal S65536x8 .f32) (weights : FVec Ideal S65536x128 .f32) (lin : FVec Ideal S128 .f32)
    (rc : FVec Ideal S65536x128 .f32) (u rf : FVec Ideal S65536x64 .f32) :
    sorted rays weights lin rc u rf = Host.sort S65536x192 1 comparator_f32_d1
      (row rays (coarse lin rc) (fine (reached (cdf (lifted weights)) u) rf)) := by
  unfold sorted Line.naming row coarse fine reached cdf lifted
  exact rfl

theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

theorem ofBits_127 : Ideal.ofBits .f32 0x42FE0000#32 = ((127 : ℝ) : EReal) := by
  simp [Ideal.ofBits, Ideal.ieee, -EReal.coe_mul]; norm_num

theorem ofBits_end : Ideal.ofBits .f32 0x3F7E0000#32 = ((127 / 128 : ℝ) : EReal) := by
  simp [Ideal.ofBits, Ideal.ieee, -EReal.coe_mul]; norm_num

theorem ofBits_128 : Ideal.ofBits .f32 0x43000000#32 = ((128 : ℝ) : EReal) := by
  simp [Ideal.ofBits, Ideal.ieee, -EReal.coe_mul]; norm_num

theorem ofBits_128th : Ideal.ofBits .f32 0x3C000000#32 = ((1 / 128 : ℝ) : EReal) := by
  simp [Ideal.ofBits, Ideal.ieee, -EReal.coe_mul]; norm_num

theorem sitofp_ofNat {i : ℕ} (h : i < 2 ^ 31) :
    (FloatOps.sitofp .f32 (BitVec.ofNat 32 i) : Ideal .f32) = (((i : ℝ)) : EReal) := by
  change (((BitVec.ofNat 32 i).toInt : ℝ) : EReal) = _
  rw [BitVec.toInt_eq_toNat_of_lt (by rw [BitVec.toNat_ofNat]; omega), BitVec.toNat_ofNat, Nat.mod_eq_of_lt (by omega)]
  simp

theorem linspace_apply (k : Fin 128) :
    linspace (F := Ideal) (constant S_ .f32 0x00000000#32) (constant S_ .f32 0x3F7E0000#32) (ix1 k) = (((k : ℕ) / 128 : ℝ) : EReal) := by
  unfold linspace Line.naming
  dsimp only
  pointwise
  change (if h : (k : ℕ) < 127 then Ideal.ofBits .f32 0x00000000#32 * (1 - Ideal.div _ _) + Ideal.ofBits .f32 0x3F7E0000#32 * Ideal.div _ _
    else Ideal.ofBits .f32 0x3F7E0000#32) = _
  rw [ofBits_zero, ofBits_end, sitofp_ofNat (by omega), ofBits_127, div_coe _ _ (by norm_num), zero_mul, zero_add, ← EReal.coe_mul]
  split_ifs with h
  · congr 1; ring
  · have e : (k : ℕ) = 127 := by omega
    rw [e]
    norm_num

theorem coarse_apply (lin rc) (b : Fin 65536) (k : Fin 128) :
    coarse lin rc (ix2 b k) = lin (ix1 k) + rc (ix2 b k) * Ideal.ofBits .f32 0x3C000000#32 := by
  unfold coarse
  pointwise

theorem lifted_apply (w) (b : Fin 65536) (k : Fin 128) :
    lifted w (ix2 b k) = w (ix2 b k) + Ideal.ofBits .f32 0x3727C5AC#32 := by
  unfold lifted
  pointwise

theorem row_low (rays z y) (b : Fin 65536) (k : Fin 192) (h : (k : ℕ) < 128) :
    row rays z y (ix2 b k) = rays (ix2 b 6) * (Ideal.ofBits .f32 0x3F800000#32 - z (ix2 b ⟨k, h⟩)) + rays (ix2 b 7) * z (ix2 b ⟨k, h⟩) := by
  unfold row
  dsimp only
  pointwise
  exact dif_pos h

theorem row_high (rays z y) (b : Fin 65536) (k : Fin 192) (h : 128 ≤ (k : ℕ)) (h' : (k : ℕ) - 128 < 64) :
    row rays z y (ix2 b k) = rays (ix2 b 6) * (Ideal.ofBits .f32 0x3F800000#32 - y (ix2 b ⟨k - 128, h'⟩)) + rays (ix2 b 7) * y (ix2 b ⟨k - 128, h'⟩) := by
  unfold row
  dsimp only
  pointwise
  exact dif_neg (by omega)

theorem fine_apply (n rf) (b : Fin 65536) (k : Fin 64) :
    fine n rf (ix2 b k) = Ideal.div (max (FloatOps.sitofp (F := Ideal) .f32 (n (ix2 b k)) - Ideal.ofBits .f32 0x3F800000#32) (Ideal.ofBits .f32 0x00000000#32)
      + rf (ix2 b k)) (Ideal.ofBits .f32 0x43000000#32) := by
  unfold fine
  pointwise

theorem cdf_zero (w) (b : Fin 65536) : cdf w (ix2 b 0) = 0 := by
  unfold cdf
  pointwise

theorem cdf_succ (w) (b : Fin 65536) (j : Fin 128) :
    cdf w (ix2 b j.succ) = ∑ k : Fin 128, if (k : ℕ) ≤ j then Ideal.div (w (ix2 b k)) (∑ l : Fin 128, w (ix2 b l)) else 0 := by
  unfold cdf
  pointwise
  rw [dif_neg (by simp), window_apply _ _ _ (by pointwise)]
  refine Finset.sum_congr rfl fun k _ => ?_
  pointwise
  rw [show (j.succ : ℕ) - 1 = j from rfl]

theorem reached_apply (d u) (b : Fin 65536) (k : Fin 64) :
    reached d u (ix2 b k) = BitVec.ofNat 32 (Finset.univ.filter fun j : Fin 129 => d (ix2 b j) ≤ u (ix2 b k)).card := by
  unfold reached
  have hr : S65536x64x129.Reduces [2] S65536x64 := by decide
  rw [Host.reduce_eq_fold_single _ _ _ _ hr]
  refine (Finset.fold_congr fun j _ => ?_).trans
    ((IndicatorCount.fold_addi_setWidth_eq_card (w := 32) (fun j : Fin 129 => Ideal.cmp .ole (d (ix2 b j)) (u (ix2 b k))) Finset.univ).trans ?_)
  · have e : hr.lift (ix2 b k) j = ix3 b k j := funext fun a => match a with
      | 0 => rfl
      | 1 => rfl
      | 2 => rfl
    rw [Function.comp_apply, e]
    pointwise
    done
  · congr 2
    refine Finset.filter_congr fun j _ => ?_
    unfold Ideal.cmp
    by_cases h : d (ix2 b j) ≤ u (ix2 b k) <;> simp [h]

end Cert.Proof.Rows

end
-- ==== Proof.Equation.lean ====
/-
  One ray: what the kernel stores in its column is the reference's sorted row. Both ascend, and both hold the same depths.
-/
module

public import proofs.«01_k».proof.Proof.Depths
public import proofs.«01_k».proof.Proof.Rows

@[expose] public section

namespace Cert.Proof.Equation

open Idealize.ShloMosaic Cert.Proof.Column

/-- A sum of reals, among the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- What is added to every weight is positive. -/
theorem ofBits_lift : ∃ r : ℝ, 0 < r ∧ Ideal.ofBits .f32 0x3727C5AC#32 = ((r : ℝ) : EReal) := by
  refine ⟨10995116 / 2 ^ 40, by norm_num, ?_⟩
  simp [Ideal.ofBits, Ideal.ieee, -EReal.coe_mul]; norm_num

/-- The sums of the first weights. -/
noncomputable def upTo (a : Fin 128 → ℝ) (j : ℕ) : ℝ := ∑ k : Fin 128, if (k : ℕ) ≤ j then a k else 0

/-- The last sum is the total. -/
theorem upTo_last (a : Fin 128 → ℝ) : upTo a 127 = ∑ k, a k :=
  Finset.sum_congr rfl fun k _ => if_pos (by omega)

/-- The sums of the first weights, among the extended reals. -/
theorem coe_upTo (a : Fin 128 → ℝ) (j : ℕ) :
    (∑ k : Fin 128, if (k : ℕ) ≤ j then ((a k : ℝ) : EReal) else 0) = ((upTo a j : ℝ) : EReal) := by
  unfold upTo
  rw [← coe_sum]
  refine Finset.sum_congr rfl fun k _ => ?_
  split_ifs <;> simp

/-- How many of the sums a draw has reached. -/
noncomputable def reachedBy (a : Fin 128 → ℝ) (u : ℝ) : ℕ := ∑ j : Fin 128, if upTo a j ≤ u * ∑ k, a k then 1 else 0

/-- There are 128 sums. -/
theorem reachedBy_le (a : Fin 128 → ℝ) (u : ℝ) : reachedBy a u ≤ 128 := by
  refine (Finset.sum_le_card_nsmul _ _ 1 fun j _ => ?_).trans (by simp)
  split_ifs <;> omega

/-- The kernel's drawn depth: it compares the sums with the draw times the total. -/
theorem kernel_fine (x1 : FVec Ideal Cert.KernelIdeal.S512x128 .f32) (x3 : FVec Ideal Cert.KernelIdeal.S64x512 .f32)
    (x4 : FVec Ideal Cert.KernelIdeal.S64x512 .bf16) (c : Fin 512) (i : Fin 64) (a : Fin 128 → ℝ) (u r : ℝ)
    (ha : ∀ k, x1 (ix2 c k) + Ideal.ofBits .f32 0x3727C5AC#32 = ((a k : ℝ) : EReal))
    (hu : x3 (ix2 i c) = ((u : ℝ) : EReal)) (hr : x4 (ix2 i c) = ((r : ℝ) : EReal)) :
    Body.fine x1 x3 x4 (ix2 i c) = ((((reachedBy a u : ℕ) + r) * (1 / 128) : ℝ) : EReal) := by
  have hp : ∀ j : Fin 128, Cert.KernelIdeal.Gen.k0_pay1 (F := Ideal) x1 (ix2 j c) = ((upTo a j : ℝ) : EReal) := fun j => by
    rw [Body.prefix_apply, ← coe_upTo]
    exact Finset.sum_congr rfl fun k _ => by rw [ha]
  have hn : ((Finset.range 128).filter (fun k => col (Cert.KernelIdeal.Gen.k0_pay1 (F := Ideal) x1) c k
      ≤ x3 (ix2 i c) * Cert.KernelIdeal.Gen.k0_pay1 (F := Ideal) x1 (ix2 127 c))).card = reachedBy a u := by
    unfold reachedBy
    rw [Finset.card_filter, Finset.sum_range]
    refine Finset.sum_congr rfl fun j _ => ?_
    refine if_congr ?_ rfl rfl
    rw [col_of_lt _ _ j.isLt, hp, hp, hu, ← EReal.coe_mul, EReal.coe_le_coe_iff, ← upTo_last]
    rfl
  rw [Body.fine_apply, hn, hr, ← EReal.coe_add, ← EReal.coe_mul]

/-- The reference's drawn depth: it compares the sums over the total with the draw, and the zero before them is always reached. -/
theorem reference_fine (weights : FVec Ideal Cert.ReferenceIdeal.S65536x128 .f32) (us rf : FVec Ideal Cert.ReferenceIdeal.S65536x64 .f32)
    (b : Fin 65536) (i : Fin 64) (a : Fin 128 → ℝ) (u r : ℝ)
    (ha : ∀ k, weights (ix2 b k) + Ideal.ofBits .f32 0x3727C5AC#32 = ((a k : ℝ) : EReal)) (h0 : ∀ k, 0 < a k) (u0 : 0 ≤ u)
    (hu : us (ix2 b i) = ((u : ℝ) : EReal)) (hr : rf (ix2 b i) = ((r : ℝ) : EReal)) :
    Rows.fine (Rows.reached (Rows.cdf (Rows.lifted weights)) us) rf (ix2 b i)
      = ((((reachedBy a u : ℕ) + r) * (1 / 128) : ℝ) : EReal) := by
  have hT : 0 < ∑ k, a k := Finset.sum_pos (fun k _ => h0 k) ⟨0, Finset.mem_univ _⟩
  have hs : ∑ l : Fin 128, Rows.lifted weights (ix2 b l) = ((∑ k, a k : ℝ) : EReal) := by
    rw [← coe_sum]
    exact Finset.sum_congr rfl fun k _ => by rw [Rows.lifted_apply, ha]
  have hc : ∀ j : Fin 128, Rows.cdf (Rows.lifted weights) (ix2 b j.succ) = ((upTo a j / ∑ k, a k : ℝ) : EReal) := fun j => by
    rw [Rows.cdf_succ, hs]
    have e : upTo a j / ∑ k, a k = upTo (fun k => a k / ∑ l, a l) j := by
      unfold upTo
      rw [Finset.sum_div]
      exact Finset.sum_congr rfl fun k _ => by split_ifs <;> simp
    rw [e, ← coe_upTo]
    refine Finset.sum_congr rfl fun k _ => ?_
    rw [Rows.lifted_apply, ha, Rows.div_coe _ _ hT.ne']
  have hn : (Finset.univ.filter fun j : Fin 129 => Rows.cdf (Rows.lifted weights) (ix2 b j) ≤ us (ix2 b i)).card = 1 + reachedBy a u := by
    unfold reachedBy
    rw [Finset.card_filter, Fin.sum_univ_succ, Rows.cdf_zero, hu, if_pos (EReal.coe_nonneg.2 u0)]
    refine congrArg (1 + ·) (Finset.sum_congr rfl fun j _ => ?_)
    refine if_congr ?_ rfl rfl
    rw [hc, EReal.coe_le_coe_iff, div_le_iff₀ hT]
  have hK := reachedBy_le a u
  rw [Rows.fine_apply, Rows.reached_apply, hn, Rows.sitofp_ofNat (by omega), Reading.ofBits_one, Reading.ofBits_zero, Rows.ofBits_128, hr,
    ← EReal.coe_sub, max_eq_left (EReal.coe_nonneg.2 (by push_cast; linarith [Nat.cast_nonneg (α := ℝ) (reachedBy a u)])),
    ← EReal.coe_add, Rows.div_coe _ _ (by norm_num)]
  refine congrArg Real.toEReal ?_
  push_cast
  ring

/-- The two ways to place a depth between the bounds. -/
theorem affine (a d z : ℝ) : ((a : ℝ) : EReal) + ((z : ℝ) : EReal) * (((d : ℝ) : EReal) - ((a : ℝ) : EReal))
    = ((a : ℝ) : EReal) * (Ideal.ofBits .f32 0x3F800000#32 - ((z : ℝ) : EReal)) + ((d : ℝ) : EReal) * ((z : ℝ) : EReal) := by
  rw [Reading.ofBits_one, ← EReal.coe_sub, ← EReal.coe_sub, ← EReal.coe_mul, ← EReal.coe_mul, ← EReal.coe_mul, ← EReal.coe_add,
    ← EReal.coe_add]
  congr 1
  ring

/-- The kernel's column of a ray is the reference's row of it. -/
theorem stored_eq (x1 : FVec Ideal Cert.KernelIdeal.S512x128 .f32) (x2 : FVec Ideal Cert.KernelIdeal.S128x512 .bf16)
    (x3 : FVec Ideal Cert.KernelIdeal.S64x512 .f32) (x4 : FVec Ideal Cert.KernelIdeal.S64x512 .bf16)
    (near span : FVec Ideal Cert.KernelIdeal.S1x512 .f32)
    (rays : FVec Ideal Cert.ReferenceIdeal.S65536x8 .f32) (weights rc : FVec Ideal Cert.ReferenceIdeal.S65536x128 .f32)
    (us rf : FVec Ideal Cert.ReferenceIdeal.S65536x64 .f32) (c : Fin 512) (b : Fin 65536)
    (e1 : ∀ k : Fin 128, x1 (ix2 c k) = weights (ix2 b k)) (e2 : ∀ k : Fin 128, x2 (ix2 k c) = rc (ix2 b k))
    (e3 : ∀ k : Fin 64, x3 (ix2 k c) = us (ix2 b k)) (e4 : ∀ k : Fin 64, x4 (ix2 k c) = rf (ix2 b k))
    (e5 : near (ix2 0 c) = rays (ix2 b 6)) (e6 : span (ix2 0 c) = rays (ix2 b 7) - rays (ix2 b 6))
    (hrays : ∃ a d : ℝ, rays (ix2 b 6) = ((a : ℝ) : EReal) ∧ rays (ix2 b 7) = ((d : ℝ) : EReal) ∧ a ≤ d)
    (hw : ∀ k : Fin 128, ∃ r : ℝ, weights (ix2 b k) = ((r : ℝ) : EReal) ∧ 0 ≤ r)
    (hrc : ∀ k : Fin 128, ∃ r : ℝ, 0 ≤ r ∧ r ≤ 1 ∧ rc (ix2 b k) = ((r : ℝ) : EReal))
    (hus : ∀ k : Fin 64, ∃ r : ℝ, 0 ≤ r ∧ r ≤ 1 ∧ us (ix2 b k) = ((r : ℝ) : EReal))
    (hrf : ∀ k : Fin 64, ∃ r : ℝ, 0 ≤ r ∧ r ≤ 1 ∧ rf (ix2 b k) = ((r : ℝ) : EReal)) (i : Fin 192) :
    Body.stored x1 x2 x3 x4 near span (ix2 i c)
      = HostReference.sorted rays weights (HostReference.linspace (constant Cert.ReferenceIdeal.S_ .f32 0x00000000#32)
          (constant Cert.ReferenceIdeal.S_ .f32 0x3F7E0000#32)) rc us rf (ix2 b i) := by
  obtain ⟨a, d, ea, ed, had⟩ := hrays
  choose w ew hw0 using hw
  choose p p0 p1 ep using hrc
  choose u u0 u1 eu using hus
  choose q q0 q1 eq using hrf
  obtain ⟨ε, hε, eε⟩ := ofBits_lift
  have hlift : ∀ k, weights (ix2 b k) + Ideal.ofBits .f32 0x3727C5AC#32 = ((w k + ε : ℝ) : EReal) := fun k => by
    rw [ew, eε, EReal.coe_add]
  have hlift0 : ∀ k, 0 < w k + ε := fun k => by linarith [hw0 k]
  rw [Rows.sorted_eq]
  generalize hz : Rows.coarse _ rc = z
  generalize hy : Rows.fine _ rf = y
  -- the depths, of the kernel and of the reference
  have kc : ∀ k : Fin 128, Cert.KernelIdeal.Gen.k0_pay64 (F := Ideal) x2 (ix2 k c) = (((((k : ℕ) : ℝ) + p k) * (1 / 128) : ℝ) : EReal) := fun k => by
    rw [Body.coarse_apply, e2, ep, ← EReal.coe_add, ← EReal.coe_mul]
  have rcz : ∀ k : Fin 128, z (ix2 b k) = (((((k : ℕ) : ℝ) + p k) * (1 / 128) : ℝ) : EReal) := fun k => by
    rw [← hz, Rows.coarse_apply, Rows.linspace_apply, ep, Rows.ofBits_128th, ← EReal.coe_mul, ← EReal.coe_add]
    refine congrArg Real.toEReal ?_
    ring
  have kf : ∀ k : Fin 64, Body.fine x1 x3 x4 (ix2 k c) = ((((reachedBy (fun k => w k + ε) (u k) : ℕ) + q k) * (1 / 128) : ℝ) : EReal) := fun k =>
    kernel_fine x1 x3 x4 c k _ (u k) (q k) (fun l => by rw [e1, hlift]) (by rw [e3, eu]) (by rw [e4, eq])
  have rfy : ∀ k : Fin 64, y (ix2 b k) = ((((reachedBy (fun k => w k + ε) (u k) : ℕ) + q k) * (1 / 128) : ℝ) : EReal) := fun k => by
    rw [← hy]
    exact reference_fine weights us rf b k _ (u k) (q k) hlift hlift0 (u0 k) (eu k) (eq k)
  clear hz hy
  have up : ∀ i j, i ≤ j → j < 128 → col (Cert.KernelIdeal.Gen.k0_pay64 (F := Ideal) x2) c i ≤ col (Cert.KernelIdeal.Gen.k0_pay64 (F := Ideal) x2) c j := by
    intro i j hij hj
    rw [col_of_lt _ _ (by omega : i < 128), col_of_lt _ _ hj, kc, kc, EReal.coe_le_coe_iff]
    rcases Nat.eq_or_lt_of_le hij with rfl | hlt
    · exact le_rfl
    · have h1 : ((i : ℕ) : ℝ) + 1 ≤ (j : ℕ) := by exact_mod_cast hlt
      have h2 := p1 ⟨i, by omega⟩
      have h3 := p0 ⟨j, hj⟩
      refine mul_le_mul_of_nonneg_right ?_ (by norm_num)
      dsimp only
      linarith
  obtain ⟨dup, dbag⟩ := Body.depths_up x1 x2 x3 x4 c up
  obtain ⟨σ, hσ, sσ, mσ⟩ := Reading.sort_row (Rows.row rays z y) b
  have hspan : (0 : EReal) ≤ span (ix2 0 c) := by
    rw [e6, ea, ed, ← EReal.coe_sub]
    exact EReal.coe_nonneg.2 (by linarith)
  let f : ℕ → EReal := fun i => near (ix2 0 c) + col (Body.depths x1 x2 x3 x4) c i * span (ix2 0 c)
  let g : ℕ → EReal := fun i => if h : i < 192 then Host.sort _ 1 (Cert.ReferenceIdeal.comparator_f32_d1 (F := Ideal)) (Rows.row rays z y) (ix2 b ⟨i, h⟩) else 0
  have hf : ∀ i j, i ≤ j → j < 192 → f i ≤ f j := fun i j hij hj =>
    add_le_add_right (mul_le_mul_of_nonneg_right (dup i j hij hj) hspan) _
  have hg : ∀ i j, i ≤ j → j < 192 → g i ≤ g j := fun i j hij hj => by
    simp only [g, dif_pos hj, dif_pos (show i < 192 by omega)]
    rw [sσ, sσ]
    exact mσ _ _ hij
  have hbag : Network.Bag 192 f g := by
    intro F
    have l := dbag (fun x => F (near (ix2 0 c) + x * span (ix2 0 c)))
    refine l.trans ?_
    have r : ∑ i ∈ Finset.range 192, F (g i) = ∑ i : Fin 192, F (Rows.row rays z y (ix2 b i)) := by
      rw [Finset.sum_range, ← hσ.sum_comp (fun i => F (Rows.row rays z y (ix2 b i)))]
      refine Finset.sum_congr rfl fun i _ => ?_
      simp only [g, dif_pos i.isLt]
      rw [sσ]
    rw [r, show (∑ i : Fin 192, F (Rows.row rays z y (ix2 b i))) = _ from Fin.sum_univ_add (a := 128) (b := 64) _, Finset.sum_range, Finset.sum_range]
    refine congrArg₂ (· + ·) (Finset.sum_congr rfl fun k _ => congrArg F ?_) (Finset.sum_congr rfl fun k _ => congrArg F ?_)
    · refine Eq.trans ?_ (Rows.row_low rays z y b (Fin.castAdd 64 k) k.isLt).symm
      change _ = rays (ix2 b 6) * (Ideal.ofBits .f32 0x3F800000#32 - z (ix2 b k)) + rays (ix2 b 7) * z (ix2 b k)
      rw [col_of_lt _ _ k.isLt, e5, e6, ea, ed, rcz, kc]
      exact affine a d _
    · have hk : ((Fin.natAdd 128 k : Fin 192) : ℕ) - 128 < 64 := by simp
      have ek : (⟨((Fin.natAdd 128 k : Fin 192) : ℕ) - 128, hk⟩ : Fin 64) = k := Fin.ext (by simp)
      refine Eq.trans ?_ (Rows.row_high rays z y b (Fin.natAdd 128 k) (by simp) hk).symm
      rw [ek, col_of_lt _ _ k.isLt, e5, e6, ea, ed, rfy, kf]
      exact affine a d _
  have h := Network.eq_of_bag hf hg hbag i i.isLt
  simp only [f, g, dif_pos i.isLt, col_of_lt _ _ i.isLt] at h
  rw [Body.stored_apply]
  exact h

end Cert.Proof.Equation
-- ==== Proof.Ordered.lean ====
/-
  What the precondition says: every ray's bounds are finite and in order, every weight is finite and not negative.
-/
module

public import proofs.«01_k».proof.Defs
public import Idealize.ShloMosaic.Lib.ReduceAll
public import Idealize.ShloMosaic.Lib.Affine
public import Idealize.ShloMosaic.Lib.IdealHost
public import Idealize.ShloMosaic.Lib.Pointwise

@[expose] public section

namespace Cert.Proof.Ordered

open Idealize.ShloMosaic Cert.Pre_ordered_rays

instance facts : Cert.Pre_ordered_rays.Facts := by constructor <;> decide

/-- The word of infinity. -/
theorem ofBits_inf : Ideal.ofBits .f32 0x7F800000#32 = ⊤ := by simp [Ideal.ofBits, Ideal.ieee]

/-- What has a finite magnitude is a real number. -/
theorem real_of_abs (x : EReal) (h : max x (-x) < ⊤) : ∃ r : ℝ, x = r := by
  induction x with
  | bot => simp at h
  | top => simp at h
  | coe r => exact ⟨r, rfl⟩

/-- A truth value that is one says its proposition. -/
theorem ofBool_one (p : Prop) [Decidable p] (h : BitVec.ofBool (decide p) = 1#1) : p := by
  by_contra hp
  simp [hp] at h

instance : Subsingleton S_.Idx := ⟨fun a b => funext fun x => x.elim0⟩

/-- The precondition, read ray by ray. -/
theorem ordered (rays : FVec Ideal S65536x8 .f32) (weights : FVec Ideal S65536x128 .f32)
    (h : fn (F := Ideal) rays weights = fun _ => 1#1) :
    (∀ b : Fin 65536, ∃ a d : ℝ, rays (Idealize.ShloMosaic.ix2 b (6 : Fin 8)) = ((a : ℝ) : EReal)
      ∧ rays (Idealize.ShloMosaic.ix2 b (7 : Fin 8)) = ((d : ℝ) : EReal) ∧ a ≤ d)
    ∧ ∀ (b : Fin 65536) (k : Fin 128), ∃ r : ℝ, weights (Idealize.ShloMosaic.ix2 b k) = ((r : ℝ) : EReal) ∧ 0 ≤ r := by
  have e := congrFun h (fun a => a.elim0)
  unfold fn fn_part1 at e
  obtain ⟨e1, e2⟩ := IntOp.andi_eq_one.1 e
  have f1 := Host.reduce_andi_all _ _ _ _ _ e1
  have f2 := Host.reduce_andi_all _ _ _ _ _ e2
  constructor
  · intro b
    have g := f1 (Idealize.ShloMosaic.ix1 b)
    obtain ⟨g, g3⟩ := IntOp.andi_eq_one.1 g
    obtain ⟨g1, g2⟩ := IntOp.andi_eq_one.1 g
    pointwise at g1 g2 g3
    have g1 := ofBool_one _ g1
    have g2 := ofBool_one _ g2
    have g3 := ofBool_one _ g3
    rw [ofBits_inf] at g1 g2
    obtain ⟨a, ea⟩ := real_of_abs _ g1
    obtain ⟨d, ed⟩ := real_of_abs _ g2
    rw [ea, ed] at g3
    exact ⟨a, d, ea, ed, EReal.coe_le_coe_iff.1 g3⟩
  · intro b k
    have g := f2 (Idealize.ShloMosaic.ix2 b k)
    obtain ⟨g1, g2⟩ := IntOp.andi_eq_one.1 g
    pointwise at g1 g2
    have g1 := ofBool_one _ g1
    have g2 := ofBool_one _ g2
    rw [ofBits_inf] at g2
    have hb : weights (Idealize.ShloMosaic.ix2 b k) ≠ ⊥ := fun h => by rw [h] at g1; simp at g1
    have e := (EReal.coe_toReal g2.ne hb).symm
    refine ⟨_, e, ?_⟩
    rw [e] at g1
    exact EReal.coe_nonneg.1 g1

end Cert.Proof.Ordered
-- ==== Proof.RunKernel.lean ====
/-
  The kernel's run over the extended reals: where the precondition holds, its result is the reference's.
-/
module

public import proofs.«01_k».proof.Proof.EntryKernel
public import proofs.«01_k».proof.Proof.BlockKernel
public import proofs.«01_k».proof.Proof.Equation
public import proofs.«01_k».proof.Proof.Ordered

@[expose] public section

namespace Cert.Proof.RunKernel

open Idealize.ShloMosaic Idealize.ShloMosaic.TcCoe Idealize.SL.Sem Cert.KernelIdeal Cert.KernelIdeal.Gen BlockKernel

/-- A ray's near bound, and its far bound less the near one. -/
theorem bounds_apply (rays : FVec Ideal S65536x8 .f32) (b : Fin 65536) :
    HostKernel.bounds rays (Idealize.ShloMosaic.ix2 (0 : Fin 8) b) = rays (Idealize.ShloMosaic.ix2 b (6 : Fin 8))
    ∧ HostKernel.bounds rays (Idealize.ShloMosaic.ix2 (1 : Fin 8) b)
      = rays (Idealize.ShloMosaic.ix2 b (7 : Fin 8)) - rays (Idealize.ShloMosaic.ix2 b (6 : Fin 8)) := by
  unfold HostKernel.bounds Line.naming
  dsimp only
  constructor
  · pointwise
  · pointwise

/-- A draw as the kernel holds it: one ray to a column, a change of format being no change here. -/
theorem turned (x : FVec Ideal S65536x128 .f32) (y : FVec Ideal S65536x64 .f32) (b : Fin 65536) :
    (∀ k : Fin 128, truncf .bf16 (transpose S128x65536 [1, 0] x transposes_S65536x128_S128x65536_1_0) (by decide) (Idealize.ShloMosaic.ix2 k b)
      = x (Idealize.ShloMosaic.ix2 b k))
    ∧ (∀ k : Fin 64, transpose S64x65536 [1, 0] y transposes_S65536x64_S64x65536_1_0 (Idealize.ShloMosaic.ix2 k b)
      = y (Idealize.ShloMosaic.ix2 b k))
    ∧ ∀ k : Fin 64, truncf .bf16 (transpose S64x65536 [1, 0] y transposes_S65536x64_S64x65536_1_0) (by decide) (Idealize.ShloMosaic.ix2 k b)
      = y (Idealize.ShloMosaic.ix2 b k) := by
  refine ⟨fun k => ?_, fun k => ?_, fun k => ?_⟩ <;> pointwise

/-- What a point stores in a ray's column is the reference's row of that ray. -/
theorem stores_eq (m : (ℓ : Loc nD τ sig) → Buf (Elt Ideal) ℓ) (c : Dev nD)
    (h : Cert.Pre_ordered_rays.fn (F := Ideal) (m ((c.tc : Thread nD τ).loc main_arg0)) (m ((c.tc : Thread nD τ).loc main_arg1)) = fun _ => 1#1)
    (t : Fin cfg0.N) (i : Fin 192) (j : Fin 512) :
    stores m c t (Idealize.ShloMosaic.ix2 i j)
      = RunReference.result (F := Ideal) (m ((c.tc : Thread nD τ).loc main_arg0)) (m ((c.tc : Thread nD τ).loc main_arg1)) (Idealize.ShloMosaic.ix2 (ray t j) i) := by
  obtain ⟨hrays, hw⟩ := Ordered.ordered _ _ h
  have E := EntryKernel.entry m c
  obtain ⟨-, b1, b2, b3, b4⟩ := blocks m c t j
  obtain ⟨n0, n1⟩ := bounds_rows m c t j
  obtain ⟨d0, d1⟩ := bounds_apply (m ((c.tc : Thread nD τ).loc main_arg0)) (ray t j)
  unfold stores RunReference.result
  refine Equation.stored_eq _ _ _ _ _ _ _ _ _ _ _ j (ray t j) (fun k => ?_) (fun k => ?_) (fun k => ?_) (fun k => ?_) ?_ ?_
    (hrays _) (hw _) (fun k => Reading.uniform_range ..) (fun k => Reading.uniform_range ..) (fun k => Reading.uniform_range ..) i
  · exact (b1 k).trans (congrFun E.weights _)
  · exact (b2 k).trans ((congrFun E.coarse _).trans ((turned _ (fun _ => 0) (ray t j)).1 k))
  · exact (b3 k).trans ((congrFun E.draws _).trans ((turned (fun _ => 0) _ (ray t j)).2.1 k))
  · exact (b4 k).trans ((congrFun E.fine _).trans ((turned (fun _ => 0) _ (ray t j)).2.2 k))
  · exact n0.trans ((congrFun E.bounds _).trans d0)
  · exact n1.trans ((congrFun E.bounds _).trans d1)

/-- The kernel runs, its result is the reference's function of the arguments, and the arguments are unchanged. -/
theorem run (m : (ℓ : Loc nD τ sig) → Buf (Elt Ideal) ℓ) (ρ : Dev nD → PrngReg)
    (h : ∀ c : Dev nD, Cert.Pre_ordered_rays.fn (F := Ideal) (m ((c.tc : Thread nD τ).loc main_arg0)) (m ((c.tc : Thread nD τ).loc main_arg1))
      = fun _ => 1#1) :
    θ_run (defs (F := Ideal)) (onTc (τ := τ) (main (F := Ideal))) ⟨m, fun _ => 0, ρ⟩ fun r => ∀ c : Dev nD,
      r.2.mem ((c.tc : Thread nD τ).loc main_v32)
        = RunReference.result (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r p c => ⟨?_, ?_, ?_⟩) (run_main m ρ)
  · refine ((p c).2 main_v32 (Pipeline.mem_restRefs_of main_v32 (by decide) (by decide))).trans ((result_eq m c).trans ?_)
    rw [array_eq m c (fun y => RunReference.result (F := Ideal) (m ((c.tc : Thread nD τ).loc main_arg0)) (m ((c.tc : Thread nD τ).loc main_arg1))
      (Idealize.ShloMosaic.ix2 (y 1) (y 0))) (fun t i j => stores_eq m c (h c) t i j)]
    funext y
    obtain ⟨i, j, rfl⟩ : ∃ (i : Fin 65536) (j : Fin 192), y = Idealize.ShloMosaic.ix2 i j :=
      ⟨y 0, y 1, funext fun a => by match a with | ⟨0, _⟩ => rfl | ⟨1, _⟩ => rfl⟩
    generalize RunReference.result (F := Ideal) _ _ = R
    pointwise
  · exact ((p c).2 main_arg0 (Pipeline.mem_restRefs_of main_arg0 (by decide) (by decide))).trans (W_main_arg0 m (dats m) c)
  · exact ((p c).1 1).trans (((dats m 0 c).arrAt_in 1 rfl _).trans ((A_eq m c 1).trans (V_main_arg1 m c)))

end Cert.Proof.RunKernel
-- ==== Proof.lean ====
/-
  The proof of `Cert.Claim`: the kernel's run and its idealization's, the reference's run, and the two results' equality.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.RunReference
public import proofs.«01_k».proof.Proof.RunKernel
public import Idealize.ShloMosaic.Adequacy
public import Idealize.ShloMosaic.Init

@[expose] public section

noncomputable section

namespace Cert.Proof

open Idealize.ShloMosaic Idealize.SL.Sem

/-- The reference runs, leaves its arguments alone and ends at rest. -/
theorem reference_quiescent (m g) : θ_run (Cert.ReferenceIdeal.defs (F := Ideal)) (onTc (τ := Cert.ReferenceIdeal.τ) (Cert.ReferenceIdeal.main (F := Ideal)))
    ⟨m, fun _ => 0, g⟩ (fun r => (∀ c : Dev Cert.ReferenceIdeal.nD,
      r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
      ∧ r.2.sem = fun _ => 0) :=
  (θ_run _ _ _).mono (fun _ h => ⟨fun c => (h.1 c).2, h.2⟩) (RunReference.run m g)

/-- Where the precondition holds, the kernel's result is the reference's over the extended reals. -/
theorem algebraic : Cert.algebraic_KernelIdeal_ReferenceIdeal_pre_ordered_rays (hKernelIdeal := Cert.KernelIdeal.Gen.facts)
    (hReferenceIdeal := RunReference.facts) (hPre_ordered_rays := Ordered.facts) := by
  intro m g m' g' h e
  refine ⟨fun c => RunReference.result (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), RunKernel.run m g h, ?_⟩
  refine (θ_run _ _ _).mono (fun r p c => ⟨(p.1 c).1.trans ?_, (p.1 c).2⟩) (RunReference.run m' g')
  rw [(e c).1, (e c).2]

/-- Everything that is claimed. -/
theorem claim : Cert.Claim :=
  ⟨Cert.Kernel.Gen.facts, Cert.KernelIdeal.Gen.facts, RunReference.facts, Ordered.facts,
    fun m g _ => Cert.Kernel.Gen.frame m g,
    fun m g _ => Cert.KernelIdeal.Gen.frame m g,
    fun m g _ => Cert.KernelIdeal.Gen.frame m g,
    fun m g _ => reference_quiescent m g,
    fun m g _ => reference_quiescent m g,
    trivial,
    algebraic⟩

end Cert.Proof

end
